-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_mod [hPre_finite_mod : Cert.Pre_finite_mod.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_mod.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_mod [hPre_finite_mod : Cert.Pre_finite_mod.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_mod.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_mod [hKernel3Ideal : Cert.Kernel3Ideal.Facts] [hPre_finite_mod : Cert.Pre_finite_mod.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_mod m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_mod [hReference3Ideal : Cert.Reference3Ideal.Facts] [hPre_finite_mod : Cert.Pre_finite_mod.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_mod m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v32_1)) (v1 : (c : Dev Cert.KernelIdeal.nD) → Buf (Elt Ideal) ((c.tc : Thread Cert.KernelIdeal.nD Cert.KernelIdeal.τ).loc Cert.KernelIdeal.main_v32_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_1) = v0 c
          ∧ r.2.mem ((c.tc : Thread Cert.KernelIdeal.nD Cert.KernelIdeal.τ).loc Cert.KernelIdeal.main_v32_3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v354) = v0 c
          ∧ r.2.mem ((c.tc : Thread Cert.ReferenceIdeal.nD Cert.ReferenceIdeal.τ).loc Cert.ReferenceIdeal.main_v332) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite_mod [hKernel3Ideal : Cert.Kernel3Ideal.Facts] [hReference3Ideal : Cert.Reference3Ideal.Facts] [hPre_finite_mod : Cert.Pre_finite_mod.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_mod m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite_mod : Cert.Pre_finite_mod.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_mod (hKernel3Ideal := hKernel3Ideal) (hPre_finite_mod := hPre_finite_mod)
    ∧ quiescent_Reference3Ideal (hReference3Ideal := hReference3Ideal)
    ∧ quiescent_Reference3Ideal_pre_finite_mod (hReference3Ideal := hReference3Ideal) (hPre_finite_mod := hPre_finite_mod)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_mod (hKernel3Ideal := hKernel3Ideal) (hReference3Ideal := hReference3Ideal) (hPre_finite_mod := hPre_finite_mod)
    ∧ preserves_Kernel4_Kernel4Ideal
    ∧ algebraic_Kernel4Ideal_Reference4Ideal (hKernel4Ideal := hKernel4Ideal) (hReference4Ideal := hReference4Ideal)
-- ==== Pre_finite.lean ====
abbrev S512x3840 : Shape := ⟨2, ![512, 3840]⟩
abbrev S1x128x1792 : Shape := ⟨3, ![1, 128, 1792]⟩
abbrev S1x128x8x64x64 : Shape := ⟨5, ![1, 128, 8, 64, 64]⟩
abbrev S1x128x4x128x128 : Shape := ⟨5, ![1, 128, 4, 128, 128]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S2x512 : Shape := ⟨2, ![2, 512]⟩
abbrev S1x128 : Shape := ⟨2, ![1, 128]⟩
abbrev S_ : Shape := ⟨0, ![]⟩

class Facts : Prop where
  bcast_S_S512x3840 : S_.BroadcastsInDim S512x3840 (![] : Fin 0 → Fin S512x3840.rank)
  reducesTo_S512x3840_S_d0_1 : S512x3840.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S512x3840 .f32) (main_arg1 : FVec F S1x128x1792 .f32) (main_arg2 : FVec F S1x128x8x64x64 .f32) (main_arg3 : FVec F S1x128x4x128x128 .f32) (main_arg4 : FVec F S1x1792 .f32) (main_arg5 : FVec F S1x512 .f32) (main_arg6 : FVec F S1x64x512 .f32) (main_arg7 : FVec F S1x512 .f32) (main_arg8 : FVec F S1x64x512 .f32) (main_arg9 : FVec F S1x128x512 .f32) (main_arg10 : FVec F S1x512 .f32) (main_arg11 : FVec F S1x512 .f32) (main_arg12 : FVec F S1x8x64 .f32) (main_arg13 : FVec F S1x512 .f32) (main_arg14 : FVec F S1x512 .f32) (main_arg15 : FVec F S2x512 .f32) (main_arg16 : FVec F S1x128 .f32) : IVec S_ 1 :=
  let main_v0 : FVec F S512x3840 .f32 := Host.absf main_arg0
  let main_cst : FVec F S_ .f32 := constant S_ .f32 0x7F800000#32
  let main_v1 : FVec F S512x3840 .f32 := broadcastInDim S512x3840 ![] bcast_S_S512x3840 main_cst
  let main_v2 : IVec S512x3840 1 := cmpf .olt main_v0 main_v1
  let main_c : IVec S_ 1 := constantI S_ 1 1#1
  let main_v3 : IVec S_ 1 := (fun x v => Host.reduce IntOp.andi x v reducesTo_S512x3840_S_d0_1 h_S_) main_v2 main_c
  let main_v4 : FVec F S2x512 .f32 := Host.absf main_arg15
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  main_v8
-- ==== Pre_finite_mod.lean ====
abbrev S128x4x1024 : Shape := ⟨3, ![128, 4, 1024]⟩
abbrev S128x6144 : Shape := ⟨2, ![128, 6144]⟩
abbrev S1x1024 : Shape := ⟨2, ![1, 1024]⟩
abbrev S1x1024x3840 : Shape := ⟨3, ![1, 1024, 3840]⟩
abbrev S_ : Shape := ⟨0, ![]⟩

class Facts : Prop where
  bcast_S_S128x6144 : S_.BroadcastsInDim S128x6144 (![] : Fin 0 → Fin S128x6144.rank)
  reducesTo_S128x6144_S_d0_1 : S128x6144.ReducesTo [0, 1] S_
  h_S_ : 0 < S_.numel

variable [Facts]

def fn {F : FTy → Type} [FloatOps F] (main_arg0 : FVec F S128x4x1024 .f32) (main_arg1 : FVec F S128x6144 .f32) (main_arg2 : FVec F S1x1024 .f32) (main_arg3 : FVec F S1x1024x3840 .f32) : IVec S_ 1 :=
  let main_v0 : FVec F S128x6144 .f32 := Host.absf main_arg1
  let main_cst : FVec F S_ .f32 := constant S_ .f32 0x7F800000#32
  let main_v1 : FVec F S128x6144 .f32 := broadcastInDim S128x6144 ![] bcast_S_S128x6144 main_cst
  let main_v2 : IVec S128x6144 1 := cmpf .olt main_v0 main_v1
  let main_c : IVec S_ 1 := constantI S_ 1 1#1
  let main_v3 : IVec S_ 1 := (fun x v => Host.reduce IntOp.andi x v reducesTo_S128x6144_S_d0_1 h_S_) main_v2 main_c
  main_v3
-- ==== Kernel.lean ====
abbrev S512x3840 : Shape := ⟨2, ![512, 3840]⟩
abbrev S1x128x1792 : Shape := ⟨3, ![1, 128, 1792]⟩
abbrev S1x128x8x64x64 : Shape := ⟨5, ![1, 128, 8, 64, 64]⟩
abbrev S1x128x4x128x128 : Shape := ⟨5, ![1, 128, 4, 128, 128]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S2x512 : Shape := ⟨2, ![2, 512]⟩
abbrev S1x128 : Shape := ⟨2, ![1, 128]⟩
abbrev S_ : Shape := ⟨0, ![]⟩
abbrev S64x512 : Shape := ⟨2, ![64, 512]⟩
abbrev S64x1024 : Shape := ⟨2, ![64, 1024]⟩
abbrev S128x1024 : Shape := ⟨2, ![128, 1024]⟩
abbrev S128x512 : Shape := ⟨2, ![128, 512]⟩
abbrev S1792 : Shape := ⟨1, ![1792]⟩
abbrev S512 : Shape := ⟨1, ![512]⟩
abbrev S8x64 : Shape := ⟨2, ![8, 64]⟩
abbrev S128 : Shape := ⟨1, ![128]⟩
abbrev S128x1792 : Shape := ⟨2, ![128, 1792]⟩
abbrev S8x16x1792 : Shape := ⟨3, ![8, 16, 1792]⟩
abbrev S128x8x64x64 : Shape := ⟨4, ![128, 8, 64, 64]⟩
abbrev S128x4x128x128 : Shape := ⟨4, ![128, 4, 128, 128]⟩
abbrev S8x64x3840 : Shape := ⟨3, ![8, 64, 3840]⟩
abbrev S8x64x1024 : Shape := ⟨3, ![8, 64, 1024]⟩
abbrev S1x64x3840 : Shape := ⟨3, ![1, 64, 3840]⟩
abbrev S1x16x1792 : Shape := ⟨3, ![1, 16, 1792]⟩
abbrev S16x8x64x64 : Shape := ⟨4, ![16, 8, 64, 64]⟩
abbrev S16x4x128x128 : Shape := ⟨4, ![16, 4, 128, 128]⟩
abbrev S1x64x1024 : Shape := ⟨3, ![1, 64, 1024]⟩
abbrev S1x4x2048x128 : Shape := ⟨4, ![1, 4, 2048, 128]⟩
abbrev S64x64 : Shape := ⟨2, ![64, 64]⟩
abbrev S128x128 : Shape := ⟨2, ![128, 128]⟩
abbrev S64x128 : Shape := ⟨2, ![64, 128]⟩
abbrev S1x1x64x64 : Shape := ⟨4, ![1, 1, 64, 64]⟩
abbrev S1x1x128x128 : Shape := ⟨4, ![1, 1, 128, 128]⟩
abbrev S64x1792 : Shape := ⟨2, ![64, 1792]⟩
abbrev S1x64x1792 : Shape := ⟨3, ![1, 64, 1792]⟩
abbrev S16x1792 : Shape := ⟨2, ![16, 1792]⟩
abbrev S64x16 : Shape := ⟨2, ![64, 16]⟩
abbrev S16x64 : Shape := ⟨2, ![16, 64]⟩
abbrev S128x64 : Shape := ⟨2, ![128, 64]⟩
abbrev S512x128 : Shape := ⟨2, ![512, 128]⟩
abbrev S1x1x2048x128 : Shape := ⟨4, ![1, 1, 2048, 128]⟩
abbrev S2048x128 : Shape := ⟨2, ![2048, 128]⟩
abbrev S256x128 : Shape := ⟨2, ![256, 128]⟩
abbrev S128x2048 : Shape := ⟨2, ![128, 2048]⟩
abbrev S64x2048 : Shape := ⟨2, ![64, 2048]⟩
abbrev S64 : Shape := ⟨1, ![64]⟩
abbrev S64x1 : Shape := ⟨2, ![64, 1]⟩
abbrev S1x64x128 : Shape := ⟨3, ![1, 64, 128]⟩

abbrev nBuf : Space → Nat
  | .hbm => 54
  | .vmem => 30
  | .smem => 0
  | _ => 0

abbrev bufTy : (tb : Table) → Fin (tcTables nBuf tb) → BufTy
  | .hbm, ⟨0, _⟩ => ⟨S512x3840, .f32⟩
  | .hbm, ⟨1, _⟩ => ⟨S1x128x1792, .f32⟩
  | .hbm, ⟨2, _⟩ => ⟨S1x128x8x64x64, .f32⟩
  | .hbm, ⟨3, _⟩ => ⟨S1x128x4x128x128, .f32⟩
  | .hbm, ⟨4, _⟩ => ⟨S1x1792, .f32⟩
  | .hbm, ⟨5, _⟩ => ⟨S1x512, .f32⟩
  | .hbm, ⟨6, _⟩ => ⟨S1x64x512, .f32⟩
  | .hbm, ⟨7, _⟩ => ⟨S1x512, .f32⟩
  | .hbm, ⟨8, _⟩ => ⟨S1x64x512, .f32⟩
  | .hbm, ⟨9, _⟩ => ⟨S1x128x512, .f32⟩
  | .hbm, ⟨10, _⟩ => ⟨S1x512, .f32⟩
  | .hbm, ⟨11, _⟩ => ⟨S1x512, .f32⟩
  | .hbm, ⟨12, _⟩ => ⟨S1x8x64, .f32⟩
  | .hbm, ⟨13, _⟩ => ⟨S1x512, .f32⟩
  | .hbm, ⟨14, _⟩ => ⟨S1x512, .f32⟩
  | .hbm, ⟨15, _⟩ => ⟨S2x512, .f32⟩
  | .hbm, ⟨16, _⟩ => ⟨S1x128, .f32⟩
  | .hbm, ⟨17, _⟩ => ⟨S_, .f32⟩
  | .hbm, ⟨18, _⟩ => ⟨S64x512, .f32⟩
  | .hbm, ⟨19, _⟩ => ⟨S64x512, .f32⟩
  | .hbm, ⟨20, _⟩ => ⟨S64x1024, .f32⟩
  | .hbm, ⟨21, _⟩ => ⟨S64x512, .f32⟩
  | .hbm, ⟨22, _⟩ => ⟨S64x1024, .f32⟩
  | .hbm, ⟨23, _⟩ => ⟨S128x1024, .f32⟩
  | .hbm, ⟨24, _⟩ => ⟨S128x1024, .bf16⟩
  | .hbm, ⟨25, _⟩ => ⟨S128x512, .f32⟩
  | .hbm, ⟨26, _⟩ => ⟨S128x512, .bf16⟩
  | .hbm, ⟨27, _⟩ => ⟨S1792, .f32⟩
  | .hbm, ⟨28, _⟩ => ⟨S1x1792, .f32⟩
  | .hbm, ⟨29, _⟩ => ⟨S512, .f32⟩
  | .hbm, ⟨30, _⟩ => ⟨S1x512, .f32⟩
  | .hbm, ⟨31, _⟩ => ⟨S512, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S512, .f32⟩
  | .hbm, ⟨36, _⟩ => ⟨S1x512, .f32⟩
  | .hbm, ⟨37, _⟩ => ⟨S8x64, .f32⟩
  | .hbm, ⟨38, _⟩ => ⟨S1x512, .f32⟩
  | .hbm, ⟨39, _⟩ => ⟨S512, .f32⟩
  | .hbm, ⟨40, _⟩ => ⟨S1x512, .f32⟩
  | .hbm, ⟨41, _⟩ => ⟨S512, .f32⟩
  | .hbm, ⟨42, _⟩ => ⟨S1x512, .f32⟩
  | .hbm, ⟨43, _⟩ => ⟨S128, .f32⟩
  | .hbm, ⟨44, _⟩ => ⟨S1x128, .f32⟩
  | .hbm, ⟨45, _⟩ => ⟨S128x1792, .f32⟩
  | .hbm, ⟨46, _⟩ => ⟨S8x16x1792, .f32⟩
  | .hbm, ⟨47, _⟩ => ⟨S128x8x64x64, .f32⟩
  | .hbm, ⟨48, _⟩ => ⟨S128x4x128x128, .f32⟩
  | .hbm, ⟨49, _⟩ => ⟨S8x64x3840, .f32⟩
  | .hbm, ⟨50, _⟩ => ⟨S8x64x1024, .bf16⟩
  | .hbm, ⟨51, _⟩ => ⟨S8x16x1792, .f32⟩
  | .hbm, ⟨52, _⟩ => ⟨S128x8x64x64, .f32⟩
  | .hbm, ⟨53, _⟩ => ⟨S128x4x128x128, .f32⟩
  | .local _ .vmem, ⟨0, _⟩ => ⟨S1x64x3840, .f32⟩
  | .local _ .vmem, ⟨1, _⟩ => ⟨S1x64x3840, .f32⟩
  | .local _ .vmem, ⟨2, _⟩ => ⟨S1x16x1792, .f32⟩
  | .local _ .vmem, ⟨3, _⟩ => ⟨S1x16x1792, .f32⟩
  | .local _ .vmem, ⟨4, _⟩ => ⟨S16x8x64x64, .f32⟩
  | .local _ .vmem, ⟨5, _⟩ => ⟨S16x8x64x64, .f32⟩
  | .local _ .vmem, ⟨6, _⟩ => ⟨S16x4x128x128, .f32⟩
  | .local _ .vmem, ⟨7, _⟩ => ⟨S16x4x128x128, .f32⟩
  | .local _ .vmem, ⟨8, _⟩ => ⟨S1x1792, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S2x512, .f32⟩
  | .local _ .vmem, ⟨17, _⟩ => ⟨S1x128, .f32⟩
  | .local _ .vmem, ⟨18, _⟩ => ⟨S128x1024, .bf16⟩
  | .local _ .vmem, ⟨19, _⟩ => ⟨S128x512, .bf16⟩
  | .local _ .vmem, ⟨20, _⟩ => ⟨S1x64x1024, .bf16⟩
  | .local _ .vmem, ⟨21, _⟩ => ⟨S1x64x1024, .bf16⟩
  | .local _ .vmem, ⟨22, _⟩ => ⟨S1x16x1792, .f32⟩
  | .local _ .vmem, ⟨23, _⟩ => ⟨S1x16x1792, .f32⟩
  | .local _ .vmem, ⟨24, _⟩ => ⟨S16x8x64x64, .f32⟩
  | .local _ .vmem, ⟨25, _⟩ => ⟨S16x8x64x64, .f32⟩
  | .local _ .vmem, ⟨26, _⟩ => ⟨S16x4x128x128, .f32⟩
  | .local _ .vmem, ⟨27, _⟩ => ⟨S16x4x128x128, .f32⟩
  | .local _ .vmem, ⟨28, _⟩ => ⟨S1x4x2048x128, .f32⟩
  | .local _ .vmem, ⟨29, _⟩ => ⟨S1x4x2048x128, .f32⟩
  | _, _ => ⟨S512x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32_0 : Ref sig .tc := ⟨.hbm, 50, rfl⟩
abbrev main_v32_1 : Ref sig .tc := ⟨.hbm, 51, rfl⟩
abbrev main_v32_2 : Ref sig .tc := ⟨.hbm, 52, rfl⟩
abbrev main_v32_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_1381 : BitVec 32 := 0#32
  let v3666 : BitVec 1 := Scalar.cmpi .eq arg1 c0_i32_1381
  let v3667 : BitVec 32 := Scalar.extui v3666
  let c0_i32_1382 : BitVec 32 := 0#32
  let v3668 : BitVec 1 := Scalar.cmpi .ne v3667 c0_i32_1382
  v3668

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x3840 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x8x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x64x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x16x1792 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S16x8x64x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S16x4x128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== ReferenceIdeal.lean ====
abbrev S512x3840 : Shape := ⟨2, ![512, 3840]⟩
abbrev S1x128x1792 : Shape := ⟨3, ![1, 128, 1792]⟩
abbrev S1x128x8x64x64 : Shape := ⟨5, ![1, 128, 8, 64, 64]⟩
abbrev S1x128x4x128x128 : Shape := ⟨5, ![1, 128, 4, 128, 128]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S2x512 : Shape := ⟨2, ![2, 512]⟩
abbrev S1x128 : Shape := ⟨2, ![1, 128]⟩
abbrev S128x4x3840 : Shape := ⟨3, ![128, 4, 3840]⟩
abbrev S128x4x1792 : Shape := ⟨3, ![128, 4, 1792]⟩
abbrev S128x4x2048 : Shape := ⟨3, ![128, 4, 2048]⟩
abbrev S128x1792 : Shape := ⟨2, ![128, 1792]⟩
abbrev S128x1x1792 : Shape := ⟨3, ![128, 1, 1792]⟩
abbrev S128x3x1792 : Shape := ⟨3, ![128, 3, 1792]⟩
abbrev S1792 : Shape := ⟨1, ![1792]⟩
abbrev S1x1x1792 : Shape := ⟨3, ![1, 1, 1792]⟩
abbrev S128x4x512 : Shape := ⟨3, ![128, 4, 512]⟩
abbrev S128x4x64 : Shape := ⟨3, ![128, 4, 64]⟩
abbrev S128x4x128 : Shape := ⟨3, ![128, 4, 128]⟩
abbrev S512 : Shape := ⟨1, ![512]⟩
abbrev S64x512 : Shape := ⟨2, ![64, 512]⟩
abbrev S1x1x512 : Shape := ⟨3, ![1, 1, 512]⟩
abbrev S_ : Shape := ⟨0, ![]⟩
abbrev S128x512 : Shape := ⟨2, ![128, 512]⟩
abbrev S128x4x8x64 : Shape := ⟨4, ![128, 4, 8, 64]⟩
abbrev S128x4x8 : Shape := ⟨3, ![128, 4, 8]⟩
abbrev S128x4x8x1 : Shape := ⟨4, ![128, 4, 8, 1]⟩
abbrev S128x8x64x64 : Shape := ⟨4, ![128, 8, 64, 64]⟩
abbrev S128x1x8x64 : Shape := ⟨4, ![128, 1, 8, 64]⟩
abbrev S128x8x64 : Shape := ⟨3, ![128, 8, 64]⟩
abbrev S128x8x1x64 : Shape := ⟨4, ![128, 8, 1, 64]⟩
abbrev S128x8x64x1 : Shape := ⟨4, ![128, 8, 64, 1]⟩
abbrev S8x64 : Shape := ⟨2, ![8, 64]⟩
abbrev S1x1x8x64 : Shape := ⟨4, ![1, 1, 8, 64]⟩
abbrev S128x4x4x128 : Shape := ⟨4, ![128, 4, 4, 128]⟩
abbrev S4x4 : Shape := ⟨2, ![4, 4]⟩
abbrev S128x4x128x128 : Shape := ⟨4, ![128, 4, 128, 128]⟩
abbrev S128x4x4x1x128 : Shape := ⟨5, ![128, 4, 4, 1, 128]⟩
abbrev S128x4x1x4x128 : Shape := ⟨5, ![128, 4, 1, 4, 128]⟩
abbrev S128x4x4x4x128 : Shape := ⟨5, ![128, 4, 4, 4, 128]⟩
abbrev S4x4x1 : Shape := ⟨3, ![4, 4, 1]⟩
abbrev S128x4x4x4 : Shape := ⟨4, ![128, 4, 4, 4]⟩
abbrev S128x4x1x128 : Shape := ⟨4, ![128, 4, 1, 128]⟩
abbrev S128x4x128x1 : Shape := ⟨4, ![128, 4, 128, 1]⟩
abbrev S128x4x4 : Shape := ⟨3, ![128, 4, 4]⟩
abbrev S128x4x4x1 : Shape := ⟨4, ![128, 4, 4, 1]⟩
abbrev S128 : Shape := ⟨1, ![128]⟩
abbrev S1x1x1x128 : Shape := ⟨4, ![1, 1, 1, 128]⟩
abbrev S128x4x1024 : Shape := ⟨3, ![128, 4, 1024]⟩
abbrev S8x16x1792 : Shape := ⟨3, ![8, 16, 1792]⟩

abbrev nBuf : Space → Nat
  | .hbm => 445
  | .vmem => 0
  | .smem => 0
  | _ => 0

abbrev hbmTy0_0 (i : Nat) : BufTy := match i % 128 with
  | 0 => ⟨S512x3840, .f32⟩
  | 1 => ⟨S1x128x1792, .f32⟩
  | 2 => ⟨S1x128x8x64x64, .f32⟩
  | 3 => ⟨S1x128x4x128x128, .f32⟩
  | 4 => ⟨S1x1792, .f32⟩
  | 5 => ⟨S1x512, .f32⟩
  | 6 => ⟨S1x64x512, .f32⟩
  | 7 => ⟨S1x512, .f32⟩
  | 8 => ⟨S1x64x512, .f32⟩
  | 9 => ⟨S1x128x512, .f32⟩
  | 10 => ⟨S1x512, .f32⟩
  | 11 => ⟨S1x512, .f32⟩
  | 12 => ⟨S1x8x64, .f32⟩
  | 13 => ⟨S1x512, .f32⟩
  | 14 => ⟨S1x512, .f32⟩
  | 15 => ⟨S2x512, .f32⟩
  | 16 => ⟨S1x128, .f32⟩
  | 17 => ⟨S128x4x3840, .f32⟩
  | 18 => ⟨S128x4x1792, .f32⟩
  | 19 => ⟨S128x4x2048, .f32⟩
  | 20 => ⟨S128x1792, .f32⟩
  | 21 => ⟨S128x1x1792, .f32⟩
  | 22 => ⟨S128x3x1792, .f32⟩
  | 23 => ⟨S128x4x1792, .f32⟩
  | 24 => ⟨S128x4x1792, .f32⟩
  | 25 => ⟨S1792, .f32⟩
  | 26 => ⟨S1x1x1792, .f32⟩
  | 27 => ⟨S128x4x1792, .f32⟩
  | 28 => ⟨S128x4x1792, .f32⟩
  | 29 => ⟨S128x4x1792, .f32⟩
  | 30 => ⟨S128x1x1792, .f32⟩
  | 31 => ⟨S128x1792, .f32⟩
  | 32 => ⟨S128x4x512, .f32⟩
  | 33 => ⟨S128x4x512, .f32⟩
  | 34 => ⟨S128x4x512, .f32⟩
  | 35 => ⟨S128x4x64, .f32⟩
  | 36 => ⟨S128x4x64, .f32⟩
  | 37 => ⟨S128x4x128, .f32⟩
  | 38 => ⟨S512, .f32⟩
  | 39 => ⟨S128x4x64, .f32⟩
  | 40 => ⟨S64x512, .f32⟩
  | 41 => ⟨S128x4x512, .f32⟩
  | 42 => ⟨S1x1x512, .f32⟩
  | 43 => ⟨S128x4x512, .f32⟩
  | 44 => ⟨S128x4x512, .f32⟩
  | 45 => ⟨S128x4x512, .f32⟩
  | 46 => ⟨S_, .f32⟩
  | 47 => ⟨S128x4x512, .f32⟩
  | 48 => ⟨S128x4x512, .f32⟩
  | 49 => ⟨S128x4x512, .f32⟩
  | 50 => ⟨S128x4x512, .f32⟩
  | 51 => ⟨S128x4x512, .i1⟩
  | 52 => ⟨S128x4x512, .f32⟩
  | 53 => ⟨S128x4x512, .f32⟩
  | 54 => ⟨S128x4x512, .f32⟩
  | 55 => ⟨S128x4x512, .f32⟩
  | 56 => ⟨S128x4x512, .f32⟩
  | 57 => ⟨S128x4x512, .f32⟩
  | 58 => ⟨S128x4x512, .f32⟩
  | 59 => ⟨S128x4x512, .f32⟩
  | 60 => ⟨S128x4x512, .f32⟩
  | 61 => ⟨S_, .f32⟩
  | 62 => ⟨S128x4x512, .f32⟩
  | 63 => ⟨S128x4x512, .f32⟩
  | 64 => ⟨S128x4x512, .f32⟩
  | 65 => ⟨S128x4x512, .f32⟩
  | 66 => ⟨S128x4x512, .f32⟩
  | 67 => ⟨S512, .f32⟩
  | 68 => ⟨S64x512, .f32⟩
  | 69 => ⟨S128x4x512, .f32⟩
  | 70 => ⟨S1x1x512, .f32⟩
  | 71 => ⟨S128x4x512, .f32⟩
  | 72 => ⟨S128x4x512, .f32⟩
  | 73 => ⟨S128x4x512, .f32⟩
  | 74 => ⟨S128x4x512, .f32⟩
  | 75 => ⟨S_, .f32⟩
  | 76 => ⟨S128x4x512, .f32⟩
  | 77 => ⟨S128x4x512, .f32⟩
  | 78 => ⟨S_, .f32⟩
  | 79 => ⟨S128x4x512, .f32⟩
  | 80 => ⟨S128x4x512, .f32⟩
  | 81 => ⟨S128x4x128, .f32⟩
  | 82 => ⟨S128x4x128, .f32⟩
  | 83 => ⟨S_, .f32⟩
  | 84 => ⟨S128x4x128, .f32⟩
  | 85 => ⟨S128x4x128, .f32⟩
  | 86 => ⟨S_, .f32⟩
  | 87 => ⟨S128x4x128, .f32⟩
  | 88 => ⟨S128x4x128, .f32⟩
  | 89 => ⟨S128x512, .f32⟩
  | 90 => ⟨S128x4x512, .f32⟩
  | 91 => ⟨S512, .f32⟩
  | 92 => ⟨S1x1x512, .f32⟩
  | 93 => ⟨S128x4x512, .f32⟩
  | 94 => ⟨S128x4x512, .f32⟩
  | 95 => ⟨S128x4x8x64, .f32⟩
  | 96 => ⟨S128x4x8x64, .f32⟩
  | 97 => ⟨S_, .f32⟩
  | 98 => ⟨S128x4x8, .f32⟩
  | 99 => ⟨S128x4x8x1, .f32⟩
  | 100 => ⟨S128x4x8x1, .f32⟩
  | 101 => ⟨S_, .f32⟩
  | 102 => ⟨S128x4x8x1, .f32⟩
  | 103 => ⟨S128x4x8x1, .f32⟩
  | 104 => ⟨S128x4x8x64, .f32⟩
  | 105 => ⟨S128x4x8x64, .f32⟩
  | 106 => ⟨S_, .f32⟩
  | 107 => ⟨S128x4x512, .f32⟩
  | 108 => ⟨S128x4x512, .f32⟩
  | 109 => ⟨S512, .f32⟩
  | 110 => ⟨S1x1x512, .f32⟩
  | 111 => ⟨S128x4x512, .f32⟩
  | 112 => ⟨S128x4x512, .f32⟩
  | 113 => ⟨S_, .f32⟩
  | 114 => ⟨S128x4x512, .f32⟩
  | 115 => ⟨S128x4x512, .f32⟩
  | 116 => ⟨S128x4x512, .f32⟩
  | 117 => ⟨S128x4x8x64, .f32⟩
  | 118 => ⟨S128x4x8x64, .f32⟩
  | 119 => ⟨S128x4x8x64, .f32⟩
  | 120 => ⟨S128x4x8x64, .f32⟩
  | 121 => ⟨S128x4x8x64, .f32⟩
  | 122 => ⟨S128x8x64x64, .f32⟩
  | 123 => ⟨S128x1x8x64, .f32⟩
  | 124 => ⟨S128x8x64, .f32⟩
  | 125 => ⟨S128x8x64, .f32⟩
  | 126 => ⟨S128x8x64, .f32⟩
  | 127 => ⟨S128x1x8x64, .f32⟩
  | _ => ⟨S512x3840, .f32⟩

abbrev hbmTy0_1 (i : Nat) : BufTy := match i % 128 with
  | 0 => ⟨S128x8x64, .f32⟩
  | 1 => ⟨S128x8x1x64, .f32⟩
  | 2 => ⟨S128x8x64x64, .f32⟩
  | 3 => ⟨S128x8x64x64, .f32⟩
  | 4 => ⟨S128x8x64x1, .f32⟩
  | 5 => ⟨S128x1x8x64, .f32⟩
  | 6 => ⟨S128x8x64, .f32⟩
  | 7 => ⟨S128x8x64, .f32⟩
  | 8 => ⟨S128x8x1x64, .f32⟩
  | 9 => ⟨S128x8x64x64, .f32⟩
  | 10 => ⟨S128x8x64x64, .f32⟩
  | 11 => ⟨S128x8x64x64, .f32⟩
  | 12 => ⟨S128x8x64x64, .f32⟩
  | 13 => ⟨S128x1x8x64, .f32⟩
  | 14 => ⟨S128x8x64, .f32⟩
  | 15 => ⟨S128x8x64x1, .f32⟩
  | 16 => ⟨S128x1x8x64, .f32⟩
  | 17 => ⟨S128x8x64, .f32⟩
  | 18 => ⟨S128x8x1x64, .f32⟩
  | 19 => ⟨S128x8x64x64, .f32⟩
  | 20 => ⟨S128x8x64x64, .f32⟩
  | 21 => ⟨S128x8x64x64, .f32⟩
  | 22 => ⟨S128x8x64x64, .f32⟩
  | 23 => ⟨S128x1x8x64, .f32⟩
  | 24 => ⟨S128x8x64, .f32⟩
  | 25 => ⟨S128x8x64, .f32⟩
  | 26 => ⟨S128x1x8x64, .f32⟩
  | 27 => ⟨S128x8x64, .f32⟩
  | 28 => ⟨S128x8x64, .f32⟩
  | 29 => ⟨S128x8x64, .f32⟩
  | 30 => ⟨S128x1x8x64, .f32⟩
  | 31 => ⟨S128x8x64, .f32⟩
  | 32 => ⟨S128x8x1x64, .f32⟩
  | 33 => ⟨S128x8x64x64, .f32⟩
  | 34 => ⟨S128x8x64x64, .f32⟩
  | 35 => ⟨S128x8x64x1, .f32⟩
  | 36 => ⟨S128x1x8x64, .f32⟩
  | 37 => ⟨S128x8x64, .f32⟩
  | 38 => ⟨S128x8x64, .f32⟩
  | 39 => ⟨S128x8x1x64, .f32⟩
  | 40 => ⟨S128x8x64x64, .f32⟩
  | 41 => ⟨S128x8x64x64, .f32⟩
  | 42 => ⟨S128x8x64x64, .f32⟩
  | 43 => ⟨S128x8x64x64, .f32⟩
  | 44 => ⟨S128x1x8x64, .f32⟩
  | 45 => ⟨S128x8x64, .f32⟩
  | 46 => ⟨S128x8x64x1, .f32⟩
  | 47 => ⟨S128x1x8x64, .f32⟩
  | 48 => ⟨S128x8x64, .f32⟩
  | 49 => ⟨S128x8x1x64, .f32⟩
  | 50 => ⟨S128x8x64x64, .f32⟩
  | 51 => ⟨S128x8x64x64, .f32⟩
  | 52 => ⟨S128x8x64x64, .f32⟩
  | 53 => ⟨S128x8x64x64, .f32⟩
  | 54 => ⟨S128x1x8x64, .f32⟩
  | 55 => ⟨S128x8x64, .f32⟩
  | 56 => ⟨S128x8x64, .f32⟩
  | 57 => ⟨S128x1x8x64, .f32⟩
  | 58 => ⟨S128x8x64, .f32⟩
  | 59 => ⟨S128x8x64, .f32⟩
  | 60 => ⟨S128x8x64, .f32⟩
  | 61 => ⟨S128x1x8x64, .f32⟩
  | 62 => ⟨S128x8x64, .f32⟩
  | 63 => ⟨S128x8x1x64, .f32⟩
  | 64 => ⟨S128x8x64x64, .f32⟩
  | 65 => ⟨S128x8x64x64, .f32⟩
  | 66 => ⟨S128x8x64x1, .f32⟩
  | 67 => ⟨S128x1x8x64, .f32⟩
  | 68 => ⟨S128x8x64, .f32⟩
  | 69 => ⟨S128x8x64, .f32⟩
  | 70 => ⟨S128x8x1x64, .f32⟩
  | 71 => ⟨S128x8x64x64, .f32⟩
  | 72 => ⟨S128x8x64x64, .f32⟩
  | 73 => ⟨S128x8x64x64, .f32⟩
  | 74 => ⟨S128x8x64x64, .f32⟩
  | 75 => ⟨S128x1x8x64, .f32⟩
  | 76 => ⟨S128x8x64, .f32⟩
  | 77 => ⟨S128x8x64x1, .f32⟩
  | 78 => ⟨S128x1x8x64, .f32⟩
  | 79 => ⟨S128x8x64, .f32⟩
  | 80 => ⟨S128x8x1x64, .f32⟩
  | 81 => ⟨S128x8x64x64, .f32⟩
  | 82 => ⟨S128x8x64x64, .f32⟩
  | 83 => ⟨S128x8x64x64, .f32⟩
  | 84 => ⟨S128x8x64x64, .f32⟩
  | 85 => ⟨S128x1x8x64, .f32⟩
  | 86 => ⟨S128x8x64, .f32⟩
  | 87 => ⟨S128x8x64, .f32⟩
  | 88 => ⟨S128x1x8x64, .f32⟩
  | 89 => ⟨S128x8x64, .f32⟩
  | 90 => ⟨S128x8x64, .f32⟩
  | 91 => ⟨S128x8x64, .f32⟩
  | 92 => ⟨S128x1x8x64, .f32⟩
  | 93 => ⟨S128x8x64, .f32⟩
  | 94 => ⟨S128x8x1x64, .f32⟩
  | 95 => ⟨S128x8x64x64, .f32⟩
  | 96 => ⟨S128x8x64x64, .f32⟩
  | 97 => ⟨S128x8x64x1, .f32⟩
  | 98 => ⟨S128x1x8x64, .f32⟩
  | 99 => ⟨S128x8x64, .f32⟩
  | 100 => ⟨S128x8x64, .f32⟩
  | 101 => ⟨S128x8x1x64, .f32⟩
  | 102 => ⟨S128x8x64x64, .f32⟩
  | 103 => ⟨S128x8x64x64, .f32⟩
  | 104 => ⟨S128x8x64x64, .f32⟩
  | 105 => ⟨S128x8x64x64, .f32⟩
  | 106 => ⟨S128x1x8x64, .f32⟩
  | 107 => ⟨S128x8x64, .f32⟩
  | 108 => ⟨S128x8x64x1, .f32⟩
  | 109 => ⟨S128x1x8x64, .f32⟩
  | 110 => ⟨S128x8x64, .f32⟩
  | 111 => ⟨S128x8x1x64, .f32⟩
  | 112 => ⟨S128x8x64x64, .f32⟩
  | 113 => ⟨S128x8x64x64, .f32⟩
  | 114 => ⟨S128x8x64x64, .f32⟩
  | 115 => ⟨S128x8x64x64, .f32⟩
  | 116 => ⟨S128x1x8x64, .f32⟩
  | 117 => ⟨S128x8x64, .f32⟩
  | 118 => ⟨S128x8x64, .f32⟩
  | 119 => ⟨S128x1x8x64, .f32⟩
  | 120 => ⟨S128x1x8x64, .f32⟩
  | 121 => ⟨S128x1x8x64, .f32⟩
  | 122 => ⟨S128x1x8x64, .f32⟩
  | 123 => ⟨S128x4x8x64, .f32⟩
  | 124 => ⟨S_, .f32⟩
  | 125 => ⟨S128x4x8, .f32⟩
  | 126 => ⟨S128x4x8x1, .f32⟩
  | 127 => ⟨S_, .f32⟩
  | _ => ⟨S512x3840, .f32⟩

abbrev hbmTy0_2 (i : Nat) : BufTy := match i % 128 with
  | 0 => ⟨S128x4x8x1, .f32⟩
  | 1 => ⟨S128x4x8x1, .f32⟩
  | 2 => ⟨S128x4x8x64, .f32⟩
  | 3 => ⟨S128x4x8x64, .f32⟩
  | 4 => ⟨S128x4x8x64, .f32⟩
  | 5 => ⟨S_, .f32⟩
  | 6 => ⟨S128x4x8, .f32⟩
  | 7 => ⟨S128x4x8x1, .f32⟩
  | 8 => ⟨S_, .f32⟩
  | 9 => ⟨S128x4x8x1, .f32⟩
  | 10 => ⟨S128x4x8x1, .f32⟩
  | 11 => ⟨S128x4x8x64, .f32⟩
  | 12 => ⟨S128x4x8x64, .f32⟩
  | 13 => ⟨S_, .f32⟩
  | 14 => ⟨S128x4x8x1, .f32⟩
  | 15 => ⟨S128x4x8x1, .f32⟩
  | 16 => ⟨S128x4x8x1, .f32⟩
  | 17 => ⟨S128x4x8x64, .f32⟩
  | 18 => ⟨S128x4x8x64, .f32⟩
  | 19 => ⟨S128x4x512, .f32⟩
  | 20 => ⟨S512, .f32⟩
  | 21 => ⟨S1x1x512, .f32⟩
  | 22 => ⟨S128x4x512, .f32⟩
  | 23 => ⟨S128x4x512, .f32⟩
  | 24 => ⟨S512, .f32⟩
  | 25 => ⟨S1x1x512, .f32⟩
  | 26 => ⟨S128x4x512, .f32⟩
  | 27 => ⟨S128x4x512, .f32⟩
  | 28 => ⟨S128x4x8x64, .f32⟩
  | 29 => ⟨S8x64, .f32⟩
  | 30 => ⟨S1x1x8x64, .f32⟩
  | 31 => ⟨S128x4x8x64, .f32⟩
  | 32 => ⟨S128x4x8x64, .f32⟩
  | 33 => ⟨S_, .f32⟩
  | 34 => ⟨S128x4x8, .f32⟩
  | 35 => ⟨S128x4x8x1, .f32⟩
  | 36 => ⟨S128x4x8x64, .f32⟩
  | 37 => ⟨S128x4x8x64, .f32⟩
  | 38 => ⟨S128x4x512, .f32⟩
  | 39 => ⟨S128x4x512, .f32⟩
  | 40 => ⟨S128x4x512, .f32⟩
  | 41 => ⟨S128x4x512, .f32⟩
  | 42 => ⟨S128x4x512, .f32⟩
  | 43 => ⟨S128x4x512, .f32⟩
  | 44 => ⟨S128x4x512, .f32⟩
  | 45 => ⟨S_, .f32⟩
  | 46 => ⟨S512, .f32⟩
  | 47 => ⟨S_, .f32⟩
  | 48 => ⟨S512, .f32⟩
  | 49 => ⟨S512, .f32⟩
  | 50 => ⟨S1x512, .f32⟩
  | 51 => ⟨S2x512, .f32⟩
  | 52 => ⟨S2x512, .f32⟩
  | 53 => ⟨S2x512, .f32⟩
  | 54 => ⟨S_, .f32⟩
  | 55 => ⟨S512, .f32⟩
  | 56 => ⟨S1x512, .f32⟩
  | 57 => ⟨S2x512, .f32⟩
  | 58 => ⟨S2x512, .f32⟩
  | 59 => ⟨S_, .f32⟩
  | 60 => ⟨S_, .f32⟩
  | 61 => ⟨S2x512, .f32⟩
  | 62 => ⟨S1x512, .f32⟩
  | 63 => ⟨S512, .f32⟩
  | 64 => ⟨S_, .f32⟩
  | 65 => ⟨S512, .f32⟩
  | 66 => ⟨S512, .f32⟩
  | 67 => ⟨S128x4x512, .f32⟩
  | 68 => ⟨S128x4x512, .f32⟩
  | 69 => ⟨S_, .f32⟩
  | 70 => ⟨S128x4x512, .f32⟩
  | 71 => ⟨S128x4x512, .f32⟩
  | 72 => ⟨S_, .f32⟩
  | 73 => ⟨S128x4x512, .f32⟩
  | 74 => ⟨S128x4x512, .f32⟩
  | 75 => ⟨S1x1x512, .f32⟩
  | 76 => ⟨S128x4x512, .f32⟩
  | 77 => ⟨S128x4x512, .f32⟩
  | 78 => ⟨S1x1x512, .f32⟩
  | 79 => ⟨S128x4x512, .f32⟩
  | 80 => ⟨S128x4x512, .f32⟩
  | 81 => ⟨S128x4x512, .f32⟩
  | 82 => ⟨S128x4x512, .f32⟩
  | 83 => ⟨S_, .f32⟩
  | 84 => ⟨S128x4x512, .f32⟩
  | 85 => ⟨S128x4x512, .f32⟩
  | 86 => ⟨S_, .f32⟩
  | 87 => ⟨S128x4x512, .f32⟩
  | 88 => ⟨S128x4x512, .f32⟩
  | 89 => ⟨S128x4x512, .f32⟩
  | 90 => ⟨S128x4x4x128, .f32⟩
  | 91 => ⟨S128x4x4x128, .f32⟩
  | 92 => ⟨S_, .f32⟩
  | 93 => ⟨S128x4x512, .f32⟩
  | 94 => ⟨S128x4x512, .f32⟩
  | 95 => ⟨S128x4x4x128, .f32⟩
  | 96 => ⟨S128x4x4x128, .f32⟩
  | 97 => ⟨S128x4x512, .f32⟩
  | 98 => ⟨S128x4x4x128, .f32⟩
  | 99 => ⟨S128x4x4x128, .f32⟩
  | 100 => ⟨S128x4x4x128, .f32⟩
  | 101 => ⟨S128x4x4x128, .f32⟩
  | 102 => ⟨S_, .i1⟩
  | 103 => ⟨S4x4, .i1⟩
  | 104 => ⟨S4x4, .i32⟩
  | 105 => ⟨S_, .i32⟩
  | 106 => ⟨S4x4, .i32⟩
  | 107 => ⟨S4x4, .i32⟩
  | 108 => ⟨S4x4, .i32⟩
  | 109 => ⟨S4x4, .i1⟩
  | 110 => ⟨S_, .i1⟩
  | 111 => ⟨S4x4, .i1⟩
  | 112 => ⟨S4x4, .i1⟩
  | 113 => ⟨S_, .f32⟩
  | 114 => ⟨S_, .f32⟩
  | 115 => ⟨S128x4x4x128, .f32⟩
  | 116 => ⟨S128x4x128x128, .f32⟩
  | 117 => ⟨S128x4x4x128, .f32⟩
  | 118 => ⟨S128x4x4x128, .f32⟩
  | 119 => ⟨S128x4x4x128, .f32⟩
  | 120 => ⟨S128x4x4x1x128, .f32⟩
  | 121 => ⟨S128x4x1x4x128, .f32⟩
  | 122 => ⟨S128x4x4x4x128, .f32⟩
  | 123 => ⟨S128x4x4x4x128, .f32⟩
  | 124 => ⟨S128x4x4x4x128, .f32⟩
  | 125 => ⟨S4x4x1, .i1⟩
  | 126 => ⟨S_, .f32⟩
  | 127 => ⟨S128x4x4x4x128, .f32⟩
  | _ => ⟨S512x3840, .f32⟩

abbrev hbmTy0_3 (i : Nat) : BufTy := match i % 128 with
  | 0 => ⟨S128x4x4x4x128, .f32⟩
  | 1 => ⟨S128x4x4x4x128, .f32⟩
  | 2 => ⟨S_, .f32⟩
  | 3 => ⟨S_, .f32⟩
  | 4 => ⟨S128x4x4x4x128, .i1⟩
  | 5 => ⟨S128x4x4x4x128, .f32⟩
  | 6 => ⟨S128x4x4x4x128, .f32⟩
  | 7 => ⟨S128x4x4x1x128, .f32⟩
  | 8 => ⟨S128x4x4x4x128, .f32⟩
  | 9 => ⟨S128x4x4x4x128, .f32⟩
  | 10 => ⟨S128x4x1x4x128, .f32⟩
  | 11 => ⟨S128x4x4x4x128, .f32⟩
  | 12 => ⟨S128x4x4x4x128, .f32⟩
  | 13 => ⟨S_, .f32⟩
  | 14 => ⟨S128x4x4x4, .f32⟩
  | 15 => ⟨S128x4x4x128, .f32⟩
  | 16 => ⟨S128x4x1x128, .f32⟩
  | 17 => ⟨S128x4x128, .f32⟩
  | 18 => ⟨S128x4x128, .f32⟩
  | 19 => ⟨S128x4x128x1, .f32⟩
  | 20 => ⟨S128x4x128x128, .f32⟩
  | 21 => ⟨S128x4x128x128, .f32⟩
  | 22 => ⟨S128x4x4x128, .f32⟩
  | 23 => ⟨S128x4x4x128, .f32⟩
  | 24 => ⟨S128x4x4x128, .f32⟩
  | 25 => ⟨S128x4x4x128, .f32⟩
  | 26 => ⟨S128x4x128x128, .f32⟩
  | 27 => ⟨S128x4x128x128, .f32⟩
  | 28 => ⟨S128x4x4x128, .f32⟩
  | 29 => ⟨S128x4x4x128, .f32⟩
  | 30 => ⟨S128x4x4x128, .f32⟩
  | 31 => ⟨S_, .f32⟩
  | 32 => ⟨S128x4x4, .f32⟩
  | 33 => ⟨S128x4x4x1, .f32⟩
  | 34 => ⟨S_, .f32⟩
  | 35 => ⟨S128x4x4x1, .f32⟩
  | 36 => ⟨S128x4x4x1, .f32⟩
  | 37 => ⟨S_, .f32⟩
  | 38 => ⟨S128x4x4x1, .f32⟩
  | 39 => ⟨S128x4x4x1, .f32⟩
  | 40 => ⟨S128x4x4x1, .f32⟩
  | 41 => ⟨S128x4x4x128, .f32⟩
  | 42 => ⟨S128x4x4x128, .f32⟩
  | 43 => ⟨S128, .f32⟩
  | 44 => ⟨S1x1x1x128, .f32⟩
  | 45 => ⟨S128x4x4x128, .f32⟩
  | 46 => ⟨S128x4x4x128, .f32⟩
  | 47 => ⟨S128x4x512, .f32⟩
  | 48 => ⟨S128x4x512, .f32⟩
  | 49 => ⟨S128x4x512, .f32⟩
  | 50 => ⟨S_, .f32⟩
  | 51 => ⟨S128x4x512, .f32⟩
  | 52 => ⟨S128x4x512, .f32⟩
  | 53 => ⟨S_, .f32⟩
  | 54 => ⟨S128x4x512, .f32⟩
  | 55 => ⟨S128x4x512, .f32⟩
  | 56 => ⟨S128x4x512, .f32⟩
  | 57 => ⟨S128x4x512, .f32⟩
  | 58 => ⟨S128x4x1024, .f32⟩
  | 59 => ⟨S128x4x1024, .bf16⟩
  | 60 => ⟨S8x16x1792, .f32⟩
  | _ => ⟨S512x3840, .f32⟩

abbrev hbmTy (i : Nat) : BufTy := match i / 128 with
  | 0 => hbmTy0_0 i
  | 1 => hbmTy0_1 i
  | 2 => hbmTy0_2 i
  | 3 => hbmTy0_3 i
  | _ => ⟨S512x3840, .f32⟩

abbrev bufTy : (tb : Table) → Fin (tcTables nBuf tb) → BufTy
  | .hbm, ⟨i, _⟩ => hbmTy i
  | _, _ => ⟨S512x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_v29 : Ref sig .tc := ⟨.hbm, 59, rfl⟩
abbrev main_v30 : Ref sig .tc := ⟨.hbm, 60, rfl⟩
abbrev main_cst : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_0 : Ref sig .tc := ⟨.hbm, 75, rfl⟩
abbrev main_v44 : Ref sig .tc := ⟨.hbm, 76, rfl⟩
abbrev main_v45 : Ref sig .tc := ⟨.hbm, 77, rfl⟩
abbrev main_cst_1 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_2 : Ref sig .tc := ⟨.hbm, 83, rfl⟩
abbrev main_v50 : Ref sig .tc := ⟨.hbm, 84, rfl⟩
abbrev main_v51 : Ref sig .tc := ⟨.hbm, 85, rfl⟩
abbrev main_cst_3 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_4 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_5 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_6 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_7 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_cst_8 : Ref sig .tc := ⟨.hbm, 252, rfl⟩
abbrev main_v213 : Ref sig .tc := ⟨.hbm, 253, rfl⟩
abbrev main_v214 : Ref sig .tc := ⟨.hbm, 254, rfl⟩
abbrev main_cst_9 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_cst_10 : Ref sig .tc := ⟨.hbm, 261, rfl⟩
abbrev main_v220 : Ref sig .tc := ⟨.hbm, 262, rfl⟩
abbrev main_v221 : Ref sig .tc := ⟨.hbm, 263, rfl⟩
abbrev main_cst_11 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_cst_12 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_cst_13 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_cst_14 : Ref sig .tc := ⟨.hbm, 301, rfl⟩
abbrev main_v256 : Ref sig .tc := ⟨.hbm, 302, rfl⟩
abbrev main_cst_15 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_cst_16 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_call1_call0_cst : Ref sig .tc := ⟨.hbm, 315, rfl⟩
abbrev main_call1_call0_v0 : Ref sig .tc := ⟨.hbm, 316, rfl⟩
abbrev main_v267 : Ref sig .tc := ⟨.hbm, 317, rfl⟩
abbrev main_v268 : Ref sig .tc := ⟨.hbm, 318, rfl⟩
abbrev main_v269 : Ref sig .tc := ⟨.hbm, 319, rfl⟩
abbrev main_cst_17 : Ref sig .tc := ⟨.hbm, 320, rfl⟩
abbrev main_v270 : Ref sig .tc := ⟨.hbm, 321, rfl⟩
abbrev main_v271 : Ref sig .tc := ⟨.hbm, 322, rfl⟩
abbrev main_v272 : Ref sig .tc := ⟨.hbm, 323, rfl⟩
abbrev main_v273 : Ref sig .tc := ⟨.hbm, 324, rfl⟩
abbrev main_cst_18 : Ref sig .tc := ⟨.hbm, 325, rfl⟩
abbrev main_v274 : Ref sig .tc := ⟨.hbm, 326, rfl⟩
abbrev main_v275 : Ref sig .tc := ⟨.hbm, 327, rfl⟩
abbrev main_cst_19 : Ref sig .tc := ⟨.hbm, 328, rfl⟩
abbrev main_v276 : Ref sig .tc := ⟨.hbm, 329, rfl⟩
abbrev main_v277 : Ref sig .tc := ⟨.hbm, 330, rfl⟩
abbrev main_v278 : Ref sig .tc := ⟨.hbm, 331, rfl⟩
abbrev main_v279 : Ref sig .tc := ⟨.hbm, 332, rfl⟩
abbrev main_v280 : Ref sig .tc := ⟨.hbm, 333, rfl⟩
abbrev main_v281 : Ref sig .tc := ⟨.hbm, 334, rfl⟩
abbrev main_v282 : Ref sig .tc := ⟨.hbm, 335, rfl⟩
abbrev main_v283 : Ref sig .tc := ⟨.hbm, 336, rfl⟩
abbrev main_call2_v0 : Ref sig .tc := ⟨.hbm, 337, rfl⟩
abbrev main_call2_v1 : Ref sig .tc := ⟨.hbm, 338, rfl⟩
abbrev main_call2_cst : Ref sig .tc := ⟨.hbm, 339, rfl⟩
abbrev main_call2_v2 : Ref sig .tc := ⟨.hbm, 340, rfl⟩
abbrev main_call2_v3 : Ref sig .tc := ⟨.hbm, 341, rfl⟩
abbrev main_call2_cst_0 : Ref sig .tc := ⟨.hbm, 342, rfl⟩
abbrev main_call2_v4 : Ref sig .tc := ⟨.hbm, 343, rfl⟩
abbrev main_call2_v5 : Ref sig .tc := ⟨.hbm, 344, rfl⟩
abbrev main_v284 : Ref sig .tc := ⟨.hbm, 345, rfl⟩
abbrev main_v285 : Ref sig .tc := ⟨.hbm, 346, rfl⟩
abbrev main_v286 : Ref sig .tc := ⟨.hbm, 347, rfl⟩
abbrev main_cst_20 : Ref sig .tc := ⟨.hbm, 348, rfl⟩
abbrev main_v287 : Ref sig .tc := ⟨.hbm, 349, rfl⟩
abbrev main_v288 : Ref sig .tc := ⟨.hbm, 350, rfl⟩
abbrev main_v289 : Ref sig .tc := ⟨.hbm, 351, rfl⟩
abbrev main_v290 : Ref sig .tc := ⟨.hbm, 352, rfl⟩
abbrev main_v291 : Ref sig .tc := ⟨.hbm, 353, rfl⟩
abbrev main_v292 : Ref sig .tc := ⟨.hbm, 354, rfl⟩
abbrev main_v293 : Ref sig .tc := ⟨.hbm, 355, rfl⟩
abbrev main_v294 : Ref sig .tc := ⟨.hbm, 356, rfl⟩
abbrev main_v295 : Ref sig .tc := ⟨.hbm, 357, rfl⟩
abbrev main_c : Ref sig .tc := ⟨.hbm, 358, rfl⟩
abbrev main_v296 : Ref sig .tc := ⟨.hbm, 359, rfl⟩
abbrev main_call3_v0 : Ref sig .tc := ⟨.hbm, 360, rfl⟩
abbrev main_call3_c : Ref sig .tc := ⟨.hbm, 361, rfl⟩
abbrev main_call3_v1 : Ref sig .tc := ⟨.hbm, 362, rfl⟩
abbrev main_call3_v2 : Ref sig .tc := ⟨.hbm, 363, rfl⟩
abbrev main_call3_v3 : Ref sig .tc := ⟨.hbm, 364, rfl⟩
abbrev main_call3_v4 : Ref sig .tc := ⟨.hbm, 365, rfl⟩
abbrev main_call3_c_0 : Ref sig .tc := ⟨.hbm, 366, rfl⟩
abbrev main_call3_v5 : Ref sig .tc := ⟨.hbm, 367, rfl⟩
abbrev main_v297 : Ref sig .tc := ⟨.hbm, 368, rfl⟩
abbrev main_call4_call0_cst : Ref sig .tc := ⟨.hbm, 369, rfl⟩
abbrev main_call4_call0_v0 : Ref sig .tc := ⟨.hbm, 370, rfl⟩
abbrev main_v298 : Ref sig .tc := ⟨.hbm, 371, rfl⟩
abbrev main_v299 : Ref sig .tc := ⟨.hbm, 372, rfl⟩
abbrev main_v300 : Ref sig .tc := ⟨.hbm, 373, rfl⟩
abbrev main_v301 : Ref sig .tc := ⟨.hbm, 374, rfl⟩
abbrev main_v302 : Ref sig .tc := ⟨.hbm, 375, rfl⟩
abbrev main_v303 : Ref sig .tc := ⟨.hbm, 376, rfl⟩
abbrev main_v304 : Ref sig .tc := ⟨.hbm, 377, rfl⟩
abbrev main_v305 : Ref sig .tc := ⟨.hbm, 378, rfl⟩
abbrev main_v306 : Ref sig .tc := ⟨.hbm, 379, rfl⟩
abbrev main_v307 : Ref sig .tc := ⟨.hbm, 380, rfl⟩
abbrev main_v308 : Ref sig .tc := ⟨.hbm, 381, rfl⟩
abbrev main_cst_21 : Ref sig .tc := ⟨.hbm, 382, rfl⟩
abbrev main_v309 : Ref sig .tc := ⟨.hbm, 383, rfl⟩
abbrev main_v310 : Ref sig .tc := ⟨.hbm, 384, rfl⟩
abbrev main_v311 : Ref sig .tc := ⟨.hbm, 385, rfl⟩
abbrev main_cst_22 : Ref sig .tc := ⟨.hbm, 386, rfl⟩
abbrev main_call5_v0 : Ref sig .tc := ⟨.hbm, 387, rfl⟩
abbrev main_call5_v1 : Ref sig .tc := ⟨.hbm, 388, rfl⟩
abbrev main_call5_v2 : Ref sig .tc := ⟨.hbm, 389, rfl⟩
abbrev main_v312 : Ref sig .tc := ⟨.hbm, 390, rfl⟩
abbrev main_v313 : Ref sig .tc := ⟨.hbm, 391, rfl⟩
abbrev main_v314 : Ref sig .tc := ⟨.hbm, 392, rfl⟩
abbrev main_v315 : Ref sig .tc := ⟨.hbm, 393, rfl⟩
abbrev main_v316 : Ref sig .tc := ⟨.hbm, 394, rfl⟩
abbrev main_v317 : Ref sig .tc := ⟨.hbm, 395, rfl⟩
abbrev main_v318 : Ref sig .tc := ⟨.hbm, 396, rfl⟩
abbrev main_cst_23 : Ref sig .tc := ⟨.hbm, 397, rfl⟩
abbrev main_v319 : Ref sig .tc := ⟨.hbm, 398, rfl⟩
abbrev main_v320 : Ref sig .tc := ⟨.hbm, 399, rfl⟩
abbrev main_v321 : Ref sig .tc := ⟨.hbm, 400, rfl⟩
abbrev main_v322 : Ref sig .tc := ⟨.hbm, 401, rfl⟩
abbrev main_v323 : Ref sig .tc := ⟨.hbm, 402, rfl⟩
abbrev main_v324 : Ref sig .tc := ⟨.hbm, 403, rfl⟩
abbrev main_v325 : Ref sig .tc := ⟨.hbm, 404, rfl⟩
abbrev main_v326 : Ref sig .tc := ⟨.hbm, 405, rfl⟩
abbrev main_v327 : Ref sig .tc := ⟨.hbm, 406, rfl⟩
abbrev main_v328 : Ref sig .tc := ⟨.hbm, 407, rfl⟩
abbrev main_v329 : Ref sig .tc := ⟨.hbm, 408, rfl⟩
abbrev main_v330 : Ref sig .tc := ⟨.hbm, 409, rfl⟩
abbrev main_v331 : Ref sig .tc := ⟨.hbm, 410, rfl⟩
abbrev main_v332 : Ref sig .tc := ⟨.hbm, 411, rfl⟩
abbrev main_v333 : Ref sig .tc := ⟨.hbm, 412, rfl⟩
abbrev main_v334 : Ref sig .tc := ⟨.hbm, 413, rfl⟩
abbrev main_v335 : Ref sig .tc := ⟨.hbm, 414, rfl⟩
abbrev main_cst_24 : Ref sig .tc := ⟨.hbm, 415, rfl⟩
abbrev main_v336 : Ref sig .tc := ⟨.hbm, 416, rfl⟩
abbrev main_v337 : Ref sig .tc := ⟨.hbm, 417, rfl⟩
abbrev main_cst_25 : Ref sig .tc := ⟨.hbm, 418, rfl⟩
abbrev main_v338 : Ref sig .tc := ⟨.hbm, 419, rfl⟩
abbrev main_v339 : Ref sig .tc := ⟨.hbm, 420, rfl⟩
abbrev main_cst_26 : Ref sig .tc := ⟨.hbm, 421, rfl⟩
abbrev main_v340 : Ref sig .tc := ⟨.hbm, 422, rfl⟩
abbrev main_v341 : Ref sig .tc := ⟨.hbm, 423, rfl⟩
abbrev main_v342 : Ref sig .tc := ⟨.hbm, 424, rfl⟩
abbrev main_v343 : Ref sig .tc := ⟨.hbm, 425, rfl⟩
abbrev main_v344 : Ref sig .tc := ⟨.hbm, 426, rfl⟩
abbrev main_v345 : Ref sig .tc := ⟨.hbm, 427, rfl⟩
abbrev main_v346 : Ref sig .tc := ⟨.hbm, 428, rfl⟩
abbrev main_v347 : Ref sig .tc := ⟨.hbm, 429, rfl⟩
abbrev main_v348 : Ref sig .tc := ⟨.hbm, 430, rfl⟩
abbrev main_v349 : Ref sig .tc := ⟨.hbm, 431, rfl⟩
abbrev main_call6_v0 : Ref sig .tc := ⟨.hbm, 432, rfl⟩
abbrev main_call6_v1 : Ref sig .tc := ⟨.hbm, 433, rfl⟩
abbrev main_call6_cst : Ref sig .tc := ⟨.hbm, 434, rfl⟩
abbrev main_call6_v2 : Ref sig .tc := ⟨.hbm, 435, rfl⟩
abbrev main_call6_v3 : Ref sig .tc := ⟨.hbm, 436, rfl⟩
abbrev main_call6_cst_0 : Ref sig .tc := ⟨.hbm, 437, rfl⟩
abbrev main_call6_v4 : Ref sig .tc := ⟨.hbm, 438, rfl⟩
abbrev main_call6_v5 : Ref sig .tc := ⟨.hbm, 439, rfl⟩
abbrev main_v350 : Ref sig .tc := ⟨.hbm, 440, rfl⟩
abbrev main_v351 : Ref sig .tc := ⟨.hbm, 441, rfl⟩
abbrev main_v352 : Ref sig .tc := ⟨.hbm, 442, rfl⟩
abbrev main_v353 : Ref sig .tc := ⟨.hbm, 443, rfl⟩
abbrev main_v354 : Ref sig .tc := ⟨.hbm, 444, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x6144 : Shape := ⟨2, ![8, 6144]⟩
abbrev S1x1024 : Shape := ⟨2, ![1, 1024]⟩
abbrev S1024 : Shape := ⟨1, ![1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S8x1x6144 : Shape := ⟨3, ![8, 1, 6144]⟩
abbrev S1024x1024 : Shape := ⟨2, ![1024, 1024]⟩
abbrev S1024x4096 : Shape := ⟨2, ![1024, 4096]⟩
abbrev S4096x1024 : Shape := ⟨2, ![4096, 1024]⟩
abbrev S16384x1024 : Shape := ⟨2, ![16384, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 21
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x6144, .f32⟩
  | .hbm, ⟨3, _⟩ => ⟨S1x1024, .f32⟩
  | .hbm, ⟨4, _⟩ => ⟨S1024, .f32⟩
  | .hbm, ⟨5, _⟩ => ⟨S1x1024x1024, .f32⟩
  | .hbm, ⟨6, _⟩ => ⟨S1x1024x4096, .f32⟩
  | .hbm, ⟨7, _⟩ => ⟨S1x4096x1024, .f32⟩
  | .hbm, ⟨8, _⟩ => ⟨S8x1x6144, .f32⟩
  | .hbm, ⟨9, _⟩ => ⟨S1024x1024, .f32⟩
  | .hbm, ⟨10, _⟩ => ⟨S1024x1024, .bf16⟩
  | .hbm, ⟨11, _⟩ => ⟨S1024x4096, .f32⟩
  | .hbm, ⟨12, _⟩ => ⟨S1024x4096, .bf16⟩
  | .hbm, ⟨13, _⟩ => ⟨S4096x1024, .f32⟩
  | .hbm, ⟨14, _⟩ => ⟨S4096x1024, .bf16⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S16384x1024, .f32⟩
  | .hbm, ⟨19, _⟩ => ⟨S16384x1024, .bf16⟩
  | .hbm, ⟨20, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1024x4096, .bf16⟩
  | .local _ .vmem, ⟨16, _⟩ => ⟨S4096x1024, .bf16⟩
  | .local _ .vmem, ⟨17, _⟩ => ⟨S512x1024, .f32⟩
  | .local _ .vmem, ⟨18, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c2_i32 : BitVec 32 := 2#32
  let c0_i32_5 : BitVec 32 := 0#32
  ![v17.toNat, c0_i32_4.toNat, c2_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c5_i32 : BitVec 32 := 5#32
  let c0_i32_5 : BitVec 32 := 0#32
  ![v17.toNat, c0_i32_4.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S8x2048x1024 : Shape := ⟨3, ![8, 2048, 1024]⟩
abbrev S8x6144 : Shape := ⟨2, ![8, 6144]⟩
abbrev S1x1024 : Shape := ⟨2, ![1, 1024]⟩
abbrev S1024 : Shape := ⟨1, ![1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S8x1024 : Shape := ⟨2, ![8, 1024]⟩
abbrev S8x1x1024 : Shape := ⟨3, ![8, 1, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x4096 : Shape := ⟨2, ![1024, 4096]⟩
abbrev S8x2048x4096 : Shape := ⟨3, ![8, 2048, 4096]⟩
abbrev S4096x1024 : Shape := ⟨2, ![4096, 1024]⟩
abbrev S16384x1024 : Shape := ⟨2, ![16384, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x6144, .f32⟩
  | .hbm, ⟨3, _⟩ => ⟨S1x1024, .f32⟩
  | .hbm, ⟨4, _⟩ => ⟨S1024, .f32⟩
  | .hbm, ⟨5, _⟩ => ⟨S1x1024x1024, .f32⟩
  | .hbm, ⟨6, _⟩ => ⟨S1x1024x4096, .f32⟩
  | .hbm, ⟨7, _⟩ => ⟨S1x4096x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1x1024, .f32⟩
  | .hbm, ⟨15, _⟩ => ⟨S8x2048x1024, .f32⟩
  | .hbm, ⟨16, _⟩ => ⟨S1024x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x1, .f32⟩
  | .hbm, ⟨33, _⟩ => ⟨S8x2048x1024, .f32⟩
  | .hbm, ⟨34, _⟩ => ⟨S8x2048x1024, .f32⟩
  | .hbm, ⟨35, _⟩ => ⟨S1x1x1024, .f32⟩
  | .hbm, ⟨36, _⟩ => ⟨S8x2048x1024, .f32⟩
  | .hbm, ⟨37, _⟩ => ⟨S8x2048x1024, .f32⟩
  | .hbm, ⟨38, _⟩ => ⟨S8x1x1024, .f32⟩
  | .hbm, ⟨39, _⟩ => ⟨S_, .f32⟩
  | .hbm, ⟨40, _⟩ => ⟨S8x1x1024, .f32⟩
  | .hbm, ⟨41, _⟩ => ⟨S8x1x1024, .f32⟩
  | .hbm, ⟨42, _⟩ => ⟨S8x2048x1024, .f32⟩
  | .hbm, ⟨43, _⟩ => ⟨S8x2048x1024, .f32⟩
  | .hbm, ⟨44, _⟩ => ⟨S8x1x1024, .f32⟩
  | .hbm, ⟨45, _⟩ => ⟨S8x2048x1024, .f32⟩
  | .hbm, ⟨46, _⟩ => ⟨S8x2048x1024, .f32⟩
  | .hbm, ⟨47, _⟩ => ⟨S8x1x1024, .f32⟩
  | .hbm, ⟨48, _⟩ => ⟨S1024x4096, .f32⟩
  | .hbm, ⟨49, _⟩ => ⟨S8x2048x4096, .f32⟩
  | .hbm, ⟨50, _⟩ => ⟨S_, .f32⟩
  | .hbm, ⟨51, _⟩ => ⟨S8x2048x4096, .f32⟩
  | .hbm, ⟨52, _⟩ => ⟨S8x2048x4096, .f32⟩
  | .hbm, ⟨53, _⟩ => ⟨S8x2048x4096, .f32⟩
  | .hbm, ⟨54, _⟩ => ⟨S4096x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S_, .f32⟩
  | .hbm, ⟨67, _⟩ => ⟨S8x2048x1, .f32⟩
  | .hbm, ⟨68, _⟩ => ⟨S8x2048x1, .f32⟩
  | .hbm, ⟨69, _⟩ => ⟨S8x2048x1, .f32⟩
  | .hbm, ⟨70, _⟩ => ⟨S8x2048x1024, .f32⟩
  | .hbm, ⟨71, _⟩ => ⟨S8x2048x1024, .f32⟩
  | .hbm, ⟨72, _⟩ => ⟨S1x1x1024, .f32⟩
  | .hbm, ⟨73, _⟩ => ⟨S8x2048x1024, .f32⟩
  | .hbm, ⟨74, _⟩ => ⟨S8x2048x1024, .f32⟩
  | .hbm, ⟨75, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call0_cst : Ref sig .tc := ⟨.hbm, 50, rfl⟩
abbrev main_call0_v0 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_cst_4 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Kernel3.lean ====
abbrev S128x4x1024 : Shape := ⟨3, ![128, 4, 1024]⟩
abbrev S128x6144 : Shape := ⟨2, ![128, 6144]⟩
abbrev S1x1024 : Shape := ⟨2, ![1, 1024]⟩
abbrev S1x1024x3840 : Shape := ⟨3, ![1, 1024, 3840]⟩
abbrev S512x1024 : Shape := ⟨2, ![512, 1024]⟩
abbrev S1024 : Shape := ⟨1, ![1024]⟩
abbrev S1024x3840 : Shape := ⟨2, ![1024, 3840]⟩
abbrev S512x3840 : Shape := ⟨2, ![512, 3840]⟩
abbrev S256x1024 : Shape := ⟨2, ![256, 1024]⟩
abbrev S64x1024 : Shape := ⟨2, ![64, 1024]⟩
abbrev S256x3840 : Shape := ⟨2, ![256, 3840]⟩
abbrev S256 : Shape := ⟨1, ![256]⟩
abbrev S256x1 : Shape := ⟨2, ![256, 1]⟩
abbrev S256x64 : Shape := ⟨2, ![256, 64]⟩

abbrev nBuf : Space → Nat
  | .hbm => 10
  | .vmem => 10
  | .smem => 0
  | _ => 0

abbrev bufTy : (tb : Table) → Fin (tcTables nBuf tb) → BufTy
  | .hbm, ⟨0, _⟩ => ⟨S128x4x1024, .f32⟩
  | .hbm, ⟨1, _⟩ => ⟨S128x6144, .f32⟩
  | .hbm, ⟨2, _⟩ => ⟨S1x1024, .f32⟩
  | .hbm, ⟨3, _⟩ => ⟨S1x1024x3840, .f32⟩
  | .hbm, ⟨4, _⟩ => ⟨S512x1024, .f32⟩
  | .hbm, ⟨5, _⟩ => ⟨S1024, .f32⟩
  | .hbm, ⟨6, _⟩ => ⟨S1x1024, .f32⟩
  | .hbm, ⟨7, _⟩ => ⟨S1024x3840, .f32⟩
  | .hbm, ⟨8, _⟩ => ⟨S1024x3840, .bf16⟩
  | .hbm, ⟨9, _⟩ => ⟨S512x3840, .f32⟩
  | .local _ .vmem, ⟨0, _⟩ => ⟨S256x1024, .f32⟩
  | .local _ .vmem, ⟨1, _⟩ => ⟨S256x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S1x1024, .f32⟩
  | .local _ .vmem, ⟨7, _⟩ => ⟨S1024x3840, .bf16⟩
  | .local _ .vmem, ⟨8, _⟩ => ⟨S256x3840, .f32⟩
  | .local _ .vmem, ⟨9, _⟩ => ⟨S256x3840, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3840 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3840 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S128x4x1024 : Shape := ⟨3, ![128, 4, 1024]⟩
abbrev S128x6144 : Shape := ⟨2, ![128, 6144]⟩
abbrev S1x1024 : Shape := ⟨2, ![1, 1024]⟩
abbrev S1x1024x3840 : Shape := ⟨3, ![1, 1024, 3840]⟩
abbrev S128x1024 : Shape := ⟨2, ![128, 1024]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x1x1024 : Shape := ⟨3, ![128, 1, 1024]⟩
abbrev S1024x3840 : Shape := ⟨2, ![1024, 3840]⟩
abbrev S128x4x3840 : Shape := ⟨3, ![128, 4, 3840]⟩
abbrev S512x3840 : Shape := ⟨2, ![512, 3840]⟩

abbrev nBuf : Space → Nat
  | .hbm => 39
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x6144, .f32⟩
  | .hbm, ⟨2, _⟩ => ⟨S1x1024, .f32⟩
  | .hbm, ⟨3, _⟩ => ⟨S1x1024x3840, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S1024, .f32⟩
  | .hbm, ⟨11, _⟩ => ⟨S128x4x1024, .f32⟩
  | .hbm, ⟨12, _⟩ => ⟨S_, .f32⟩
  | .hbm, ⟨13, _⟩ => ⟨S128x4, .f32⟩
  | .hbm, ⟨14, _⟩ => ⟨S128x4x1, .f32⟩
  | .hbm, ⟨15, _⟩ => ⟨S_, .f32⟩
  | .hbm, ⟨16, _⟩ => ⟨S128x4x1, .f32⟩
  | .hbm, ⟨17, _⟩ => ⟨S128x4x1, .f32⟩
  | .hbm, ⟨18, _⟩ => ⟨S_, .f32⟩
  | .hbm, ⟨19, _⟩ => ⟨S128x4x1, .f32⟩
  | .hbm, ⟨20, _⟩ => ⟨S128x4x1, .f32⟩
  | .hbm, ⟨21, _⟩ => ⟨S128x4x1, .f32⟩
  | .hbm, ⟨22, _⟩ => ⟨S128x4x1024, .f32⟩
  | .hbm, ⟨23, _⟩ => ⟨S128x4x1024, .f32⟩
  | .hbm, ⟨24, _⟩ => ⟨S1x1x1024, .f32⟩
  | .hbm, ⟨25, _⟩ => ⟨S128x4x1024, .f32⟩
  | .hbm, ⟨26, _⟩ => ⟨S128x4x1024, .f32⟩
  | .hbm, ⟨27, _⟩ => ⟨S128x1x1024, .f32⟩
  | .hbm, ⟨28, _⟩ => ⟨S_, .f32⟩
  | .hbm, ⟨29, _⟩ => ⟨S128x1x1024, .f32⟩
  | .hbm, ⟨30, _⟩ => ⟨S128x1x1024, .f32⟩
  | .hbm, ⟨31, _⟩ => ⟨S128x4x1024, .f32⟩
  | .hbm, ⟨32, _⟩ => ⟨S128x4x1024, .f32⟩
  | .hbm, ⟨33, _⟩ => ⟨S128x1x1024, .f32⟩
  | .hbm, ⟨34, _⟩ => ⟨S128x4x1024, .f32⟩
  | .hbm, ⟨35, _⟩ => ⟨S128x4x1024, .f32⟩
  | .hbm, ⟨36, _⟩ => ⟨S1024x3840, .f32⟩
  | .hbm, ⟨37, _⟩ => ⟨S128x4x3840, .f32⟩
  | .hbm, ⟨38, _⟩ => ⟨S512x3840, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel4.lean ====
abbrev S8x1024 : Shape := ⟨2, ![8, 1024]⟩
abbrev S128x1024 : Shape := ⟨2, ![128, 1024]⟩
abbrev S1x1024x6144 : Shape := ⟨3, ![1, 1024, 6144]⟩
abbrev S1x6144 : Shape := ⟨2, ![1, 6144]⟩
abbrev S136x1024 : Shape := ⟨2, ![136, 1024]⟩
abbrev S1024x6144 : Shape := ⟨2, ![1024, 6144]⟩
abbrev S6144 : Shape := ⟨1, ![6144]⟩
abbrev S136x6144 : Shape := ⟨2, ![136, 6144]⟩
abbrev S1024x1024 : Shape := ⟨2, ![1024, 1024]⟩
abbrev S1x1024 : Shape := ⟨2, ![1, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S1x1024x6144, .f32⟩
  | .hbm, ⟨3, _⟩ => ⟨S1x6144, .f32⟩
  | .hbm, ⟨4, _⟩ => ⟨S136x1024, .f32⟩
  | .hbm, ⟨5, _⟩ => ⟨S1024x6144, .f32⟩
  | .hbm, ⟨6, _⟩ => ⟨S6144, .f32⟩
  | .hbm, ⟨7, _⟩ => ⟨S1x6144, .f32⟩
  | .hbm, ⟨8, _⟩ => ⟨S136x6144, .f32⟩
  | .local _ .vmem, ⟨0, _⟩ => ⟨S136x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S136x1024, .f32⟩
  | .local _ .vmem, ⟨6, _⟩ => ⟨S136x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x1024 : Shape := ⟨2, ![8, 1024]⟩
abbrev S128x1024 : Shape := ⟨2, ![128, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S8x6144 : Shape := ⟨2, ![8, 6144]⟩
abbrev S6144 : Shape := ⟨1, ![6144]⟩
abbrev S128x6144 : Shape := ⟨2, ![128, 6144]⟩
abbrev S136x6144 : Shape := ⟨2, ![136, 6144]⟩

abbrev nBuf : Space → Nat
  | .hbm => 35
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S1x1024x6144, .f32⟩
  | .hbm, ⟨3, _⟩ => ⟨S1x6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1024x6144, .f32⟩
  | .hbm, ⟨14, _⟩ => ⟨S8x6144, .f32⟩
  | .hbm, ⟨15, _⟩ => ⟨S6144, .f32⟩
  | .hbm, ⟨16, _⟩ => ⟨S1x6144, .f32⟩
  | .hbm, ⟨17, _⟩ => ⟨S8x6144, .f32⟩
  | .hbm, ⟨18, _⟩ => ⟨S8x6144, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S1024x6144, .f32⟩
  | .hbm, ⟨29, _⟩ => ⟨S128x6144, .f32⟩
  | .hbm, ⟨30, _⟩ => ⟨S6144, .f32⟩
  | .hbm, ⟨31, _⟩ => ⟨S1x6144, .f32⟩
  | .hbm, ⟨32, _⟩ => ⟨S128x6144, .f32⟩
  | .hbm, ⟨33, _⟩ => ⟨S128x6144, .f32⟩
  | .hbm, ⟨34, _⟩ => ⟨S136x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Proof.RecFrame.lean ====
/- The frame of the recurrence's reference: host operations only, no semaphore. -/
module

public import proofs.«01_k».proof.Defs
public import proofs.«01_k».proof.Proof.Gen.ReferenceIdeal.Run
public import Idealize.ShloMosaic.Lib.Quiescent

@[expose] public section

set_option maxRecDepth 16384

noncomputable section

namespace Cert.Rec

open Idealize.ShloMosaic Idealize.SL.Sem

theorem ref_frame [h2 : Cert.ReferenceIdeal.Facts] : Cert.quiescent_ReferenceIdeal := by
  intro m g _
  exact (θ_run _ _ _).mono (fun r h => ⟨fun c => (h c).2.2, sem_eq_zero_of_no_sems (by decide) r.2⟩) (Cert.ReferenceIdeal.Value.run m g)

end Cert.Rec
end
-- ==== Proof.RecLift.lean ====
/- Reading operations on finite values as operations on real numbers. -/
module

public import Idealize.ShloMosaic.Lib.Pipeline.ValueKit
public import Idealize.ShloMosaic.Lib.Pointwise

@[expose] public section

set_option maxRecDepth 16384

noncomputable section

namespace Cert.Rec

open Idealize.ShloMosaic

theorem l_add (a b : ℝ) : ((a : EReal) + (b : EReal)) = ((a + b : ℝ) : EReal) := (EReal.coe_add a b).symm
theorem l_sub (a b : ℝ) : ((a : EReal) - (b : EReal)) = ((a - b : ℝ) : EReal) := (EReal.coe_sub a b).symm
theorem l_mul (a b : ℝ) : ((a : EReal) * (b : EReal)) = ((a * b : ℝ) : EReal) := (EReal.coe_mul a b).symm
theorem l_neg (a : ℝ) : (-(a : EReal)) = ((-a : ℝ) : EReal) := (EReal.coe_neg a).symm
theorem l_max (a b : ℝ) : max (a : EReal) (b : EReal) = ((max a b : ℝ) : EReal) :=
  (EReal.coe_strictMono.monotone.map_max).symm
theorem l_min (a b : ℝ) : min (a : EReal) (b : EReal) = ((min a b : ℝ) : EReal) :=
  (EReal.coe_strictMono.monotone.map_min).symm
theorem l_zero : (0 : EReal) = ((0 : ℝ) : EReal) := rfl
theorem l_one : (1 : EReal) = ((1 : ℝ) : EReal) := rfl
theorem l_sum {n : ℕ} (f : Fin n → ℝ) : ∑ k, (f k : EReal) = ((∑ k, f k : ℝ) : EReal) := by
  induction n with
  | zero => rfl
  | succ n ih => rw [Fin.sum_univ_castSucc, Fin.sum_univ_castSucc, ih, l_add]
theorem l_exp (a : ℝ) : Ideal.exp (a : EReal) = ((Real.exp a : ℝ) : EReal) := rfl
theorem l_tanh (a : ℝ) : Ideal.tanh (a : EReal) = ((Real.tanh a : ℝ) : EReal) := rfl
theorem l_log (a : ℝ) (h : 0 < a) : Ideal.log (a : EReal) = ((Real.log a : ℝ) : EReal) := by
  show (if a ≤ 0 then ⊥ else ((Real.log a : ℝ) : EReal)) = _
  rw [if_neg h.not_ge]
theorem l_div (a b : ℝ) (h : b ≠ 0) : Ideal.div (a : EReal) (b : EReal) = ((a / b : ℝ) : EReal) := by
  have hb : ((b : ℝ) : EReal) ≠ 0 := by exact_mod_cast h
  rw [Ideal.div, if_neg hb, ← EReal.coe_inv, l_mul, div_eq_mul_inv]
theorem l_sqrt (a : ℝ) (h : 0 ≤ a) : Ideal.sqrt (a : EReal) = ((Real.sqrt a : ℝ) : EReal) := by
  show (if a < 0 then ⊥ else ((Real.sqrt a : ℝ) : EReal)) = _
  rw [if_neg h.not_gt]
theorem l_rsqrt (a : ℝ) (h : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg h.le.not_gt, if_neg h.ne']
theorem l_ite (p : Prop) [Decidable p] (a b : ℝ) : (if p then (a : EReal) else (b : EReal)) = ((if p then a else b : ℝ) : EReal) := by
  split <;> rfl
theorem l_sel (p : Prop) [Decidable p] (a b : EReal) : Scalar.select (BitVec.ofBool (decide p)) a b = if p then a else b := by
  by_cases h : p <;> simp [Scalar.select, h]

/-- One over one plus the exponential of the negative. -/
def sg (x : ℝ) : ℝ := 1 / (1 + Real.exp (-x))

theorem l_sg (a : ℝ) : Ideal.div (1 : EReal) (1 + Ideal.exp (0 - (a : EReal))) = ((sg a : ℝ) : EReal) := by
  have h : (1 + Real.exp (-a)) ≠ 0 := by positivity
  rw [l_zero, l_sub, l_exp, l_one, l_add, zero_sub, l_div _ _ h]; rfl

/-! Masks: comparisons of small indices, and what a one-hot row multiplies. -/

theorem w_eq (a b : ℕ) (ha : a < 4096) (hb : b < 4096) : IntOp.cmpi CmpIPredicate.eq (BitVec.ofNat 32 a) (BitVec.ofNat 32 b) = BitVec.ofBool (decide (a = b)) := by
  have h : (BitVec.ofNat 32 a = BitVec.ofNat 32 b) ↔ a = b := by
    constructor
    · intro h
      have := congrArg BitVec.toNat h
      simp only [BitVec.toNat_ofNat] at this
      omega
    · rintro rfl; rfl
  by_cases e : a = b
  · subst e; simp [IntOp.cmpi]
  · have hne : (BitVec.ofNat 32 a == BitVec.ofNat 32 b) = false := beq_eq_false_iff_ne.mpr (mt h.1 e)
    simp [IntOp.cmpi, e, hne]

theorem w_shr2 (a : ℕ) (ha : a < 256) : IntOp.shrui ArithUnit.vector (BitVec.ofNat 32 a) 2#32 = BitVec.ofNat 32 (a / 4) := by
  have h : ∀ a : Fin 256, IntOp.shrui ArithUnit.vector (BitVec.ofNat 32 a.val) 2#32 = BitVec.ofNat 32 (a.val / 4) := by decide +kernel
  exact h ⟨a, ha⟩

theorem w_flag (p : Prop) [Decidable p] : FloatOps.sitofp (F := Ideal) FTy.f32 (BitVec.setWidth 32 (BitVec.ofBool (decide p))) = if p then (1 : EReal) else 0 := by
  have h1 : ∀ b : Bool, (BitVec.setWidth 32 (BitVec.ofBool b)).toInt = if b then 1 else 0 := by decide
  show (((BitVec.setWidth 32 (BitVec.ofBool (decide p))).toInt : ℝ) : EReal) = _
  rw [h1]
  by_cases e : p <;> simp [e]

theorem sum_hot {n : ℕ} (a : Fin n) (f : Fin n → EReal) : ∑ x : Fin n, (if a.val = x.val then (1 : EReal) else 0) * f x = f a := by
  rw [Finset.sum_eq_single a]
  · simp
  · intro b _ hb
    rw [if_neg (fun h => hb (Fin.ext h.symm)), zero_mul]
  · simp

end Cert.Rec
end
-- ==== Proof.RecModel.lean ====
/- The gated linear recurrence of one sequence of four steps over the real numbers: the mathematics both programs compute. -/
module

public import proofs.«01_k».proof.Proof.RecLift

@[expose] public section

set_option maxRecDepth 16384

noncomputable section

namespace Cert.Rec

/-- The recurrence's parameters: the logits of the forget gate's lower bounds. -/
structure Wt where
  lb : Fin 2 → Fin 512 → ℝ

/-- One sequence: its four projected rows of real numbers and its state, which may hold any value. -/
structure Sq where
  p : Fin 4 → Fin 3840 → ℝ
  hg : Fin 4 → Fin 128 → Fin 128 → EReal

variable (w : Wt) (q : Sq)

def lbd (c : Fin 512) : ℝ := Real.exp (w.lb 0 c - max (w.lb 0 c) (w.lb 1 c)) /
  (Real.exp (w.lb 0 c - max (w.lb 0 c) (w.lb 1 c)) + Real.exp (w.lb 1 c - max (w.lb 0 c) (w.lb 1 c)))
def ff (t : Fin 4) (c : Fin 512) : ℝ := lbd w c + (1 - lbd w c) * sg (q.p t ⟨2304 + c.val, by omega⟩)
def iv (t : Fin 4) (c : Fin 512) : ℝ := q.p t ⟨2816 + c.val, by omega⟩

/-- The sum over the steps up to `t`. -/
def cum (f : Fin 4 → Fin 512 → ℝ) (t : Fin 4) (c : Fin 512) : ℝ := ∑ u : Fin 4, if u ≤ t then f u c else 0

/-- The cumulated logarithms of the forget gate. -/
def hb (t : Fin 4) (c : Fin 512) : ℝ := cum (fun u c => Real.log (ff w q u c)) t c

def hc (h : Fin 4) (f : Fin 128) : Fin 512 := ⟨128 * h.val + f.val, by omega⟩

/-- The gated linear recurrence's state after the four steps. -/
def hgNew (h : Fin 4) (f i : Fin 128) : EReal :=
  ((Real.exp (hb w q 3 (hc h f)) : ℝ) : EReal) * q.hg h f i
    + ((∑ s : Fin 4, (1 - ff w q s (hc h f)) * Real.exp (hb w q 3 (hc h f) - hb w q s (hc h f)) * iv q s (hc h i) : ℝ) : EReal)

end Cert.Rec
end
-- ==== Proof.RecA.lean ====
/- The rows of one block of sixteen sequences, and the small quantities the body computes of them. -/
module

public import proofs.«01_k».proof.Proof.RecModel
public import proofs.«01_k».proof.Proof.Gen.KernelIdeal.Value

@[expose] public section

set_option maxRecDepth 16384

noncomputable section

namespace Cert.Rec

open Idealize.ShloMosaic Idealize.ShloMosaic.TcCoe Idealize.SL.Sem Cert.KernelIdeal Cert.KernelIdeal.Gen

/-- Row of step `t` of sequence `s`. -/
def rw4 (s : Fin 16) (t : Fin 4) : Fin 64 := ⟨4 * s.val + t.val, by omega⟩

theorem rw4_div (s : Fin 16) (t : Fin 4) : (rw4 s t).val / 4 = s.val := by unfold rw4; dsimp only; omega
theorem rw4_mod (s : Fin 16) (t : Fin 4) : (rw4 s t).val % 4 = t.val := by unfold rw4; dsimp only; omega
theorem rw4_le (s : Fin 16) (t u : Fin 4) : (rw4 s t).val ≤ (rw4 s u).val ↔ t ≤ u := by unfold rw4; dsimp only; rw [Fin.le_def]; omega
/-- The sequence and the step of a row. -/
def sR (r : Fin 64) : Fin 16 := ⟨r.val / 4, by omega⟩
def tR (r : Fin 64) : Fin 4 := ⟨r.val % 4, by omega⟩

theorem sR_rw4 (s : Fin 16) (t : Fin 4) : sR (rw4 s t) = s := Fin.ext (rw4_div s t)
theorem tR_rw4 (s : Fin 16) (t : Fin 4) : tR (rw4 s t) = t := Fin.ext (rw4_mod s t)
theorem exists_rw4 (r : Fin 64) : ∃ s t, r = rw4 s t := ⟨⟨r.val / 4, by omega⟩, ⟨r.val % 4, by omega⟩, Fin.ext (by unfold rw4; dsimp only; omega)⟩

/-- A sum over the rows, sequence by sequence. -/
theorem sum_rows (f : Fin 64 → ℝ) : ∑ r, f r = ∑ s : Fin 16, ∑ t : Fin 4, f (rw4 s t) := by
  rw [← Fintype.sum_prod_type' (f := fun s t => f (rw4 s t))]
  refine (Fintype.sum_equiv (finProdFinEquiv (m := 16) (n := 4)) _ _ fun p => ?_).symm
  congr 1
  apply Fin.ext
  show 4 * p.1.val + p.2.val = p.2.val + 4 * p.1.val
  omega

/-- A sum over the rows of one sequence. -/
theorem sum_seq (s : Fin 16) (f : Fin 64 → ℝ) : (∑ r : Fin 64, if s.val = r.val / 4 then f r else 0) = ∑ t : Fin 4, f (rw4 s t) := by
  rw [sum_rows, Finset.sum_eq_single s]
  · simp [rw4_div]
  · intro b _ hb
    refine Finset.sum_eq_zero fun t _ => ?_
    rw [rw4_div, if_neg fun h => hb (Fin.ext h.symm)]
  · simp

theorem sum_seq' (r : Fin 64) (f : Fin 64 → ℝ) : (∑ x : Fin 64, if r.val / 4 = x.val / 4 then f x else 0) = ∑ u : Fin 4, f (rw4 (sR r) u) :=
  sum_seq (sR r) f

theorem sum_causal (r : Fin 64) (f : Fin 64 → ℝ) : (∑ x : Fin 64, if r.val / 4 = x.val / 4 ∧ x.val ≤ r.val then f x else 0)
    = ∑ u : Fin 4, if u ≤ tR r then f (rw4 (sR r) u) else 0 := by
  obtain ⟨s, t, rfl⟩ := exists_rw4 r
  simp only [ite_and]
  rw [sum_seq' _ (fun x => if x.val ≤ (rw4 s t).val then f x else 0)]
  simp only [sR_rw4, tR_rw4, rw4_le]

theorem flag_mul (P : Prop) [Decidable P] (a : ℝ) : (if P then (1 : EReal) else 0) * (a : EReal) = ((if P then a else 0 : ℝ) : EReal) := by
  split <;> simp

/-- The block's inputs are these real numbers. -/
structure Blk (x0 : Vec Ideal S1x64x3840 .f32) (x1 : Vec Ideal S1x16x1792 .f32) (x2 : Vec Ideal S16x8x64x64 .f32) (x3 : Vec Ideal S16x4x128x128 .f32)
    (x4 : Vec Ideal S1x1792 .f32) (x5 x6 x7 x8 x9 x10 x11 : Vec Ideal S1x512 .f32) (x12 : Vec Ideal S2x512 .f32) (x13 : Vec Ideal S1x128 .f32)
    (x14 : Vec Ideal S128x1024 .bf16) (x15 : Vec Ideal S128x512 .bf16) (w : Wt) (S : Fin 16 → Sq) : Prop where
  p : ∀ r c, x0 (ix3 0 r c) = (((S (sR r)).p (tR r) c : ℝ) : EReal)
  hg : ∀ s h i j, x3 (ix4 s h i j) = (S s).hg h i j
  lb : ∀ a j, x12 (ix2 a j) = ((w.lb a j : ℝ) : EReal)

variable (c : Dev nD)
variable (arg2 : Memref sig .tc .vmem S1x64x3840 .f32) (harg2 : arg2.IsWhole) (x0 : Vec Ideal S1x64x3840 .f32)
variable (arg3 : Memref sig .tc .vmem S1x16x1792 .f32) (harg3 : arg3.IsWhole) (x1 : Vec Ideal S1x16x1792 .f32)
variable (arg4 : Memref sig .tc .vmem S16x8x64x64 .f32) (harg4 : arg4.IsWhole) (x2 : Vec Ideal S16x8x64x64 .f32)
variable (arg5 : Memref sig .tc .vmem S16x4x128x128 .f32) (harg5 : arg5.IsWhole) (x3 : Vec Ideal S16x4x128x128 .f32)
variable (arg6 : Memref sig .tc .vmem S1x1792 .f32) (harg6 : arg6.IsWhole) (x4 : Vec Ideal S1x1792 .f32)
variable (arg7 : Memref sig .tc .vmem S1x512 .f32) (harg7 : arg7.IsWhole) (x5 : Vec Ideal S1x512 .f32)
variable (arg8 : Memref sig .tc .vmem S1x512 .f32) (harg8 : arg8.IsWhole) (x6 : Vec Ideal S1x512 .f32)
variable (arg9 : Memref sig .tc .vmem S1x512 .f32) (harg9 : arg9.IsWhole) (x7 : Vec Ideal S1x512 .f32)
variable (arg10 : Memref sig .tc .vmem S1x512 .f32) (harg10 : arg10.IsWhole) (x8 : Vec Ideal S1x512 .f32)
variable (arg11 : Memref sig .tc .vmem S1x512 .f32) (harg11 : arg11.IsWhole) (x9 : Vec Ideal S1x512 .f32)
variable (arg12 : Memref sig .tc .vmem S1x512 .f32) (harg12 : arg12.IsWhole) (x10 : Vec Ideal S1x512 .f32)
variable (arg13 : Memref sig .tc .vmem S1x512 .f32) (harg13 : arg13.IsWhole) (x11 : Vec Ideal S1x512 .f32)
variable (arg14 : Memref sig .tc .vmem S2x512 .f32) (harg14 : arg14.IsWhole) (x12 : Vec Ideal S2x512 .f32)
variable (arg15 : Memref sig .tc .vmem S1x128 .f32) (harg15 : arg15.IsWhole) (x13 : Vec Ideal S1x128 .f32)
variable (arg16 : Memref sig .tc .vmem S128x1024 .bf16) (harg16 : arg16.IsWhole) (x14 : Vec Ideal S128x1024 .bf16)
variable (arg17 : Memref sig .tc .vmem S128x512 .bf16) (harg17 : arg17.IsWhole) (x15 : Vec Ideal S128x512 .bf16)
variable (arg22 : Memref sig .tc .vmem S1x4x2048x128 .f32) (arg23 : Memref sig .tc .vmem S1x4x2048x128 .f32)
variable {w : Wt} {S : Fin 16 → Sq}
variable (B : Blk x0 x1 x2 x3 x4 x5 x6 x7 x8 x9 x10 x11 x12 x13 x14 x15 w S)

/-! Masks. -/

theorem same_at (r x : Fin 64) : kernelRun0_A.sl.v6 (ix2 r x) = BitVec.ofBool (decide (r.val / 4 = x.val / 4)) := by
  have h : ∀ r x : Fin 64, kernelRun0_A.sl.v6 (ix2 r x) = BitVec.ofBool (decide (r.val / 4 = x.val / 4)) := by decide +kernel
  exact h r x

theorem causal_at (r x : Fin 64) : k0_pay442 kernelRun0_A.sl.v0 kernelRun0_A.sl.v1 kernelRun0_A.sl.v6 (ix2 r x)
    = BitVec.ofBool (decide (r.val / 4 = x.val / 4 ∧ x.val ≤ r.val)) := by
  have h : ∀ r x : Fin 64, k0_pay442 kernelRun0_A.sl.v0 kernelRun0_A.sl.v1 kernelRun0_A.sl.v6 (ix2 r x)
    = BitVec.ofBool (decide (r.val / 4 = x.val / 4 ∧ x.val ≤ r.val)) := by decide +kernel
  exact h r x

/-! The linear recurrence's quantities. -/

include B

theorem iv_at (r : Fin 64) (n : Fin 512) : (kernelRun0_A.sl.r_36 (F := Ideal) c arg2 harg2 x0) (ix2 r n) = ((iv (S (sR r)) (tR r) n : ℝ) : EReal) := by
  unfold kernelRun0_A.sl.r_36
  simp only [View.readAt_eq_ld, Memref.IsWhole.read_unread]
  pointwise [k0_pay495]
  rw [B.p]; rfl

theorem lbd_at (n : Fin 512) : (kernelRun0_A.sl.r_25 (F := Ideal) c arg14 harg14 x12) (ix2 0 n) = ((lbd w n : ℝ) : EReal) := by
  unfold kernelRun0_A.sl.r_25
  simp only [View.readAt_eq_ld, Memref.IsWhole.read_unread]
  pointwise [k0_pay482]
  simp only [B.lb, l_max, l_sub, l_exp, l_add]
  rw [l_div _ _ (by positivity)]
  rfl

omit B in
theorem lbd_pos (n : Fin 512) : 0 < lbd w n := by unfold lbd; positivity
omit B in
theorem lbd_lt (n : Fin 512) : lbd w n < 1 := by
  unfold lbd
  have := Real.exp_pos (w.lb 1 n - max (w.lb 0 n) (w.lb 1 n))
  rw [div_lt_one (by positivity)]; linarith
omit B in
theorem sg_pos (x : ℝ) : 0 < sg x := by unfold sg; positivity
omit B in
theorem ff_pos (q : Sq) (t : Fin 4) (n : Fin 512) : 0 < ff w q t n := by
  have h1 := lbd_pos (w := w) n
  have h2 := lbd_lt (w := w) n
  have h3 := sg_pos (q.p t ⟨2304 + n.val, by omega⟩)
  have : 0 < (1 - lbd w n) * sg (q.p t ⟨2304 + n.val, by omega⟩) := mul_pos (by linarith) h3
  unfold ff; linarith

theorem ffp_at (r : Fin 64) (n : Fin 512) : k0_pay484 (kernelRun0_A.sl.r_25 (F := Ideal) c arg14 harg14 x12) (View.ld x0 (Rect.unit ![0, 0, 2304] ![1, 64, 512] inb_S1x64x3840_S1x64x512_0_0_2304)) (ix2 r n)
    = ((ff w (S (sR r)) (tR r) n : ℝ) : EReal) := by
  pointwise [k0_pay484]
  simp only [lbd_at (B := B), B.p, l_sg]
  simp only [l_one, l_sub, l_mul, l_add]
  rfl

theorem ff_at (r : Fin 64) (n : Fin 512) : (kernelRun0_A.sl.r_27 (F := Ideal) c arg2 harg2 arg14 harg14 x0 x12) (ix2 r n) = ((ff w (S (sR r)) (tR r) n : ℝ) : EReal) := by
  unfold kernelRun0_A.sl.r_27
  simp only [View.readAt_eq_ld, Memref.IsWhole.read_unread]
  exact ffp_at (B := B) ..

theorem kf_at (r : Fin 64) (n : Fin 512) : (kernelRun0_A.sl.r_35 (F := Ideal) c arg2 harg2 arg14 harg14 x0 x12) (ix2 r n) = ((1 - ff w (S (sR r)) (tR r) n : ℝ) : EReal) := by
  unfold kernelRun0_A.sl.r_35
  pointwise [k0_pay494]
  simp only [ff_at (B := B), l_one, l_sub]

theorem cum_at (r : Fin 64) (n : Fin 512) : (kernelRun0_A.sl.r_28 (F := Ideal) c arg2 harg2 arg3 harg3 arg6 harg6 arg7 harg7 arg14 harg14 arg16 harg16 x0 x1 x4 x5 x12 x14) (ix2 r ⟨512 + n.val, by omega⟩) = ((hb w (S (sR r)) (tR r) n : ℝ) : EReal) := by
  unfold kernelRun0_A.sl.r_28
  simp only [View.readAt_eq_ld, Memref.IsWhole.read_unread]
  pointwise [k0_pay486, k0_pay485]
  simp only [causal_at, w_flag, ffp_at (B := B), l_log _ (ff_pos _ _ _), l_sub, sub_self, flag_mul, l_sum, l_add, ite_self, Finset.sum_const_zero, add_zero]
  rw [sum_causal]
  simp only [sR_rw4, tR_rw4]
  rfl

theorem tot_at (r : Fin 64) (n : Fin 512) : (kernelRun0_A.sl.r_29 (F := Ideal) c arg2 harg2 arg3 harg3 arg6 harg6 arg7 harg7 arg14 harg14 arg16 harg16 x0 x1 x4 x5 x12 x14) (ix2 r ⟨512 + n.val, by omega⟩) = ((hb w (S (sR r)) 3 n : ℝ) : EReal) := by
  unfold kernelRun0_A.sl.r_29
  simp only [View.readAt_eq_ld, Memref.IsWhole.read_unread]
  pointwise [k0_pay487, k0_pay485]
  simp only [same_at, w_flag, ffp_at (B := B), l_log _ (ff_pos _ _ _), l_sub, sub_self, flag_mul, l_sum, l_add, ite_self, Finset.sum_const_zero, add_zero]
  rw [sum_seq']
  simp only [sR_rw4, tR_rw4]
  have h : ∀ u : Fin 4, u ≤ 3 := by decide
  simp only [hb, cum, h, if_true]

end Cert.Rec
end
-- ==== Proof.RecBlk.lean ====
/- The blocks of the kernel's inputs, read off the arguments. -/
module

public import proofs.«01_k».proof.Proof.RecA
public import Idealize.ShloMosaic.Lib.Pipeline.ValueKit
public import Idealize.ShloMosaic.Lib.Pointwise

@[expose] public section

set_option maxRecDepth 16384

noncomputable section

namespace Cert.Rec

open Idealize.ShloMosaic Idealize.ShloMosaic.TcCoe Idealize.SL.Sem Cert.KernelIdeal Cert.KernelIdeal.Gen

/-- The arguments are these real numbers. -/
structure Real17 (a0 : FVec Ideal S512x3840 .f32) (a1 : FVec Ideal S1x128x1792 .f32) (a2 : FVec Ideal S1x128x8x64x64 .f32) (a3 : FVec Ideal S1x128x4x128x128 .f32)
    (a4 : FVec Ideal S1x1792 .f32) (a5 : FVec Ideal S1x512 .f32) (a6 : FVec Ideal S1x64x512 .f32) (a7 : FVec Ideal S1x512 .f32) (a8 : FVec Ideal S1x64x512 .f32)
    (a9 : FVec Ideal S1x128x512 .f32) (a10 a11 : FVec Ideal S1x512 .f32) (a12 : FVec Ideal S1x8x64 .f32) (a13 a14 : FVec Ideal S1x512 .f32)
    (a15 : FVec Ideal S2x512 .f32) (a16 : FVec Ideal S1x128 .f32) (w : Wt) (Q : Fin 128 → Sq) : Prop where
  p : ∀ (b : Fin 128) (t : Fin 4) (k : Fin 512) (n : Fin 3840), k.val = 4 * b.val + t.val → a0 (ix2 k n) = (((Q b).p t n : ℝ) : EReal)
  hg : ∀ b h i j, a3 (ix5 0 b h i j) = (Q b).hg h i j
  lb : ∀ a j, a15 (ix2 a j) = ((w.lb a j : ℝ) : EReal)

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0, 0] ∧ win0_3.index t = ![t.val, 0, 0, 0]
    ∧ win0_4.index t = ![0, 0] ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0] ∧ win0_14.index t = ![0, 0] ∧ win0_15.index t = ![0, 0]
    ∧ win0_16.index t = ![t.val, 0, 0] ∧ win0_17.index t = ![t.val, 0, 0] ∧ win0_18.index t = ![t.val, 0, 0, 0] ∧ win0_19.index t = ![t.val, 0, 0, 0] :=
  (by decide +kernel : ∀ t : Fin grid0.N, _)

theorem blk0 (c : Dev nD) (t : Fin cfg0.N) (r : Fin 64) (n : Fin 3840) (k : Fin 512) (h : k.val = 64 * t.val + r.val) :
    iblk m c 0 t (ix3 0 r n) = m ((c : Thread nD τ).loc main_arg0) (ix2 k n) := by
  blk_simp [iblk, idx t]; entry_read; pointwise []; blk_ext [idx t]

theorem blk3 (c : Dev nD) (t : Fin cfg0.N) (s : Fin 16) (k : Fin 4) (i j : Fin 128) (b : Fin 128) (h : b.val = 16 * t.val + s.val) :
    iblk m c 3 t (ix4 s k i j) = m ((c : Thread nD τ).loc main_arg3) (ix5 0 b k i j) := by
  blk_simp [iblk, idx t]; entry_read; pointwise []; blk_ext [idx t]

theorem blk12 (c : Dev nD) (t : Fin cfg0.N) (a : Fin 2) (j : Fin 512) : iblk m c 12 t (ix2 a j) = m ((c : Thread nD τ).loc main_arg15) (ix2 a j) := by
  blk_point [iblk, V, idx t]

/-- The sequences of block `t`. -/
def seqs (Q : Fin 128 → Sq) (t : Fin cfg0.N) (s : Fin 16) : Sq := Q ⟨16 * t.val + s.val, by have : t.val < 8 := t.isLt; omega⟩

theorem blk_real (c : Dev nD) (t : Fin cfg0.N) {w : Wt} {Q : Fin 128 → Sq}
    (R : Real17 (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) (m ((c : Thread nD τ).loc main_arg15))
      (m ((c : Thread nD τ).loc main_arg16)) w Q) :
    Blk (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) (iblk m c 15 t) w (seqs Q t) where
  p r n := by
    have ht : t.val < 8 := t.isLt
    refine (blk0 m c t r n ⟨64 * t.val + r.val, by omega⟩ rfl).trans (R.p _ (tR r) _ _ ?_)
    show 64 * t.val + r.val = 4 * (16 * t.val + r.val / 4) + r.val % 4
    omega
  hg s h i j := (blk3 m c t s h i j _ rfl).trans (R.hg _ _ _ _)
  lb a j := (blk12 m c t a j).trans (R.lb a j)

end Cert.Rec
end
-- ==== Proof.RecOut17.lean ====
/- The last row of every sequence in the result. -/
module

public import proofs.«01_k».proof.Proof.RecBlk

@[expose] public section

set_option maxRecDepth 16384

noncomputable section

namespace Cert.Rec

open Idealize.ShloMosaic Idealize.ShloMosaic.TcCoe Idealize.SL.Sem Cert.KernelIdeal Cert.KernelIdeal.Gen
open Idealize.ShloMosaic.Pipeline (Dat)

/-- Row `4s+3` picked out by a row of zeros and a one. -/
theorem pick_at (v : FVec Ideal S1x64x1792 .f32) {S : Fin 16 → Sq}
    (h : ∀ (r : Fin 64) (n : Fin 1792), v (ix3 0 r n) = (((S (sR r)).p (tR r) ⟨n.val, by omega⟩ : ℝ) : EReal)) (s : Fin 16) (n : Fin 1792) :
    k0_pay466 (F := Ideal) (k0_pay458 (F := Ideal) v) (ix3 0 s n) = (((S s).p 3 ⟨n.val, by omega⟩ : ℝ) : EReal) := by
  pointwise [k0_pay466, k0_pay458]
  have e : IntOp.addi (IntOp.muli (BitVec.ofNat 32 s.val) 4#32) 3#32 = BitVec.ofNat 32 (4 * s.val + 3) := by
    revert s; decide
  have wf : ∀ x : Fin 64, FloatOps.sitofp (F := Ideal) FTy.f32 (BitVec.setWidth 32 (IntOp.cmpi CmpIPredicate.eq (IntOp.addi (IntOp.muli (BitVec.ofNat 32 s.val) 4#32) 3#32) (BitVec.ofNat 32 x.val)))
      = if (⟨4 * s.val + 3, by omega⟩ : Fin 64).val = x.val then (1 : EReal) else 0 := by
    intro x
    rw [e, w_eq _ _ (by omega) (by omega), w_flag]
  have hot : ∀ f : Fin 64 → EReal, ∑ x : Fin 64, (if 4 * s.val + 3 = x.val then (1 : EReal) else 0) * f x = f ⟨4 * s.val + 3, by omega⟩ := fun f => sum_hot (⟨4 * s.val + 3, by omega⟩ : Fin 64) f
  simp only [wf, hot, h, l_sub, l_add, sub_self, add_zero]
  have es : sR ⟨4 * s.val + 3, by omega⟩ = s := Fin.ext (by show (4 * s.val + 3) / 4 = s.val; omega)
  have et : tR ⟨4 * s.val + 3, by omega⟩ = 3 := Fin.ext (by show (4 * s.val + 3) % 4 = 3; omega)
  rw [es, et]

variable (m : (ℓ : Loc nD τ sig) → Buf (Elt Ideal) ℓ) (c : Dev nD) (t : Fin cfg0.N)
variable {w : Wt} {S : Fin 16 → Sq}
variable (B : Blk (iblk m c 0 t) (iblk m c 1 t) (iblk m c 2 t) (iblk m c 3 t) (iblk m c 4 t) (iblk m c 5 t) (iblk m c 6 t) (iblk m c 7 t) (iblk m c 8 t) (iblk m c 9 t)
  (iblk m c 10 t) (iblk m c 11 t) (iblk m c 12 t) (iblk m c 13 t) (iblk m c 14 t) (iblk m c 15 t) w S)

include B

theorem out17 (s : Fin 16) (n : Fin 1792) : (outsAt0 m c t).2.1 (ix3 0 s n) = (((S s).p 3 ⟨n.val, by omega⟩ : ℝ) : EReal) := by
  dsimp only [outsAt0]
  unfold out0_A_17
  frame_out
  refine pick_at _ (fun r n => ?_) s n
  pointwise []
  exact B.p r _

omit B in
/-- The shift result, from the projections. -/
def shiftAt (Q : Fin 128 → Sq) (i : S8x16x1792.Idx) : EReal :=
  (((Q ⟨16 * (i 0).val + (i 1).val, by have h : (i 0).val < 8 := (i 0).isLt; have h : (i 1).val < 16 := (i 1).isLt; omega⟩).p 3
    ⟨(i 2).val, by have h : (i 2).val < 1792 := (i 2).isLt; omega⟩ : ℝ) : EReal)

omit B in
theorem final17 {Q : Fin 128 → Sq}
    (R : Real17 (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) (m ((c : Thread nD τ).loc main_arg15))
      (m ((c : Thread nD τ).loc main_arg16)) w Q) : (dats m 0 c).arrAt 17 cfg0.N = shiftAt Q := by
  refine (dats m 0 c).arrAt_eq_of_covers 17 _ (by decide +kernel) fun t _ y => ?_
  obtain ⟨z, s, n, rfl⟩ : ∃ z s n, y = ix3 z s n := ⟨y 0, y 1, y 2, eq_ix3 y⟩
  obtain rfl : z = 0 := Subsingleton.elim _ _
  have ht : t.val < 8 := t.isLt
  have e : ((cfg0.win 17).blk t).view.emb (ix3 0 s n) = (ix3 ⟨t.val, by omega⟩ s n : S8x16x1792.Idx) := by blk_ext [idx t]
  blk_simp
  rw [after0_17, out17 m c t (blk_real m c t R) s n]
  refine Eq.trans ?_ (congrArg (shiftAt Q) e.symm)
  rfl

end Cert.Rec
end
-- ==== Proof.RecScr.lean ====
/- A scratch array filled rectangle by rectangle, read at an index. -/
module

public import proofs.«01_k».proof.Proof.RecA

@[expose] public section

set_option maxRecDepth 16384

noncomputable section

namespace Cert.Rec

open Idealize.ShloMosaic Idealize.ShloMosaic.TcCoe Idealize.SL.Sem Cert.KernelIdeal Cert.KernelIdeal.Gen

/-- The contents of the state's scratch array, by head, sequence, row and column. -/
def scr (H : Fin 4 → Fin 16 → Fin 128 → Fin 128 → EReal) (y : S1x4x2048x128.Idx) : EReal :=
  H (y 1) ⟨(y 2).val / 128, by have : (y 2).val < 2048 := (y 2).isLt; omega⟩ ⟨(y 2).val % 128, by omega⟩ (y 3)

/-- The list's rectangles of rank less than `n` hold `H`. -/
def Good (rk : ℕ → ℕ → ℕ) (H : Fin 4 → Fin 16 → Fin 128 → Fin 128 → EReal) (n : ℕ) (L : List (View.Piece (Elt Ideal) S1x4x2048x128 .f32)) : Prop :=
  ∀ y : S1x4x2048x128.Idx, rk (y 1).val ((y 2).val / 128) < n → View.canon L y = scr H y

theorem good_zero (rk : ℕ → ℕ → ℕ) (H : Fin 4 → Fin 16 → Fin 128 → Fin 128 → EReal) (L : List (View.Piece (Elt Ideal) S1x4x2048x128 .f32)) : Good rk H 0 L :=
  fun y h => absurd h (by omega)

theorem good_step {rk : ℕ → ℕ → ℕ} {H : Fin 4 → Fin 16 → Fin 128 → Fin 128 → EReal} {n : ℕ} {L : List (View.Piece (Elt Ideal) S1x4x2048x128 .f32)}
    (h : Fin 4) (s : Fin 16) (a o : ℕ) (inb : ∀ i, (![0, a, o, 0] : Fin 4 → ℕ) i + S1x1x128x128.size i ≤ S1x4x2048x128.size i)
    (v : FVec Ideal S1x1x128x128 .f32) (ha : a = h.val) (ho : o = 128 * s.val)
    (hr : ∀ h' s' : ℕ, h' < 4 → s' < 16 → rk h' s' = n → h' = h.val ∧ s' = s.val)
    (hv : ∀ i j, v (ix4 0 0 i j) = H h s i j) (hL : Good rk H n L) :
    Good rk H (n + 1) (⟨Rect.unit ![0, a, o, 0] S1x1x128x128.size inb, v⟩ :: L) := by
  intro y hy
  subst ha ho
  have b1 : (y 1).val < 4 := (y 1).isLt
  have b2 : (y 2).val < 2048 := (y 2).isLt
  by_cases e : (y 1).val = h.val ∧ (y 2).val / 128 = s.val
  · have hy' : y = (Rect.unit (s := S1x4x2048x128) ![0, h.val, 128 * s.val, 0] S1x1x128x128.size inb).emb (ix4 (n0 := 1) (n1 := 1) (n2 := 128) (n3 := 128) 0 0 ⟨(y 2).val % 128, by omega⟩ (y 3)) := by
      funext i
      apply Fin.ext
      rw [Rect.emb_apply]
      obtain ⟨e1, e2⟩ := e
      have b0 : (y 0).val < 1 := (y 0).isLt
      fin_cases i
      · show (y 0).val = 0 + 1 * 0; omega
      · show (y 1).val = h.val + 1 * 0; omega
      · show (y 2).val = 128 * s.val + 1 * ((y 2).val % 128); omega
      · show (y 3).val = 0 + 1 * (y 3).val; omega
    rw [hy']
    refine (View.canon_cons_emb _ _ _ _).trans ?_
    rw [← hy']
    refine (hv _ _).trans ?_
    unfold scr
    have e1 : h = y 1 := Fin.ext e.1.symm
    have e2 : s = ⟨(y 2).val / 128, by omega⟩ := Fin.ext e.2.symm
    rw [← e1, ← e2]
  · refine (View.canon_cons_of_not_mem _ L ?_).trans (hL y ?_)
    · intro hm
      have hm' := (Rect.mem_set_unit (s := S1x4x2048x128) (inb := inb)).1 hm
      have h1 : h.val ≤ (y 1).val ∧ (y 1).val < h.val + 1 := hm' 1
      have h2 : 128 * s.val ≤ (y 2).val ∧ (y 2).val < 128 * s.val + 128 := hm' 2
      exact e ⟨by omega, by omega⟩
    · have := hr (y 1).val ((y 2).val / 128) b1 (by omega)
      by_contra hc
      exact e (this (by omega))

theorem good_at {rk : ℕ → ℕ → ℕ} {H : Fin 4 → Fin 16 → Fin 128 → Fin 128 → EReal} {L : List (View.Piece (Elt Ideal) S1x4x2048x128 .f32)} {n : ℕ} (hg : Good rk H n L)
    (hn : ∀ h s : ℕ, h < 4 → s < 16 → rk h s < n) (y : S1x4x2048x128.Idx) (h : Fin 4) (s : Fin 16) (a b : Fin 128) (h1 : (y 1).val = h.val)
    (h2 : (y 2).val = 128 * s.val + a.val) (h3 : (y 3).val = b.val) : View.canon L y = H h s a b := by
  have b1 : (y 1).val < 4 := (y 1).isLt
  have b2 : (y 2).val < 2048 := (y 2).isLt
  refine (hg y (hn _ _ b1 (by omega))).trans ?_
  unfold scr
  have e1 : y 1 = h := Fin.ext h1
  have e2 : (⟨(y 2).val / 128, by omega⟩ : Fin 16) = s := Fin.ext (by show (y 2).val / 128 = s.val; omega)
  have e3 : (⟨(y 2).val % 128, by omega⟩ : Fin 128) = a := Fin.ext (by show (y 2).val % 128 = a.val; omega)
  have e4 : y 3 = b := Fin.ext h3
  rw [e1, e2, e3, e4]

/-- The same for the array of the results. -/
def GoodOut (H : Fin 4 → Fin 16 → Fin 128 → Fin 128 → EReal) (n : ℕ) (L : List (View.Piece (Elt Ideal) S16x4x128x128 .f32)) : Prop :=
  ∀ y : S16x4x128x128.Idx, 4 * (y 0).val + (y 1).val < n → View.canon L y = H (y 1) (y 0) (y 2) (y 3)

theorem goodOut_zero (H : Fin 4 → Fin 16 → Fin 128 → Fin 128 → EReal) (L : List (View.Piece (Elt Ideal) S16x4x128x128 .f32)) : GoodOut H 0 L :=
  fun y h => absurd h (by omega)

theorem goodOut_step {H : Fin 4 → Fin 16 → Fin 128 → Fin 128 → EReal} {n : ℕ} {L : List (View.Piece (Elt Ideal) S16x4x128x128 .f32)}
    (h : Fin 4) (s : Fin 16) (a o : ℕ) (inb : ∀ i, (![o, a, 0, 0] : Fin 4 → ℕ) i + S1x1x128x128.size i ≤ S16x4x128x128.size i)
    (v : FVec Ideal S1x1x128x128 .f32) (ha : a = h.val) (ho : o = s.val) (hn : n = 4 * s.val + h.val)
    (hv : ∀ i j, v (ix4 0 0 i j) = H h s i j) (hL : GoodOut H n L) :
    GoodOut H (n + 1) (⟨Rect.unit ![o, a, 0, 0] S1x1x128x128.size inb, v⟩ :: L) := by
  intro y hy
  subst ha ho
  have b0 : (y 0).val < 16 := (y 0).isLt
  have b1 : (y 1).val < 4 := (y 1).isLt
  by_cases e : (y 1).val = h.val ∧ (y 0).val = s.val
  · have hy' : y = (Rect.unit (s := S16x4x128x128) ![s.val, h.val, 0, 0] S1x1x128x128.size inb).emb (ix4 (n0 := 1) (n1 := 1) (n2 := 128) (n3 := 128) 0 0 (y 2) (y 3)) := by
      funext i
      apply Fin.ext
      rw [Rect.emb_apply]
      obtain ⟨e1, e2⟩ := e
      fin_cases i
      · show (y 0).val = s.val + 1 * 0; omega
      · show (y 1).val = h.val + 1 * 0; omega
      · show (y 2).val = 0 + 1 * (y 2).val; omega
      · show (y 3).val = 0 + 1 * (y 3).val; omega
    rw [hy']
    refine (View.canon_cons_emb _ _ _ _).trans ?_
    rw [← hy']
    refine (hv _ _).trans ?_
    have e1 : h = y 1 := Fin.ext e.1.symm
    have e2 : s = y 0 := Fin.ext e.2.symm
    rw [← e1, ← e2]
  · refine (View.canon_cons_of_not_mem _ L ?_).trans (hL y ?_)
    · intro hm
      have hm' := (Rect.mem_set_unit (s := S16x4x128x128) (inb := inb)).1 hm
      have h1 : h.val ≤ (y 1).val ∧ (y 1).val < h.val + 1 := hm' 1
      have h2 : s.val ≤ (y 0).val ∧ (y 0).val < s.val + 1 := hm' 0
      exact e ⟨by omega, by omega⟩
    · by_contra hc
      exact e (by omega)

end Cert.Rec
end
-- ==== Proof.RecH.lean ====
/- The states of the linear recurrence in their scratch array. -/
module

public import proofs.«01_k».proof.Proof.RecScr

@[expose] public section

set_option maxRecDepth 16384

noncomputable section

namespace Cert.Rec

open Idealize.ShloMosaic Idealize.ShloMosaic.TcCoe Idealize.SL.Sem Cert.KernelIdeal Cert.KernelIdeal.Gen

variable (c : Dev nD)
variable (arg2 : Memref sig .tc .vmem S1x64x3840 .f32) (harg2 : arg2.IsWhole) (x0 : Vec Ideal S1x64x3840 .f32)
variable (arg3 : Memref sig .tc .vmem S1x16x1792 .f32) (harg3 : arg3.IsWhole) (x1 : Vec Ideal S1x16x1792 .f32)
variable (arg4 : Memref sig .tc .vmem S16x8x64x64 .f32) (harg4 : arg4.IsWhole) (x2 : Vec Ideal S16x8x64x64 .f32)
variable (arg5 : Memref sig .tc .vmem S16x4x128x128 .f32) (harg5 : arg5.IsWhole) (x3 : Vec Ideal S16x4x128x128 .f32)
variable (arg6 : Memref sig .tc .vmem S1x1792 .f32) (harg6 : arg6.IsWhole) (x4 : Vec Ideal S1x1792 .f32)
variable (arg7 : Memref sig .tc .vmem S1x512 .f32) (harg7 : arg7.IsWhole) (x5 : Vec Ideal S1x512 .f32)
variable (arg8 : Memref sig .tc .vmem S1x512 .f32) (harg8 : arg8.IsWhole) (x6 : Vec Ideal S1x512 .f32)
variable (arg9 : Memref sig .tc .vmem S1x512 .f32) (harg9 : arg9.IsWhole) (x7 : Vec Ideal S1x512 .f32)
variable (arg10 : Memref sig .tc .vmem S1x512 .f32) (harg10 : arg10.IsWhole) (x8 : Vec Ideal S1x512 .f32)
variable (arg11 : Memref sig .tc .vmem S1x512 .f32) (harg11 : arg11.IsWhole) (x9 : Vec Ideal S1x512 .f32)
variable (arg12 : Memref sig .tc .vmem S1x512 .f32) (harg12 : arg12.IsWhole) (x10 : Vec Ideal S1x512 .f32)
variable (arg13 : Memref sig .tc .vmem S1x512 .f32) (harg13 : arg13.IsWhole) (x11 : Vec Ideal S1x512 .f32)
variable (arg14 : Memref sig .tc .vmem S2x512 .f32) (harg14 : arg14.IsWhole) (x12 : Vec Ideal S2x512 .f32)
variable (arg15 : Memref sig .tc .vmem S1x128 .f32) (harg15 : arg15.IsWhole) (x13 : Vec Ideal S1x128 .f32)
variable (arg16 : Memref sig .tc .vmem S128x1024 .bf16) (harg16 : arg16.IsWhole) (x14 : Vec Ideal S128x1024 .bf16)
variable (arg17 : Memref sig .tc .vmem S128x512 .bf16) (harg17 : arg17.IsWhole) (x15 : Vec Ideal S128x512 .bf16)
variable (arg22 : Memref sig .tc .vmem S1x4x2048x128 .f32) (arg23 : Memref sig .tc .vmem S1x4x2048x128 .f32)
variable {w : Wt} {S : Fin 16 → Sq}
variable (B : Blk x0 x1 x2 x3 x4 x5 x6 x7 x8 x9 x10 x11 x12 x13 x14 x15 w S)

/-- The states before the block's steps, transposed. -/
def before (S : Fin 16 → Sq) (h : Fin 4) (s : Fin 16) (a b : Fin 128) : EReal := (S s).hg h b a

include B

theorem before_good : Good (fun h s => 4 * s + h) (before S) 64 (kernelRun0_A.sl.HS1_64 (F := Ideal) c arg5 harg5 x3) := by
  unfold kernelRun0_A.sl.HS1_64
  refine good_step 3 15 3 1920 _ _ rfl rfl (by intro a b ha hb hr; have hr : 4 * b + a = 63 := hr; show a = 3 ∧ b = 15; omega) (fun i j => ?_) ?_
  · simp only [kernelRun0_A.sl.v4694, View.readAt_eq_ld, Memref.IsWhole.read_unread]; pointwise [k0_pay457]; exact B.hg _ _ _ _
  refine good_step 2 15 2 1920 _ _ rfl rfl (by intro a b ha hb hr; have hr : 4 * b + a = 62 := hr; show a = 2 ∧ b = 15; omega) (fun i j => ?_) ?_
  · simp only [kernelRun0_A.sl.v4692, kernelRun0_A.sl.v4689, kernelRun0_A.sl.v4688, View.readAt_eq_ld, Memref.IsWhole.read_unread]; pointwise []; exact B.hg _ _ _ _
  refine good_step 1 15 1 1920 _ _ rfl rfl (by intro a b ha hb hr; have hr : 4 * b + a = 61 := hr; show a = 1 ∧ b = 15; omega) (fun i j => ?_) ?_
  · simp only [kernelRun0_A.sl.v4686, kernelRun0_A.sl.v4683, kernelRun0_A.sl.v4682, View.readAt_eq_ld, Memref.IsWhole.read_unread]; pointwise []; exact B.hg _ _ _ _
  refine good_step 0 15 0 1920 _ _ rfl rfl (by intro a b ha hb hr; have hr : 4 * b + a = 60 := hr; show a = 0 ∧ b = 15; omega) (fun i j => ?_) ?_
  · simp only [kernelRun0_A.sl.v4680, kernelRun0_A.sl.v4677, kernelRun0_A.sl.v4676, View.readAt_eq_ld, Memref.IsWhole.read_unread]; pointwise []; exact B.hg _ _ _ _
  refine good_step 3 14 3 1792 _ _ rfl rfl (by intro a b ha hb hr; have hr : 4 * b + a = 59 := hr; show a = 3 ∧ b = 14; omega) (fun i j => ?_) ?_
  · simp only [kernelRun0_A.sl.v4634, kernelRun0_A.sl.v4631, kernelRun0_A.sl.v4630, View.readAt_eq_ld, Memref.IsWhole.read_unread]; pointwise []; exact B.hg _ _ _ _
  refine good_step 2 14 2 1792 _ _ rfl rfl (by intro a b ha hb hr; have hr : 4 * b + a = 58 := hr; show a = 2 ∧ b = 14; omega) (fun i j => ?_) ?_
  · simp only [kernelRun0_A.sl.v4628, kernelRun0_A.sl.v4625, kernelRun0_A.sl.v4624, View.readAt_eq_ld, Memref.IsWhole.read_unread]; pointwise []; exact B.hg _ _ _ _
  refine good_step 1 14 1 1792 _ _ rfl rfl (by intro a b ha hb hr; have hr : 4 * b + a = 57 := hr; show a = 1 ∧ b = 14; omega) (fun i j => ?_) ?_
  · simp only [kernelRun0_A.sl.v4622, kernelRun0_A.sl.v4619, kernelRun0_A.sl.v4618, View.readAt_eq_ld, Memref.IsWhole.read_unread]; pointwise []; exact B.hg _ _ _ _
  refine good_step 0 14 0 1792 _ _ rfl rfl (by intro a b ha hb hr; have hr : 4 * b + a = 56 := hr; show a = 0 ∧ b = 14; omega) (fun i j => ?_) ?_
  · simp only [kernelRun0_A.sl.v4616, kernelRun0_A.sl.v4613, kernelRun0_A.sl.v4612, View.readAt_eq_ld, Memref.IsWhole.read_unread]; pointwise []; exact B.hg _ _ _ _
  refine good_step 3 13 3 1664 _ _ rfl rfl (by intro a b ha hb hr; have hr : 4 * b + a = 55 := hr; show a = 3 ∧ b = 13; omega) (fun i j => ?_) ?_
  · simp only [kernelRun0_A.sl.v4570, kernelRun0_A.sl.v4567, kernelRun0_A.sl.v4566, View.readAt_eq_ld, Memref.IsWhole.read_unread]; pointwise []; exact B.hg _ _ _ _
  refine good_step 2 13 2 1664 _ _ rfl rfl (by intro a b ha hb hr; have hr : 4 * b + a = 54 := hr; show a = 2 ∧ b = 13; omega) (fun i j => ?_) ?_
  · simp only [kernelRun0_A.sl.v4564, kernelRun0_A.sl.v4561, kernelRun0_A.sl.v4560, kernelRun0_A.sl.r_6, View.readAt_eq_ld, Memref.IsWhole.read_unread]; pointwise []; exact B.hg _ _ _ _
  refine good_step 1 13 1 1664 _ _ rfl rfl (by intro a b ha hb hr; have hr : 4 * b + a = 53 := hr; show a = 1 ∧ b = 13; omega) (fun i j => ?_) ?_
  · simp only [kernelRun0_A.sl.v4558, kernelRun0_A.sl.v4555, kernelRun0_A.sl.v4554, View.readAt_eq_ld, Memref.IsWhole.read_unread]; pointwise []; exact B.hg _ _ _ _
  refine good_step 0 13 0 1664 _ _ rfl rfl (by intro a b ha hb hr; have hr : 4 * b + a = 52 := hr; show a = 0 ∧ b = 13; omega) (fun i j => ?_) ?_
  · simp only [kernelRun0_A.sl.v4552, kernelRun0_A.sl.v4549, kernelRun0_A.sl.v4548, View.readAt_eq_ld, Memref.IsWhole.read_unread]; pointwise []; exact B.hg _ _ _ _
  refine good_step 3 12 3 1536 _ _ rfl rfl (by intro a b ha hb hr; have hr : 4 * b + a = 51 := hr; show a = 3 ∧ b = 12; omega) (fun i j => ?_) ?_
  · simp only [kernelRun0_A.sl.v4506, kernelRun0_A.sl.v4503, kernelRun0_A.sl.v4502, View.readAt_eq_ld, Memref.IsWhole.read_unread]; pointwise []; exact B.hg _ _ _ _
  refine good_step 2 12 2 1536 _ _ rfl rfl (by intro a b ha hb hr; have hr : 4 * b + a = 50 := hr; show a = 2 ∧ b = 12; omega) (fun i j => ?_) ?_
  · simp only [kernelRun0_A.sl.v4500, kernelRun0_A.sl.v4497, kernelRun0_A.sl.v4496, View.readAt_eq_ld, Memref.IsWhole.read_unread]; pointwise []; exact B.hg _ _ _ _
  refine good_step 1 12 1 1536 _ _ rfl rfl (by intro a b ha hb hr; have hr : 4 * b + a = 49 := hr; show a = 1 ∧ b = 12; omega) (fun i j => ?_) ?_
  · simp only [kernelRun0_A.sl.v4494, kernelRun0_A.sl.v4491, kernelRun0_A.sl.v4490, View.readAt_eq_ld, Memref.IsWhole.read_unread]; pointwise []; exact B.hg _ _ _ _
  refine good_step 0 12 0 1536 _ _ rfl rfl (by intro a b ha hb hr; have hr : 4 * b + a = 48 := hr; show a = 0 ∧ b = 12; omega) (fun i j => ?_) ?_
  · simp only [kernelRun0_A.sl.v4488, kernelRun0_A.sl.v4485, kernelRun0_A.sl.v4484, View.readAt_eq_ld, Memref.IsWhole.read_unread]; pointwise []; exact B.hg _ _ _ _
  refine good_step 3 11 3 1408 _ _ rfl rfl (by intro a b ha hb hr; have hr : 4 * b + a = 47 := hr; show a = 3 ∧ b = 11; omega) (fun i j => ?_) ?_
  · simp only [kernelRun0_A.sl.v4442, kernelRun0_A.sl.v4439, kernelRun0_A.sl.v4438, View.readAt_eq_ld, Memref.IsWhole.read_unread]; pointwise []; exact B.hg _ _ _ _
  refine good_step 2 11 2 1408 _ _ rfl rfl (by intro a b ha hb hr; have hr : 4 * b + a = 46 := hr; show a = 2 ∧ b = 11; omega) (fun i j => ?_) ?_
  · simp only [kernelRun0_A.sl.v4436, kernelRun0_A.sl.v4433, kernelRun0_A.sl.v4432, View.readAt_eq_ld, Memref.IsWhole.read_unread]; pointwise []; exact B.hg _ _ _ _
  refine good_step 1 11 1 1408 _ _ rfl rfl (by intro a b ha hb hr; have hr : 4 * b + a = 45 := hr; show a = 1 ∧ b = 11; omega) (fun i j => ?_) ?_
  · simp only [kernelRun0_A.sl.v4430, kernelRun0_A.sl.v4427, kernelRun0_A.sl.v4426, View.readAt_eq_ld, Memref.IsWhole.read_unread]; pointwise []; exact B.hg _ _ _ _
  refine good_step 0 11 0 1408 _ _ rfl rfl (by intro a b ha hb hr; have hr : 4 * b + a = 44 := hr; show a = 0 ∧ b = 11; omega) (fun i j => ?_) ?_
  · simp only [kernelRun0_A.sl.v4424, kernelRun0_A.sl.v4421, kernelRun0_A.sl.v4420, View.readAt_eq_ld, Memref.IsWhole.read_unread]; pointwise []; exact B.hg _ _ _ _
  refine good_step 3 10 3 1280 _ _ rfl rfl (by intro a b ha hb hr; have hr : 4 * b + a = 43 := hr; show a = 3 ∧ b = 10; omega) (fun i j => ?_) ?_
  · simp only [kernelRun0_A.sl.v4378, kernelRun0_A.sl.v4375, kernelRun0_A.sl.v4374, View.readAt_eq_ld, Memref.IsWhole.read_unread]; pointwise []; exact B.hg _ _ _ _
  refine good_step 2 10 2 1280 _ _ rfl rfl (by intro a b ha hb hr; have hr : 4 * b + a = 42 := hr; show a = 2 ∧ b = 10; omega) (fun i j => ?_) ?_
  · simp only [kernelRun0_A.sl.v4372, kernelRun0_A.sl.v4369, kernelRun0_A.sl.v4368, View.readAt_eq_ld, Memref.IsWhole.read_unread]; pointwise []; exact B.hg _ _ _ _
  refine good_step 1 10 1 1280 _ _ rfl rfl (by intro a b ha hb hr; have hr : 4 * b + a = 41 := hr; show a = 1 ∧ b = 10; omega) (fun i j => ?_) ?_
  · simp only [kernelRun0_A.sl.v4366, kernelRun0_A.sl.v4363, kernelRun0_A.sl.v4362, View.readAt_eq_ld, Memref.IsWhole.read_unread]; pointwise []; exact B.hg _ _ _ _
  refine good_step 0 10 0 1280 _ _ rfl rfl (by intro a b ha hb hr; have hr : 4 * b + a = 40 := hr; show a = 0 ∧ b = 10; omega) (fun i j => ?_) ?_
  · simp only [kernelRun0_A.sl.v4360, kernelRun0_A.sl.v4357, kernelRun0_A.sl.v4356, View.readAt_eq_ld, Memref.IsWhole.read_unread]; pointwise []; exact B.hg _ _ _ _
  refine good_step 3 9 3 1152 _ _ rfl rfl (by intro a b ha hb hr; have hr : 4 * b + a = 39 := hr; show a = 3 ∧ b = 9; omega) (fun i j => ?_) ?_
  · simp only [kernelRun0_A.sl.v4314, kernelRun0_A.sl.v4311, kernelRun0_A.sl.v4310, View.readAt_eq_ld, Memref.IsWhole.read_unread]; pointwise []; exact B.hg _ _ _ _
  refine good_step 2 9 2 1152 _ _ rfl rfl (by intro a b ha hb hr; have hr : 4 * b + a = 38 := hr; show a = 2 ∧ b = 9; omega) (fun i j => ?_) ?_
  · simp only [kernelRun0_A.sl.v4308, kernelRun0_A.sl.v4305, kernelRun0_A.sl.v4304, View.readAt_eq_ld, Memref.IsWhole.read_unread]; pointwise []; exact B.hg _ _ _ _
  refine good_step 1 9 1 1152 _ _ rfl rfl (by intro a b ha hb hr; have hr : 4 * b + a = 37 := hr; show a = 1 ∧ b = 9; omega) (fun i j => ?_) ?_
  · simp only [kernelRun0_A.sl.v4302, kernelRun0_A.sl.v4299, kernelRun0_A.sl.v4298, View.readAt_eq_ld, Memref.IsWhole.read_unread]; pointwise []; exact B.hg _ _ _ _
  refine good_step 0 9 0 1152 _ _ rfl rfl (by intro a b ha hb hr; have hr : 4 * b + a = 36 := hr; show a = 0 ∧ b = 9; omega) (fun i j => ?_) ?_
  · simp only [kernelRun0_A.sl.v4296, kernelRun0_A.sl.v4293, kernelRun0_A.sl.v4292, View.readAt_eq_ld, Memref.IsWhole.read_unread]; pointwise []; exact B.hg _ _ _ _
  refine good_step 3 8 3 1024 _ _ rfl rfl (by intro a b ha hb hr; have hr : 4 * b + a = 35 := hr; show a = 3 ∧ b = 8; omega) (fun i j => ?_) ?_
  · simp only [kernelRun0_A.sl.v4250, kernelRun0_A.sl.v4247, kernelRun0_A.sl.v4246, View.readAt_eq_ld, Memref.IsWhole.read_unread]; pointwise []; exact B.hg _ _ _ _
  refine good_step 2 8 2 1024 _ _ rfl rfl (by intro a b ha hb hr; have hr : 4 * b + a = 34 := hr; show a = 2 ∧ b = 8; omega) (fun i j => ?_) ?_
  · simp only [kernelRun0_A.sl.v4244, kernelRun0_A.sl.v4241, kernelRun0_A.sl.v4240, View.readAt_eq_ld, Memref.IsWhole.read_unread]; pointwise []; exact B.hg _ _ _ _
  refine good_step 1 8 1 1024 _ _ rfl rfl (by intro a b ha hb hr; have hr : 4 * b + a = 33 := hr; show a = 1 ∧ b = 8; omega) (fun i j => ?_) ?_
  · simp only [kernelRun0_A.sl.v4238, kernelRun0_A.sl.v4235, kernelRun0_A.sl.v4234, View.readAt_eq_ld, Memref.IsWhole.read_unread]; pointwise []; exact B.hg _ _ _ _
  refine good_step 0 8 0 1024 _ _ rfl rfl (by intro a b ha hb hr; have hr : 4 * b + a = 32 := hr; show a = 0 ∧ b = 8; omega) (fun i j => ?_) ?_
  · simp only [kernelRun0_A.sl.v4232, kernelRun0_A.sl.v4229, kernelRun0_A.sl.v4228, View.readAt_eq_ld, Memref.IsWhole.read_unread]; pointwise []; exact B.hg _ _ _ _
  refine good_step 3 7 3 896 _ _ rfl rfl (by intro a b ha hb hr; have hr : 4 * b + a = 31 := hr; show a = 3 ∧ b = 7; omega) (fun i j => ?_) ?_
  · simp only [kernelRun0_A.sl.v4186, kernelRun0_A.sl.v4183, kernelRun0_A.sl.v4182, View.readAt_eq_ld, Memref.IsWhole.read_unread]; pointwise []; exact B.hg _ _ _ _
  refine good_step 2 7 2 896 _ _ rfl rfl (by intro a b ha hb hr; have hr : 4 * b + a = 30 := hr; show a = 2 ∧ b = 7; omega) (fun i j => ?_) ?_
  · simp only [kernelRun0_A.sl.v4180, kernelRun0_A.sl.v4177, kernelRun0_A.sl.v4176, View.readAt_eq_ld, Memref.IsWhole.read_unread]; pointwise []; exact B.hg _ _ _ _
  refine good_step 1 7 1 896 _ _ rfl rfl (by intro a b ha hb hr; have hr : 4 * b + a = 29 := hr; show a = 1 ∧ b = 7; omega) (fun i j => ?_) ?_
  · simp only [kernelRun0_A.sl.v4174, kernelRun0_A.sl.v4171, kernelRun0_A.sl.v4170, View.readAt_eq_ld, Memref.IsWhole.read_unread]; pointwise []; exact B.hg _ _ _ _
  refine good_step 0 7 0 896 _ _ rfl rfl (by intro a b ha hb hr; have hr : 4 * b + a = 28 := hr; show a = 0 ∧ b = 7; omega) (fun i j => ?_) ?_
  · simp only [kernelRun0_A.sl.v4168, kernelRun0_A.sl.v4165, kernelRun0_A.sl.v4164, View.readAt_eq_ld, Memref.IsWhole.read_unread]; pointwise []; exact B.hg _ _ _ _
  refine good_step 3 6 3 768 _ _ rfl rfl (by intro a b ha hb hr; have hr : 4 * b + a = 27 := hr; show a = 3 ∧ b = 6; omega) (fun i j => ?_) ?_
  · simp only [kernelRun0_A.sl.v4122, kernelRun0_A.sl.v4119, kernelRun0_A.sl.v4118, View.readAt_eq_ld, Memref.IsWhole.read_unread]; pointwise []; exact B.hg _ _ _ _
  refine good_step 2 6 2 768 _ _ rfl rfl (by intro a b ha hb hr; have hr : 4 * b + a = 26 := hr; show a = 2 ∧ b = 6; omega) (fun i j => ?_) ?_
  · simp only [kernelRun0_A.sl.v4116, kernelRun0_A.sl.v4113, kernelRun0_A.sl.v4112, View.readAt_eq_ld, Memref.IsWhole.read_unread]; pointwise []; exact B.hg _ _ _ _
  refine good_step 1 6 1 768 _ _ rfl rfl (by intro a b ha hb hr; have hr : 4 * b + a = 25 := hr; show a = 1 ∧ b = 6; omega) (fun i j => ?_) ?_
  · simp only [kernelRun0_A.sl.v4110, kernelRun0_A.sl.v4107, kernelRun0_A.sl.v4106, View.readAt_eq_ld, Memref.IsWhole.read_unread]; pointwise []; exact B.hg _ _ _ _
  refine good_step 0 6 0 768 _ _ rfl rfl (by intro a b ha hb hr; have hr : 4 * b + a = 24 := hr; show a = 0 ∧ b = 6; omega) (fun i j => ?_) ?_
  · simp only [kernelRun0_A.sl.v4104, kernelRun0_A.sl.v4101, kernelRun0_A.sl.v4100, View.readAt_eq_ld, Memref.IsWhole.read_unread]; pointwise []; exact B.hg _ _ _ _
  refine good_step 3 5 3 640 _ _ rfl rfl (by intro a b ha hb hr; have hr : 4 * b + a = 23 := hr; show a = 3 ∧ b = 5; omega) (fun i j => ?_) ?_
  · simp only [kernelRun0_A.sl.v4058, kernelRun0_A.sl.v4055, kernelRun0_A.sl.v4054, View.readAt_eq_ld, Memref.IsWhole.read_unread]; pointwise []; exact B.hg _ _ _ _
  refine good_step 2 5 2 640 _ _ rfl rfl (by intro a b ha hb hr; have hr : 4 * b + a = 22 := hr; show a = 2 ∧ b = 5; omega) (fun i j => ?_) ?_
  · simp only [kernelRun0_A.sl.v4052, kernelRun0_A.sl.v4049, kernelRun0_A.sl.v4048, View.readAt_eq_ld, Memref.IsWhole.read_unread]; pointwise []; exact B.hg _ _ _ _
  refine good_step 1 5 1 640 _ _ rfl rfl (by intro a b ha hb hr; have hr : 4 * b + a = 21 := hr; show a = 1 ∧ b = 5; omega) (fun i j => ?_) ?_
  · simp only [kernelRun0_A.sl.v4046, kernelRun0_A.sl.v4043, kernelRun0_A.sl.v4042, View.readAt_eq_ld, Memref.IsWhole.read_unread]; pointwise []; exact B.hg _ _ _ _
  refine good_step 0 5 0 640 _ _ rfl rfl (by intro a b ha hb hr; have hr : 4 * b + a = 20 := hr; show a = 0 ∧ b = 5; omega) (fun i j => ?_) ?_
  · simp only [kernelRun0_A.sl.v4040, kernelRun0_A.sl.v4037, kernelRun0_A.sl.v4036, View.readAt_eq_ld, Memref.IsWhole.read_unread]; pointwise []; exact B.hg _ _ _ _
  refine good_step 3 4 3 512 _ _ rfl rfl (by intro a b ha hb hr; have hr : 4 * b + a = 19 := hr; show a = 3 ∧ b = 4; omega) (fun i j => ?_) ?_
  · simp only [kernelRun0_A.sl.v3994, kernelRun0_A.sl.v3991, kernelRun0_A.sl.v3990, View.readAt_eq_ld, Memref.IsWhole.read_unread]; pointwise []; exact B.hg _ _ _ _
  refine good_step 2 4 2 512 _ _ rfl rfl (by intro a b ha hb hr; have hr : 4 * b + a = 18 := hr; show a = 2 ∧ b = 4; omega) (fun i j => ?_) ?_
  · simp only [kernelRun0_A.sl.v3988, kernelRun0_A.sl.v3985, kernelRun0_A.sl.v3984, View.readAt_eq_ld, Memref.IsWhole.read_unread]; pointwise []; exact B.hg _ _ _ _
  refine good_step 1 4 1 512 _ _ rfl rfl (by intro a b ha hb hr; have hr : 4 * b + a = 17 := hr; show a = 1 ∧ b = 4; omega) (fun i j => ?_) ?_
  · simp only [kernelRun0_A.sl.v3982, kernelRun0_A.sl.v3979, kernelRun0_A.sl.v3978, View.readAt_eq_ld, Memref.IsWhole.read_unread]; pointwise []; exact B.hg _ _ _ _
  refine good_step 0 4 0 512 _ _ rfl rfl (by intro a b ha hb hr; have hr : 4 * b + a = 16 := hr; show a = 0 ∧ b = 4; omega) (fun i j => ?_) ?_
  · simp only [kernelRun0_A.sl.v3976, kernelRun0_A.sl.v3973, kernelRun0_A.sl.v3972, View.readAt_eq_ld, Memref.IsWhole.read_unread]; pointwise []; exact B.hg _ _ _ _
  refine good_step 3 3 3 384 _ _ rfl rfl (by intro a b ha hb hr; have hr : 4 * b + a = 15 := hr; show a = 3 ∧ b = 3; omega) (fun i j => ?_) ?_
  · simp only [kernelRun0_A.sl.v3930, kernelRun0_A.sl.v3927, kernelRun0_A.sl.v3926, View.readAt_eq_ld, Memref.IsWhole.read_unread]; pointwise []; exact B.hg _ _ _ _
  refine good_step 2 3 2 384 _ _ rfl rfl (by intro a b ha hb hr; have hr : 4 * b + a = 14 := hr; show a = 2 ∧ b = 3; omega) (fun i j => ?_) ?_
  · simp only [kernelRun0_A.sl.v3924, kernelRun0_A.sl.v3921, kernelRun0_A.sl.v3920, View.readAt_eq_ld, Memref.IsWhole.read_unread]; pointwise []; exact B.hg _ _ _ _
  refine good_step 1 3 1 384 _ _ rfl rfl (by intro a b ha hb hr; have hr : 4 * b + a = 13 := hr; show a = 1 ∧ b = 3; omega) (fun i j => ?_) ?_
  · simp only [kernelRun0_A.sl.v3918, kernelRun0_A.sl.v3915, kernelRun0_A.sl.v3914, View.readAt_eq_ld, Memref.IsWhole.read_unread]; pointwise []; exact B.hg _ _ _ _
  refine good_step 0 3 0 384 _ _ rfl rfl (by intro a b ha hb hr; have hr : 4 * b + a = 12 := hr; show a = 0 ∧ b = 3; omega) (fun i j => ?_) ?_
  · simp only [kernelRun0_A.sl.v3912, kernelRun0_A.sl.v3909, kernelRun0_A.sl.v3908, View.readAt_eq_ld, Memref.IsWhole.read_unread]; pointwise []; exact B.hg _ _ _ _
  refine good_step 3 2 3 256 _ _ rfl rfl (by intro a b ha hb hr; have hr : 4 * b + a = 11 := hr; show a = 3 ∧ b = 2; omega) (fun i j => ?_) ?_
  · simp only [kernelRun0_A.sl.v3866, kernelRun0_A.sl.v3863, kernelRun0_A.sl.v3862, View.readAt_eq_ld, Memref.IsWhole.read_unread]; pointwise []; exact B.hg _ _ _ _
  refine good_step 2 2 2 256 _ _ rfl rfl (by intro a b ha hb hr; have hr : 4 * b + a = 10 := hr; show a = 2 ∧ b = 2; omega) (fun i j => ?_) ?_
  · simp only [kernelRun0_A.sl.v3860, kernelRun0_A.sl.v3857, kernelRun0_A.sl.v3856, View.readAt_eq_ld, Memref.IsWhole.read_unread]; pointwise []; exact B.hg _ _ _ _
  refine good_step 1 2 1 256 _ _ rfl rfl (by intro a b ha hb hr; have hr : 4 * b + a = 9 := hr; show a = 1 ∧ b = 2; omega) (fun i j => ?_) ?_
  · simp only [kernelRun0_A.sl.v3854, kernelRun0_A.sl.v3851, kernelRun0_A.sl.v3850, View.readAt_eq_ld, Memref.IsWhole.read_unread]; pointwise []; exact B.hg _ _ _ _
  refine good_step 0 2 0 256 _ _ rfl rfl (by intro a b ha hb hr; have hr : 4 * b + a = 8 := hr; show a = 0 ∧ b = 2; omega) (fun i j => ?_) ?_
  · simp only [kernelRun0_A.sl.v3848, kernelRun0_A.sl.v3845, kernelRun0_A.sl.v3844, View.readAt_eq_ld, Memref.IsWhole.read_unread]; pointwise []; exact B.hg _ _ _ _
  refine good_step 3 1 3 128 _ _ rfl rfl (by intro a b ha hb hr; have hr : 4 * b + a = 7 := hr; show a = 3 ∧ b = 1; omega) (fun i j => ?_) ?_
  · simp only [kernelRun0_A.sl.v3802, kernelRun0_A.sl.v3799, kernelRun0_A.sl.v3798, View.readAt_eq_ld, Memref.IsWhole.read_unread]; pointwise []; exact B.hg _ _ _ _
  refine good_step 2 1 2 128 _ _ rfl rfl (by intro a b ha hb hr; have hr : 4 * b + a = 6 := hr; show a = 2 ∧ b = 1; omega) (fun i j => ?_) ?_
  · simp only [kernelRun0_A.sl.v3796, kernelRun0_A.sl.v3793, kernelRun0_A.sl.v3792, View.readAt_eq_ld, Memref.IsWhole.read_unread]; pointwise []; exact B.hg _ _ _ _
  refine good_step 1 1 1 128 _ _ rfl rfl (by intro a b ha hb hr; have hr : 4 * b + a = 5 := hr; show a = 1 ∧ b = 1; omega) (fun i j => ?_) ?_
  · simp only [kernelRun0_A.sl.v3790, kernelRun0_A.sl.v3787, kernelRun0_A.sl.v3786, View.readAt_eq_ld, Memref.IsWhole.read_unread]; pointwise []; exact B.hg _ _ _ _
  refine good_step 0 1 0 128 _ _ rfl rfl (by intro a b ha hb hr; have hr : 4 * b + a = 4 := hr; show a = 0 ∧ b = 1; omega) (fun i j => ?_) ?_
  · simp only [kernelRun0_A.sl.v3784, kernelRun0_A.sl.v3781, kernelRun0_A.sl.v3780, View.readAt_eq_ld, Memref.IsWhole.read_unread]; pointwise []; exact B.hg _ _ _ _
  refine good_step 3 0 3 0 _ _ rfl rfl (by intro a b ha hb hr; have hr : 4 * b + a = 3 := hr; show a = 3 ∧ b = 0; omega) (fun i j => ?_) ?_
  · simp only [kernelRun0_A.sl.v3738, kernelRun0_A.sl.v3735, kernelRun0_A.sl.v3734, View.readAt_eq_ld, Memref.IsWhole.read_unread]; pointwise []; exact B.hg _ _ _ _
  refine good_step 2 0 2 0 _ _ rfl rfl (by intro a b ha hb hr; have hr : 4 * b + a = 2 := hr; show a = 2 ∧ b = 0; omega) (fun i j => ?_) ?_
  · simp only [kernelRun0_A.sl.v3732, kernelRun0_A.sl.v3729, kernelRun0_A.sl.v3728, View.readAt_eq_ld, Memref.IsWhole.read_unread]; pointwise []; exact B.hg _ _ _ _
  refine good_step 1 0 1 0 _ _ rfl rfl (by intro a b ha hb hr; have hr : 4 * b + a = 1 := hr; show a = 1 ∧ b = 0; omega) (fun i j => ?_) ?_
  · simp only [kernelRun0_A.sl.v3726, kernelRun0_A.sl.v3723, kernelRun0_A.sl.v3722, View.readAt_eq_ld, Memref.IsWhole.read_unread]; pointwise []; exact B.hg _ _ _ _
  refine good_step 0 0 0 0 _ _ rfl rfl (by intro a b ha hb hr; have hr : 4 * b + a = 0 := hr; show a = 0 ∧ b = 0; omega) (fun i j => ?_) ?_
  · simp only [kernelRun0_A.sl.v3720, kernelRun0_A.sl.v3717, kernelRun0_A.sl.v3716, View.readAt_eq_ld, Memref.IsWhole.read_unread]; pointwise []; exact B.hg _ _ _ _
  exact good_zero _ _ _

end Cert.Rec
end
-- ==== Proof.RecHB.lean ====
/- The operands of the linear recurrence, head by head. -/
module

public import proofs.«01_k».proof.Proof.RecH

@[expose] public section

set_option maxRecDepth 16384

noncomputable section

namespace Cert.Rec

open Idealize.ShloMosaic Idealize.ShloMosaic.TcCoe Idealize.SL.Sem Cert.KernelIdeal Cert.KernelIdeal.Gen

/-- A small index compared with a constant. -/
theorem w_seq (r k : ℕ) (hr : r < 256) (hk : k < 4096) : IntOp.cmpi CmpIPredicate.eq (IntOp.shrui ArithUnit.vector (BitVec.ofNat 32 r) 2#32) (BitVec.ofNat 32 k)
    = BitVec.ofBool (decide (r / 4 = k)) := by
  rw [w_shr2 r hr, w_eq _ _ (by omega) hk]

theorem sum_seq_at (k : ℕ) (s : Fin 16) (hk : k = s.val) (f : Fin 64 → ℝ) : (∑ r : Fin 64, if r.val / 4 = k then f r else 0) = ∑ t : Fin 4, f (rw4 s t) := by
  subst hk
  rw [← sum_seq]
  exact Finset.sum_congr rfl fun r _ => by simp only [eq_comm]

theorem mul_flag (P : Prop) [Decidable P] (a b : ℝ) : (a : EReal) * (if P then (b : EReal) else 0) = ((if P then b * a else 0 : ℝ) : EReal) := by
  split
  · rw [l_mul, mul_comm]
  · rw [mul_zero]; rfl

theorem flag_coe (P : Prop) [Decidable P] (a : ℝ) : (if P then (a : EReal) else 0) = ((if P then a else 0 : ℝ) : EReal) := by
  split
  · rfl
  · rfl

/-- The states after the block's steps, transposed. -/
def after (w : Wt) (S : Fin 16 → Sq) (h : Fin 4) (s : Fin 16) (a b : Fin 128) : EReal := hgNew w (S s) h b a

variable (c : Dev nD)
variable (arg2 : Memref sig .tc .vmem S1x64x3840 .f32) (harg2 : arg2.IsWhole) (x0 : Vec Ideal S1x64x3840 .f32)
variable (arg3 : Memref sig .tc .vmem S1x16x1792 .f32) (harg3 : arg3.IsWhole) (x1 : Vec Ideal S1x16x1792 .f32)
variable (arg4 : Memref sig .tc .vmem S16x8x64x64 .f32) (harg4 : arg4.IsWhole) (x2 : Vec Ideal S16x8x64x64 .f32)
variable (arg5 : Memref sig .tc .vmem S16x4x128x128 .f32) (harg5 : arg5.IsWhole) (x3 : Vec Ideal S16x4x128x128 .f32)
variable (arg6 : Memref sig .tc .vmem S1x1792 .f32) (harg6 : arg6.IsWhole) (x4 : Vec Ideal S1x1792 .f32)
variable (arg7 : Memref sig .tc .vmem S1x512 .f32) (harg7 : arg7.IsWhole) (x5 : Vec Ideal S1x512 .f32)
variable (arg8 : Memref sig .tc .vmem S1x512 .f32) (harg8 : arg8.IsWhole) (x6 : Vec Ideal S1x512 .f32)
variable (arg9 : Memref sig .tc .vmem S1x512 .f32) (harg9 : arg9.IsWhole) (x7 : Vec Ideal S1x512 .f32)
variable (arg10 : Memref sig .tc .vmem S1x512 .f32) (harg10 : arg10.IsWhole) (x8 : Vec Ideal S1x512 .f32)
variable (arg11 : Memref sig .tc .vmem S1x512 .f32) (harg11 : arg11.IsWhole) (x9 : Vec Ideal S1x512 .f32)
variable (arg12 : Memref sig .tc .vmem S1x512 .f32) (harg12 : arg12.IsWhole) (x10 : Vec Ideal S1x512 .f32)
variable (arg13 : Memref sig .tc .vmem S1x512 .f32) (harg13 : arg13.IsWhole) (x11 : Vec Ideal S1x512 .f32)
variable (arg14 : Memref sig .tc .vmem S2x512 .f32) (harg14 : arg14.IsWhole) (x12 : Vec Ideal S2x512 .f32)
variable (arg15 : Memref sig .tc .vmem S1x128 .f32) (harg15 : arg15.IsWhole) (x13 : Vec Ideal S1x128 .f32)
variable (arg16 : Memref sig .tc .vmem S128x1024 .bf16) (harg16 : arg16.IsWhole) (x14 : Vec Ideal S128x1024 .bf16)
variable (arg17 : Memref sig .tc .vmem S128x512 .bf16) (harg17 : arg17.IsWhole) (x15 : Vec Ideal S128x512 .bf16)
variable (arg22 : Memref sig .tc .vmem S1x4x2048x128 .f32) (arg23 : Memref sig .tc .vmem S1x4x2048x128 .f32)
variable {w : Wt} {S : Fin 16 → Sq}
variable (B : Blk x0 x1 x2 x3 x4 x5 x6 x7 x8 x9 x10 x11 x12 x13 x14 x15 w S)

include B

theorem kf0 (r : Fin 64) (f : Fin 128) : (kernelRun0_A.sl.r_106 (F := Ideal) c arg2 harg2 arg14 harg14 x0 x12) (ix2 r f) = ((1 - ff w (S (sR r)) (tR r) (hc 0 f) : ℝ) : EReal) := by
  have e : (⟨f.val, by omega⟩ : Fin 512) = hc 0 f := Fin.ext (by show f.val = 128 * 0 + f.val; omega)
  unfold kernelRun0_A.sl.r_106
  pointwise [k0_pay585]
  rw [e]
  exact kf_at (B := B) ..

theorem iv0 (r : Fin 64) (f : Fin 128) : (kernelRun0_A.sl.r_109 (F := Ideal) c arg2 harg2 x0) (ix2 r f) = ((iv (S (sR r)) (tR r) (hc 0 f) : ℝ) : EReal) := by
  have e : (⟨f.val, by omega⟩ : Fin 512) = hc 0 f := Fin.ext (by show f.val = 128 * 0 + f.val; omega)
  unfold kernelRun0_A.sl.r_109
  pointwise [k0_pay588]
  rw [e]
  exact iv_at (B := B) ..

theorem cum0 (r : Fin 64) (f : Fin 128) : (kernelRun0_A.sl.r_107 (F := Ideal) c arg2 harg2 arg3 harg3 arg6 harg6 arg7 harg7 arg14 harg14 arg16 harg16 x0 x1 x4 x5 x12 x14) (ix2 r f) = ((hb w (S (sR r)) (tR r) (hc 0 f) : ℝ) : EReal) := by
  have e : (⟨512 + f.val, by omega⟩ : Fin 1024) = ⟨512 + (hc 0 f).val, by omega⟩ := Fin.ext (by show 512 + f.val = 512 + (128 * 0 + f.val); omega)
  unfold kernelRun0_A.sl.r_107
  pointwise [k0_pay586]
  rw [e]
  exact cum_at (B := B) ..

theorem tot0 (r : Fin 64) (f : Fin 128) : (kernelRun0_A.sl.r_108 (F := Ideal) c arg2 harg2 arg3 harg3 arg6 harg6 arg7 harg7 arg14 harg14 arg16 harg16 x0 x1 x4 x5 x12 x14) (ix2 r f) = ((hb w (S (sR r)) 3 (hc 0 f) : ℝ) : EReal) := by
  have e : (⟨512 + f.val, by omega⟩ : Fin 1024) = ⟨512 + (hc 0 f).val, by omega⟩ := Fin.ext (by show 512 + f.val = 512 + (128 * 0 + f.val); omega)
  unfold kernelRun0_A.sl.r_108
  pointwise [k0_pay587]
  rw [e]
  exact tot_at (B := B) ..

theorem st0 (k : Fin 2048) (s : Fin 16) (a b : Fin 128) (hk : k.val = 128 * s.val + a.val) : (kernelRun0_A.sl.r_110 (F := Ideal) c arg5 harg5 arg23 x3) (ix2 k b) = (S s).hg 0 b a := by
  unfold kernelRun0_A.sl.r_110 kernelRun0_A.sl.v935
  rw [View.readCov_eq_canon']
  pointwise [k0_pay589]
  refine good_at (before_good c x0 x1 x2 arg5 harg5 x3 x4 x5 x6 x7 x8 x9 x10 x11 x12 x13 x14 x15 B) (by intro h s hh hs; show 4 * s + h < 64; omega) _ 0 s a b ?_ ?_ ?_
  · rfl
  · exact hk
  · rfl

theorem kf1 (r : Fin 64) (f : Fin 128) : (kernelRun0_A.sl.r_129 (F := Ideal) c arg2 harg2 arg14 harg14 x0 x12) (ix2 r f) = ((1 - ff w (S (sR r)) (tR r) (hc 1 f) : ℝ) : EReal) := by
  have e : (⟨128 + f.val, by omega⟩ : Fin 512) = hc 1 f := Fin.ext (by show 128 + f.val = 128 * 1 + f.val; omega)
  unfold kernelRun0_A.sl.r_129
  pointwise [k0_pay612]
  rw [e]
  exact kf_at (B := B) ..

theorem iv1 (r : Fin 64) (f : Fin 128) : (kernelRun0_A.sl.r_132 (F := Ideal) c arg2 harg2 x0) (ix2 r f) = ((iv (S (sR r)) (tR r) (hc 1 f) : ℝ) : EReal) := by
  have e : (⟨128 + f.val, by omega⟩ : Fin 512) = hc 1 f := Fin.ext (by show 128 + f.val = 128 * 1 + f.val; omega)
  unfold kernelRun0_A.sl.r_132
  pointwise [k0_pay615]
  rw [e]
  exact iv_at (B := B) ..

theorem cum1 (r : Fin 64) (f : Fin 128) : (kernelRun0_A.sl.r_130 (F := Ideal) c arg2 harg2 arg3 harg3 arg6 harg6 arg7 harg7 arg14 harg14 arg16 harg16 x0 x1 x4 x5 x12 x14) (ix2 r f) = ((hb w (S (sR r)) (tR r) (hc 1 f) : ℝ) : EReal) := by
  have e : (⟨640 + f.val, by omega⟩ : Fin 1024) = ⟨512 + (hc 1 f).val, by omega⟩ := Fin.ext (by show 640 + f.val = 512 + (128 * 1 + f.val); omega)
  unfold kernelRun0_A.sl.r_130
  pointwise [k0_pay613]
  rw [e]
  exact cum_at (B := B) ..

theorem tot1 (r : Fin 64) (f : Fin 128) : (kernelRun0_A.sl.r_131 (F := Ideal) c arg2 harg2 arg3 harg3 arg6 harg6 arg7 harg7 arg14 harg14 arg16 harg16 x0 x1 x4 x5 x12 x14) (ix2 r f) = ((hb w (S (sR r)) 3 (hc 1 f) : ℝ) : EReal) := by
  have e : (⟨640 + f.val, by omega⟩ : Fin 1024) = ⟨512 + (hc 1 f).val, by omega⟩ := Fin.ext (by show 640 + f.val = 512 + (128 * 1 + f.val); omega)
  unfold kernelRun0_A.sl.r_131
  pointwise [k0_pay614]
  rw [e]
  exact tot_at (B := B) ..

theorem st1 (k : Fin 2048) (s : Fin 16) (a b : Fin 128) (hk : k.val = 128 * s.val + a.val) : (kernelRun0_A.sl.r_133 (F := Ideal) c arg5 harg5 arg23 x3) (ix2 k b) = (S s).hg 1 b a := by
  unfold kernelRun0_A.sl.r_133 kernelRun0_A.sl.v1127
  rw [View.readCov_eq_canon']
  pointwise [k0_pay616]
  refine good_at (before_good c x0 x1 x2 arg5 harg5 x3 x4 x5 x6 x7 x8 x9 x10 x11 x12 x13 x14 x15 B) (by intro h s hh hs; show 4 * s + h < 64; omega) _ 1 s a b ?_ ?_ ?_
  · rfl
  · exact hk
  · rfl

theorem kf2 (r : Fin 64) (f : Fin 128) : (kernelRun0_A.sl.r_155 (F := Ideal) c arg2 harg2 arg14 harg14 x0 x12) (ix2 r f) = ((1 - ff w (S (sR r)) (tR r) (hc 2 f) : ℝ) : EReal) := by
  have e : (⟨256 + f.val, by omega⟩ : Fin 512) = hc 2 f := Fin.ext (by show 256 + f.val = 128 * 2 + f.val; omega)
  unfold kernelRun0_A.sl.r_155
  pointwise [k0_pay643]
  rw [e]
  exact kf_at (B := B) ..

theorem iv2 (r : Fin 64) (f : Fin 128) : (kernelRun0_A.sl.r_158 (F := Ideal) c arg2 harg2 x0) (ix2 r f) = ((iv (S (sR r)) (tR r) (hc 2 f) : ℝ) : EReal) := by
  have e : (⟨256 + f.val, by omega⟩ : Fin 512) = hc 2 f := Fin.ext (by show 256 + f.val = 128 * 2 + f.val; omega)
  unfold kernelRun0_A.sl.r_158
  pointwise [k0_pay646]
  rw [e]
  exact iv_at (B := B) ..

theorem cum2 (r : Fin 64) (f : Fin 128) : (kernelRun0_A.sl.r_156 (F := Ideal) c arg2 harg2 arg3 harg3 arg6 harg6 arg7 harg7 arg14 harg14 arg16 harg16 x0 x1 x4 x5 x12 x14) (ix2 r f) = ((hb w (S (sR r)) (tR r) (hc 2 f) : ℝ) : EReal) := by
  have e : (⟨768 + f.val, by omega⟩ : Fin 1024) = ⟨512 + (hc 2 f).val, by omega⟩ := Fin.ext (by show 768 + f.val = 512 + (128 * 2 + f.val); omega)
  unfold kernelRun0_A.sl.r_156
  pointwise [k0_pay644]
  rw [e]
  exact cum_at (B := B) ..

theorem tot2 (r : Fin 64) (f : Fin 128) : (kernelRun0_A.sl.r_157 (F := Ideal) c arg2 harg2 arg3 harg3 arg6 harg6 arg7 harg7 arg14 harg14 arg16 harg16 x0 x1 x4 x5 x12 x14) (ix2 r f) = ((hb w (S (sR r)) 3 (hc 2 f) : ℝ) : EReal) := by
  have e : (⟨768 + f.val, by omega⟩ : Fin 1024) = ⟨512 + (hc 2 f).val, by omega⟩ := Fin.ext (by show 768 + f.val = 512 + (128 * 2 + f.val); omega)
  unfold kernelRun0_A.sl.r_157
  pointwise [k0_pay645]
  rw [e]
  exact tot_at (B := B) ..

theorem st2 (k : Fin 2048) (s : Fin 16) (a b : Fin 128) (hk : k.val = 128 * s.val + a.val) : (kernelRun0_A.sl.r_159 (F := Ideal) c arg5 harg5 arg23 x3) (ix2 k b) = (S s).hg 2 b a := by
  unfold kernelRun0_A.sl.r_159 kernelRun0_A.sl.v1319
  rw [View.readCov_eq_canon']
  pointwise [k0_pay647]
  refine good_at (before_good c x0 x1 x2 arg5 harg5 x3 x4 x5 x6 x7 x8 x9 x10 x11 x12 x13 x14 x15 B) (by intro h s hh hs; show 4 * s + h < 64; omega) _ 2 s a b ?_ ?_ ?_
  · rfl
  · exact hk
  · rfl

theorem kf3 (r : Fin 64) (f : Fin 128) : (kernelRun0_A.sl.r_178 (F := Ideal) c arg2 harg2 arg14 harg14 x0 x12) (ix2 r f) = ((1 - ff w (S (sR r)) (tR r) (hc 3 f) : ℝ) : EReal) := by
  have e : (⟨384 + f.val, by omega⟩ : Fin 512) = hc 3 f := Fin.ext (by show 384 + f.val = 128 * 3 + f.val; omega)
  unfold kernelRun0_A.sl.r_178
  pointwise [k0_pay670]
  rw [e]
  exact kf_at (B := B) ..

theorem iv3 (r : Fin 64) (f : Fin 128) : (kernelRun0_A.sl.r_181 (F := Ideal) c arg2 harg2 x0) (ix2 r f) = ((iv (S (sR r)) (tR r) (hc 3 f) : ℝ) : EReal) := by
  have e : (⟨384 + f.val, by omega⟩ : Fin 512) = hc 3 f := Fin.ext (by show 384 + f.val = 128 * 3 + f.val; omega)
  unfold kernelRun0_A.sl.r_181
  pointwise [k0_pay673]
  rw [e]
  exact iv_at (B := B) ..

theorem cum3 (r : Fin 64) (f : Fin 128) : (kernelRun0_A.sl.r_179 (F := Ideal) c arg2 harg2 arg3 harg3 arg6 harg6 arg7 harg7 arg14 harg14 arg16 harg16 x0 x1 x4 x5 x12 x14) (ix2 r f) = ((hb w (S (sR r)) (tR r) (hc 3 f) : ℝ) : EReal) := by
  have e : (⟨896 + f.val, by omega⟩ : Fin 1024) = ⟨512 + (hc 3 f).val, by omega⟩ := Fin.ext (by show 896 + f.val = 512 + (128 * 3 + f.val); omega)
  unfold kernelRun0_A.sl.r_179
  pointwise [k0_pay671]
  rw [e]
  exact cum_at (B := B) ..

theorem tot3 (r : Fin 64) (f : Fin 128) : (kernelRun0_A.sl.r_180 (F := Ideal) c arg2 harg2 arg3 harg3 arg6 harg6 arg7 harg7 arg14 harg14 arg16 harg16 x0 x1 x4 x5 x12 x14) (ix2 r f) = ((hb w (S (sR r)) 3 (hc 3 f) : ℝ) : EReal) := by
  have e : (⟨896 + f.val, by omega⟩ : Fin 1024) = ⟨512 + (hc 3 f).val, by omega⟩ := Fin.ext (by show 896 + f.val = 512 + (128 * 3 + f.val); omega)
  unfold kernelRun0_A.sl.r_180
  pointwise [k0_pay672]
  rw [e]
  exact tot_at (B := B) ..

theorem st3 (k : Fin 2048) (s : Fin 16) (a b : Fin 128) (hk : k.val = 128 * s.val + a.val) : (kernelRun0_A.sl.r_182 (F := Ideal) c arg5 harg5 arg23 x3) (ix2 k b) = (S s).hg 3 b a := by
  unfold kernelRun0_A.sl.r_182 kernelRun0_A.sl.v1511
  rw [View.readCov_eq_canon']
  pointwise [k0_pay674]
  refine good_at (before_good c x0 x1 x2 arg5 harg5 x3 x4 x5 x6 x7 x8 x9 x10 x11 x12 x13 x14 x15 B) (by intro h s hh hs; show 4 * s + h < 64; omega) _ 3 s a b ?_ ?_ ?_
  · rfl
  · exact hk
  · rfl

end Cert.Rec
end
-- ==== Proof.RecCat.lean ====
/- A row of sixteen pieces of 128 columns, read at a column. -/
module

public import proofs.«01_k».proof.Proof.RecA

@[expose] public section

set_option maxRecDepth 16384

noncomputable section

namespace Cert.Rec

open Idealize.ShloMosaic Idealize.ShloMosaic.TcCoe Idealize.SL.Sem Cert.KernelIdeal Cert.KernelIdeal.Gen

variable (x0 x1 x2 x3 x4 x5 x6 x7 x8 x9 x10 x11 x12 x13 x14 x15 : FVec Ideal S64x128 .f32)
variable (hc : Shape.Concatenates (([⟨S64x128, x0⟩, ⟨S64x128, x1⟩, ⟨S64x128, x2⟩, ⟨S64x128, x3⟩, ⟨S64x128, x4⟩, ⟨S64x128, x5⟩, ⟨S64x128, x6⟩, ⟨S64x128, x7⟩, ⟨S64x128, x8⟩, ⟨S64x128, x9⟩, ⟨S64x128, x10⟩, ⟨S64x128, x11⟩, ⟨S64x128, x12⟩, ⟨S64x128, x13⟩, ⟨S64x128, x14⟩, ⟨S64x128, x15⟩] : List ((s : Shape) × (s.Idx → Ideal .f32))).map (·.1)) S64x2048 1)

theorem cat16 (q : Fin 16) (r : Fin 64) (f : Fin 128) (k : Fin 2048) (hk : k.val = 128 * q.val + f.val) :
    concatenate S64x2048 1 [⟨S64x128, x0⟩, ⟨S64x128, x1⟩, ⟨S64x128, x2⟩, ⟨S64x128, x3⟩, ⟨S64x128, x4⟩, ⟨S64x128, x5⟩, ⟨S64x128, x6⟩, ⟨S64x128, x7⟩, ⟨S64x128, x8⟩, ⟨S64x128, x9⟩, ⟨S64x128, x10⟩, ⟨S64x128, x11⟩, ⟨S64x128, x12⟩, ⟨S64x128, x13⟩, ⟨S64x128, x14⟩, ⟨S64x128, x15⟩] hc (ix2 r k) = (![x0, x1, x2, x3, x4, x5, x6, x7, x8, x9, x10, x11, x12, x13, x14, x15] : Fin 16 → FVec Ideal S64x128 .f32) q (ix2 r f) := by
  refine concatenate_ofFn_apply (t := S64x2048) (s₁ := S64x128) 1 (![x0, x1, x2, x3, x4, x5, x6, x7, x8, x9, x10, x11, x12, x13, x14, x15] : Fin 16 → FVec Ideal S64x128 .f32) hc rfl 128 rfl (ix2 r k) q ?_ (ix2 r f) ?_ ?_
  · show k.val / 128 = q.val
    omega
  · show f.val = k.val % 128
    omega
  · intro b hb
    match b, hb with
    | ⟨0, _⟩, _ => rfl
    | ⟨1, _⟩, hb => exact absurd rfl hb

theorem cat16_0 (r : Fin 64) (f : Fin 128) (h : f.val < 2048) : concatenate S64x2048 1 [⟨S64x128, x0⟩, ⟨S64x128, x1⟩, ⟨S64x128, x2⟩, ⟨S64x128, x3⟩, ⟨S64x128, x4⟩, ⟨S64x128, x5⟩, ⟨S64x128, x6⟩, ⟨S64x128, x7⟩, ⟨S64x128, x8⟩, ⟨S64x128, x9⟩, ⟨S64x128, x10⟩, ⟨S64x128, x11⟩, ⟨S64x128, x12⟩, ⟨S64x128, x13⟩, ⟨S64x128, x14⟩, ⟨S64x128, x15⟩] hc (ix2 r ⟨f.val, h⟩) = x0 (ix2 r f) :=
  cat16 x0 x1 x2 x3 x4 x5 x6 x7 x8 x9 x10 x11 x12 x13 x14 x15 hc 0 r f _ (by show f.val = 128 * 0 + f.val; omega)

theorem cat16_1 (r : Fin 64) (f : Fin 128) (h : 128 + f.val < 2048) : concatenate S64x2048 1 [⟨S64x128, x0⟩, ⟨S64x128, x1⟩, ⟨S64x128, x2⟩, ⟨S64x128, x3⟩, ⟨S64x128, x4⟩, ⟨S64x128, x5⟩, ⟨S64x128, x6⟩, ⟨S64x128, x7⟩, ⟨S64x128, x8⟩, ⟨S64x128, x9⟩, ⟨S64x128, x10⟩, ⟨S64x128, x11⟩, ⟨S64x128, x12⟩, ⟨S64x128, x13⟩, ⟨S64x128, x14⟩, ⟨S64x128, x15⟩] hc (ix2 r ⟨128 + f.val, h⟩) = x1 (ix2 r f) :=
  cat16 x0 x1 x2 x3 x4 x5 x6 x7 x8 x9 x10 x11 x12 x13 x14 x15 hc 1 r f _ (by show 128 + f.val = 128 * 1 + f.val; omega)

theorem cat16_2 (r : Fin 64) (f : Fin 128) (h : 256 + f.val < 2048) : concatenate S64x2048 1 [⟨S64x128, x0⟩, ⟨S64x128, x1⟩, ⟨S64x128, x2⟩, ⟨S64x128, x3⟩, ⟨S64x128, x4⟩, ⟨S64x128, x5⟩, ⟨S64x128, x6⟩, ⟨S64x128, x7⟩, ⟨S64x128, x8⟩, ⟨S64x128, x9⟩, ⟨S64x128, x10⟩, ⟨S64x128, x11⟩, ⟨S64x128, x12⟩, ⟨S64x128, x13⟩, ⟨S64x128, x14⟩, ⟨S64x128, x15⟩] hc (ix2 r ⟨256 + f.val, h⟩) = x2 (ix2 r f) :=
  cat16 x0 x1 x2 x3 x4 x5 x6 x7 x8 x9 x10 x11 x12 x13 x14 x15 hc 2 r f _ (by show 256 + f.val = 128 * 2 + f.val; omega)

theorem cat16_3 (r : Fin 64) (f : Fin 128) (h : 384 + f.val < 2048) : concatenate S64x2048 1 [⟨S64x128, x0⟩, ⟨S64x128, x1⟩, ⟨S64x128, x2⟩, ⟨S64x128, x3⟩, ⟨S64x128, x4⟩, ⟨S64x128, x5⟩, ⟨S64x128, x6⟩, ⟨S64x128, x7⟩, ⟨S64x128, x8⟩, ⟨S64x128, x9⟩, ⟨S64x128, x10⟩, ⟨S64x128, x11⟩, ⟨S64x128, x12⟩, ⟨S64x128, x13⟩, ⟨S64x128, x14⟩, ⟨S64x128, x15⟩] hc (ix2 r ⟨384 + f.val, h⟩) = x3 (ix2 r f) :=
  cat16 x0 x1 x2 x3 x4 x5 x6 x7 x8 x9 x10 x11 x12 x13 x14 x15 hc 3 r f _ (by show 384 + f.val = 128 * 3 + f.val; omega)

theorem cat16_4 (r : Fin 64) (f : Fin 128) (h : 512 + f.val < 2048) : concatenate S64x2048 1 [⟨S64x128, x0⟩, ⟨S64x128, x1⟩, ⟨S64x128, x2⟩, ⟨S64x128, x3⟩, ⟨S64x128, x4⟩, ⟨S64x128, x5⟩, ⟨S64x128, x6⟩, ⟨S64x128, x7⟩, ⟨S64x128, x8⟩, ⟨S64x128, x9⟩, ⟨S64x128, x10⟩, ⟨S64x128, x11⟩, ⟨S64x128, x12⟩, ⟨S64x128, x13⟩, ⟨S64x128, x14⟩, ⟨S64x128, x15⟩] hc (ix2 r ⟨512 + f.val, h⟩) = x4 (ix2 r f) :=
  cat16 x0 x1 x2 x3 x4 x5 x6 x7 x8 x9 x10 x11 x12 x13 x14 x15 hc 4 r f _ (by show 512 + f.val = 128 * 4 + f.val; omega)

theorem cat16_5 (r : Fin 64) (f : Fin 128) (h : 640 + f.val < 2048) : concatenate S64x2048 1 [⟨S64x128, x0⟩, ⟨S64x128, x1⟩, ⟨S64x128, x2⟩, ⟨S64x128, x3⟩, ⟨S64x128, x4⟩, ⟨S64x128, x5⟩, ⟨S64x128, x6⟩, ⟨S64x128, x7⟩, ⟨S64x128, x8⟩, ⟨S64x128, x9⟩, ⟨S64x128, x10⟩, ⟨S64x128, x11⟩, ⟨S64x128, x12⟩, ⟨S64x128, x13⟩, ⟨S64x128, x14⟩, ⟨S64x128, x15⟩] hc (ix2 r ⟨640 + f.val, h⟩) = x5 (ix2 r f) :=
  cat16 x0 x1 x2 x3 x4 x5 x6 x7 x8 x9 x10 x11 x12 x13 x14 x15 hc 5 r f _ (by show 640 + f.val = 128 * 5 + f.val; omega)

theorem cat16_6 (r : Fin 64) (f : Fin 128) (h : 768 + f.val < 2048) : concatenate S64x2048 1 [⟨S64x128, x0⟩, ⟨S64x128, x1⟩, ⟨S64x128, x2⟩, ⟨S64x128, x3⟩, ⟨S64x128, x4⟩, ⟨S64x128, x5⟩, ⟨S64x128, x6⟩, ⟨S64x128, x7⟩, ⟨S64x128, x8⟩, ⟨S64x128, x9⟩, ⟨S64x128, x10⟩, ⟨S64x128, x11⟩, ⟨S64x128, x12⟩, ⟨S64x128, x13⟩, ⟨S64x128, x14⟩, ⟨S64x128, x15⟩] hc (ix2 r ⟨768 + f.val, h⟩) = x6 (ix2 r f) :=
  cat16 x0 x1 x2 x3 x4 x5 x6 x7 x8 x9 x10 x11 x12 x13 x14 x15 hc 6 r f _ (by show 768 + f.val = 128 * 6 + f.val; omega)

theorem cat16_7 (r : Fin 64) (f : Fin 128) (h : 896 + f.val < 2048) : concatenate S64x2048 1 [⟨S64x128, x0⟩, ⟨S64x128, x1⟩, ⟨S64x128, x2⟩, ⟨S64x128, x3⟩, ⟨S64x128, x4⟩, ⟨S64x128, x5⟩, ⟨S64x128, x6⟩, ⟨S64x128, x7⟩, ⟨S64x128, x8⟩, ⟨S64x128, x9⟩, ⟨S64x128, x10⟩, ⟨S64x128, x11⟩, ⟨S64x128, x12⟩, ⟨S64x128, x13⟩, ⟨S64x128, x14⟩, ⟨S64x128, x15⟩] hc (ix2 r ⟨896 + f.val, h⟩) = x7 (ix2 r f) :=
  cat16 x0 x1 x2 x3 x4 x5 x6 x7 x8 x9 x10 x11 x12 x13 x14 x15 hc 7 r f _ (by show 896 + f.val = 128 * 7 + f.val; omega)

theorem cat16_8 (r : Fin 64) (f : Fin 128) (h : 1024 + f.val < 2048) : concatenate S64x2048 1 [⟨S64x128, x0⟩, ⟨S64x128, x1⟩, ⟨S64x128, x2⟩, ⟨S64x128, x3⟩, ⟨S64x128, x4⟩, ⟨S64x128, x5⟩, ⟨S64x128, x6⟩, ⟨S64x128, x7⟩, ⟨S64x128, x8⟩, ⟨S64x128, x9⟩, ⟨S64x128, x10⟩, ⟨S64x128, x11⟩, ⟨S64x128, x12⟩, ⟨S64x128, x13⟩, ⟨S64x128, x14⟩, ⟨S64x128, x15⟩] hc (ix2 r ⟨1024 + f.val, h⟩) = x8 (ix2 r f) :=
  cat16 x0 x1 x2 x3 x4 x5 x6 x7 x8 x9 x10 x11 x12 x13 x14 x15 hc 8 r f _ (by show 1024 + f.val = 128 * 8 + f.val; omega)

theorem cat16_9 (r : Fin 64) (f : Fin 128) (h : 1152 + f.val < 2048) : concatenate S64x2048 1 [⟨S64x128, x0⟩, ⟨S64x128, x1⟩, ⟨S64x128, x2⟩, ⟨S64x128, x3⟩, ⟨S64x128, x4⟩, ⟨S64x128, x5⟩, ⟨S64x128, x6⟩, ⟨S64x128, x7⟩, ⟨S64x128, x8⟩, ⟨S64x128, x9⟩, ⟨S64x128, x10⟩, ⟨S64x128, x11⟩, ⟨S64x128, x12⟩, ⟨S64x128, x13⟩, ⟨S64x128, x14⟩, ⟨S64x128, x15⟩] hc (ix2 r ⟨1152 + f.val, h⟩) = x9 (ix2 r f) :=
  cat16 x0 x1 x2 x3 x4 x5 x6 x7 x8 x9 x10 x11 x12 x13 x14 x15 hc 9 r f _ (by show 1152 + f.val = 128 * 9 + f.val; omega)

theorem cat16_10 (r : Fin 64) (f : Fin 128) (h : 1280 + f.val < 2048) : concatenate S64x2048 1 [⟨S64x128, x0⟩, ⟨S64x128, x1⟩, ⟨S64x128, x2⟩, ⟨S64x128, x3⟩, ⟨S64x128, x4⟩, ⟨S64x128, x5⟩, ⟨S64x128, x6⟩, ⟨S64x128, x7⟩, ⟨S64x128, x8⟩, ⟨S64x128, x9⟩, ⟨S64x128, x10⟩, ⟨S64x128, x11⟩, ⟨S64x128, x12⟩, ⟨S64x128, x13⟩, ⟨S64x128, x14⟩, ⟨S64x128, x15⟩] hc (ix2 r ⟨1280 + f.val, h⟩) = x10 (ix2 r f) :=
  cat16 x0 x1 x2 x3 x4 x5 x6 x7 x8 x9 x10 x11 x12 x13 x14 x15 hc 10 r f _ (by show 1280 + f.val = 128 * 10 + f.val; omega)

theorem cat16_11 (r : Fin 64) (f : Fin 128) (h : 1408 + f.val < 2048) : concatenate S64x2048 1 [⟨S64x128, x0⟩, ⟨S64x128, x1⟩, ⟨S64x128, x2⟩, ⟨S64x128, x3⟩, ⟨S64x128, x4⟩, ⟨S64x128, x5⟩, ⟨S64x128, x6⟩, ⟨S64x128, x7⟩, ⟨S64x128, x8⟩, ⟨S64x128, x9⟩, ⟨S64x128, x10⟩, ⟨S64x128, x11⟩, ⟨S64x128, x12⟩, ⟨S64x128, x13⟩, ⟨S64x128, x14⟩, ⟨S64x128, x15⟩] hc (ix2 r ⟨1408 + f.val, h⟩) = x11 (ix2 r f) :=
  cat16 x0 x1 x2 x3 x4 x5 x6 x7 x8 x9 x10 x11 x12 x13 x14 x15 hc 11 r f _ (by show 1408 + f.val = 128 * 11 + f.val; omega)

theorem cat16_12 (r : Fin 64) (f : Fin 128) (h : 1536 + f.val < 2048) : concatenate S64x2048 1 [⟨S64x128, x0⟩, ⟨S64x128, x1⟩, ⟨S64x128, x2⟩, ⟨S64x128, x3⟩, ⟨S64x128, x4⟩, ⟨S64x128, x5⟩, ⟨S64x128, x6⟩, ⟨S64x128, x7⟩, ⟨S64x128, x8⟩, ⟨S64x128, x9⟩, ⟨S64x128, x10⟩, ⟨S64x128, x11⟩, ⟨S64x128, x12⟩, ⟨S64x128, x13⟩, ⟨S64x128, x14⟩, ⟨S64x128, x15⟩] hc (ix2 r ⟨1536 + f.val, h⟩) = x12 (ix2 r f) :=
  cat16 x0 x1 x2 x3 x4 x5 x6 x7 x8 x9 x10 x11 x12 x13 x14 x15 hc 12 r f _ (by show 1536 + f.val = 128 * 12 + f.val; omega)

theorem cat16_13 (r : Fin 64) (f : Fin 128) (h : 1664 + f.val < 2048) : concatenate S64x2048 1 [⟨S64x128, x0⟩, ⟨S64x128, x1⟩, ⟨S64x128, x2⟩, ⟨S64x128, x3⟩, ⟨S64x128, x4⟩, ⟨S64x128, x5⟩, ⟨S64x128, x6⟩, ⟨S64x128, x7⟩, ⟨S64x128, x8⟩, ⟨S64x128, x9⟩, ⟨S64x128, x10⟩, ⟨S64x128, x11⟩, ⟨S64x128, x12⟩, ⟨S64x128, x13⟩, ⟨S64x128, x14⟩, ⟨S64x128, x15⟩] hc (ix2 r ⟨1664 + f.val, h⟩) = x13 (ix2 r f) :=
  cat16 x0 x1 x2 x3 x4 x5 x6 x7 x8 x9 x10 x11 x12 x13 x14 x15 hc 13 r f _ (by show 1664 + f.val = 128 * 13 + f.val; omega)

theorem cat16_14 (r : Fin 64) (f : Fin 128) (h : 1792 + f.val < 2048) : concatenate S64x2048 1 [⟨S64x128, x0⟩, ⟨S64x128, x1⟩, ⟨S64x128, x2⟩, ⟨S64x128, x3⟩, ⟨S64x128, x4⟩, ⟨S64x128, x5⟩, ⟨S64x128, x6⟩, ⟨S64x128, x7⟩, ⟨S64x128, x8⟩, ⟨S64x128, x9⟩, ⟨S64x128, x10⟩, ⟨S64x128, x11⟩, ⟨S64x128, x12⟩, ⟨S64x128, x13⟩, ⟨S64x128, x14⟩, ⟨S64x128, x15⟩] hc (ix2 r ⟨1792 + f.val, h⟩) = x14 (ix2 r f) :=
  cat16 x0 x1 x2 x3 x4 x5 x6 x7 x8 x9 x10 x11 x12 x13 x14 x15 hc 14 r f _ (by show 1792 + f.val = 128 * 14 + f.val; omega)

theorem cat16_15 (r : Fin 64) (f : Fin 128) (h : 1920 + f.val < 2048) : concatenate S64x2048 1 [⟨S64x128, x0⟩, ⟨S64x128, x1⟩, ⟨S64x128, x2⟩, ⟨S64x128, x3⟩, ⟨S64x128, x4⟩, ⟨S64x128, x5⟩, ⟨S64x128, x6⟩, ⟨S64x128, x7⟩, ⟨S64x128, x8⟩, ⟨S64x128, x9⟩, ⟨S64x128, x10⟩, ⟨S64x128, x11⟩, ⟨S64x128, x12⟩, ⟨S64x128, x13⟩, ⟨S64x128, x14⟩, ⟨S64x128, x15⟩] hc (ix2 r ⟨1920 + f.val, h⟩) = x15 (ix2 r f) :=
  cat16 x0 x1 x2 x3 x4 x5 x6 x7 x8 x9 x10 x11 x12 x13 x14 x15 hc 15 r f _ (by show 1920 + f.val = 128 * 15 + f.val; omega)

end Cert.Rec
end
-- ==== Proof.RecH0.lean ====
/- The states of the linear recurrence after the steps, head 0. -/
module

public import proofs.«01_k».proof.Proof.RecHB
public import proofs.«01_k».proof.Proof.RecCat

@[expose] public section

set_option maxRecDepth 16384

noncomputable section

namespace Cert.Rec

open Idealize.ShloMosaic Idealize.ShloMosaic.TcCoe Idealize.SL.Sem Cert.KernelIdeal Cert.KernelIdeal.Gen

variable (c : Dev nD)
variable (arg2 : Memref sig .tc .vmem S1x64x3840 .f32) (harg2 : arg2.IsWhole) (x0 : Vec Ideal S1x64x3840 .f32)
variable (arg3 : Memref sig .tc .vmem S1x16x1792 .f32) (harg3 : arg3.IsWhole) (x1 : Vec Ideal S1x16x1792 .f32)
variable (arg4 : Memref sig .tc .vmem S16x8x64x64 .f32) (harg4 : arg4.IsWhole) (x2 : Vec Ideal S16x8x64x64 .f32)
variable (arg5 : Memref sig .tc .vmem S16x4x128x128 .f32) (harg5 : arg5.IsWhole) (x3 : Vec Ideal S16x4x128x128 .f32)
variable (arg6 : Memref sig .tc .vmem S1x1792 .f32) (harg6 : arg6.IsWhole) (x4 : Vec Ideal S1x1792 .f32)
variable (arg7 : Memref sig .tc .vmem S1x512 .f32) (harg7 : arg7.IsWhole) (x5 : Vec Ideal S1x512 .f32)
variable (arg8 : Memref sig .tc .vmem S1x512 .f32) (harg8 : arg8.IsWhole) (x6 : Vec Ideal S1x512 .f32)
variable (arg9 : Memref sig .tc .vmem S1x512 .f32) (harg9 : arg9.IsWhole) (x7 : Vec Ideal S1x512 .f32)
variable (arg10 : Memref sig .tc .vmem S1x512 .f32) (harg10 : arg10.IsWhole) (x8 : Vec Ideal S1x512 .f32)
variable (arg11 : Memref sig .tc .vmem S1x512 .f32) (harg11 : arg11.IsWhole) (x9 : Vec Ideal S1x512 .f32)
variable (arg12 : Memref sig .tc .vmem S1x512 .f32) (harg12 : arg12.IsWhole) (x10 : Vec Ideal S1x512 .f32)
variable (arg13 : Memref sig .tc .vmem S1x512 .f32) (harg13 : arg13.IsWhole) (x11 : Vec Ideal S1x512 .f32)
variable (arg14 : Memref sig .tc .vmem S2x512 .f32) (harg14 : arg14.IsWhole) (x12 : Vec Ideal S2x512 .f32)
variable (arg15 : Memref sig .tc .vmem S1x128 .f32) (harg15 : arg15.IsWhole) (x13 : Vec Ideal S1x128 .f32)
variable (arg16 : Memref sig .tc .vmem S128x1024 .bf16) (harg16 : arg16.IsWhole) (x14 : Vec Ideal S128x1024 .bf16)
variable (arg17 : Memref sig .tc .vmem S128x512 .bf16) (harg17 : arg17.IsWhole) (x15 : Vec Ideal S128x512 .bf16)
variable (arg22 : Memref sig .tc .vmem S1x4x2048x128 .f32) (arg23 : Memref sig .tc .vmem S1x4x2048x128 .f32)
variable {w : Wt} {S : Fin 16 → Sq}
variable (B : Blk x0 x1 x2 x3 x4 x5 x6 x7 x8 x9 x10 x11 x12 x13 x14 x15 w S)

include B

set_option maxHeartbeats 2000000 in
theorem kx0_0 (a f : Fin 128) : (kernelRun0_A.sl.r_127 (F := Ideal) c arg2 harg2 arg3 harg3 arg6 harg6 arg7 harg7 arg14 harg14 arg16 harg16 x0 x1 x4 x5 x12 x14) (ix2 a ⟨f.val, by omega⟩)
    = ((∑ u : Fin 4, (1 - ff w (S 0) u (hc 0 f)) * Real.exp (hb w (S 0) 3 (hc 0 f) - hb w (S 0) u (hc 0 f)) * iv (S 0) u (hc 0 a) : ℝ) : EReal) := by
  simp only [kernelRun0_A.sl.r_127, kernelRun0_A.sl.r_126]
  pointwise [cat16_0, k0_pay610, k0_pay609]
  simp only [kernelRun0_A.sl.r_125, kernelRun0_A.sl.r_124, kernelRun0_A.sl.r_123, kernelRun0_A.sl.r_122, kernelRun0_A.sl.r_121, kernelRun0_A.sl.r_120, kernelRun0_A.sl.r_118, kernelRun0_A.sl.r_119]
  pointwise [k0_pay608, k0_pay454, k0_pay607, k0_pay606, k0_pay605, k0_pay604, k0_pay603, k0_pay601, k0_pay602]
  simp (disch := omega) only [iv0 (B := B), kf0 (B := B), cum0 (B := B), tot0 (B := B), w_seq, l_sel, l_sub, l_exp, l_mul, flag_coe, l_sum]
  rw [sum_seq_at 0 0 rfl]
  simp only [sR_rw4, tR_rw4]
  exact congrArg _ (Finset.sum_congr rfl fun u _ => by ring)

theorem new0_0 (i j : Fin 128) : (k0_pay741 (kernelRun0_A.sl.r_228 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 0 0 i j := by
  simp only [kernelRun0_A.sl.r_228]
  pointwise [k0_pay741, k0_pay721, k0_pay720]
  rw [st0 (B := B) (s := 0) (a := i) (hk := by first | rfl | (show i.val = 128 * 0 + i.val; omega)), tot0 (B := B), kx0_0 (B := B), l_exp]
  exact congrArg (· + _) (mul_comm _ _)

set_option maxHeartbeats 2000000 in
theorem kx0_1 (a f : Fin 128) : (kernelRun0_A.sl.r_127 (F := Ideal) c arg2 harg2 arg3 harg3 arg6 harg6 arg7 harg7 arg14 harg14 arg16 harg16 x0 x1 x4 x5 x12 x14) (ix2 a ⟨128 + f.val, by omega⟩)
    = ((∑ u : Fin 4, (1 - ff w (S 1) u (hc 0 f)) * Real.exp (hb w (S 1) 3 (hc 0 f) - hb w (S 1) u (hc 0 f)) * iv (S 1) u (hc 0 a) : ℝ) : EReal) := by
  simp only [kernelRun0_A.sl.r_127, kernelRun0_A.sl.r_126]
  pointwise [cat16_1, k0_pay610, k0_pay609]
  simp only [kernelRun0_A.sl.r_125, kernelRun0_A.sl.r_124, kernelRun0_A.sl.r_123, kernelRun0_A.sl.r_122, kernelRun0_A.sl.r_121, kernelRun0_A.sl.r_120, kernelRun0_A.sl.r_118, kernelRun0_A.sl.r_119]
  pointwise [k0_pay608, k0_pay454, k0_pay607, k0_pay606, k0_pay605, k0_pay604, k0_pay603, k0_pay601, k0_pay602]
  simp (disch := omega) only [iv0 (B := B), kf0 (B := B), cum0 (B := B), tot0 (B := B), w_seq, l_sel, l_sub, l_exp, l_mul, flag_coe, l_sum]
  rw [sum_seq_at 1 1 rfl]
  simp only [sR_rw4, tR_rw4]
  exact congrArg _ (Finset.sum_congr rfl fun u _ => by ring)

theorem new0_1 (i j : Fin 128) : (k0_pay742 (kernelRun0_A.sl.r_229 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 0 1 i j := by
  simp only [kernelRun0_A.sl.r_229]
  pointwise [k0_pay742, k0_pay722, k0_pay720]
  rw [st0 (B := B) (s := 1) (a := i) (hk := by first | rfl | (show i.val = 128 * 0 + i.val; omega)), tot0 (B := B), kx0_1 (B := B), l_exp]
  exact congrArg (· + _) (mul_comm _ _)

set_option maxHeartbeats 2000000 in
theorem kx0_2 (a f : Fin 128) : (kernelRun0_A.sl.r_127 (F := Ideal) c arg2 harg2 arg3 harg3 arg6 harg6 arg7 harg7 arg14 harg14 arg16 harg16 x0 x1 x4 x5 x12 x14) (ix2 a ⟨256 + f.val, by omega⟩)
    = ((∑ u : Fin 4, (1 - ff w (S 2) u (hc 0 f)) * Real.exp (hb w (S 2) 3 (hc 0 f) - hb w (S 2) u (hc 0 f)) * iv (S 2) u (hc 0 a) : ℝ) : EReal) := by
  simp only [kernelRun0_A.sl.r_127, kernelRun0_A.sl.r_126]
  pointwise [cat16_2, k0_pay610, k0_pay609]
  simp only [kernelRun0_A.sl.r_125, kernelRun0_A.sl.r_124, kernelRun0_A.sl.r_123, kernelRun0_A.sl.r_122, kernelRun0_A.sl.r_121, kernelRun0_A.sl.r_120, kernelRun0_A.sl.r_118, kernelRun0_A.sl.r_119]
  pointwise [k0_pay608, k0_pay454, k0_pay607, k0_pay606, k0_pay605, k0_pay604, k0_pay603, k0_pay601, k0_pay602]
  simp (disch := omega) only [iv0 (B := B), kf0 (B := B), cum0 (B := B), tot0 (B := B), w_seq, l_sel, l_sub, l_exp, l_mul, flag_coe, l_sum]
  rw [sum_seq_at 2 2 rfl]
  simp only [sR_rw4, tR_rw4]
  exact congrArg _ (Finset.sum_congr rfl fun u _ => by ring)

theorem new0_2 (i j : Fin 128) : (k0_pay743 (kernelRun0_A.sl.r_230 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 0 2 i j := by
  simp only [kernelRun0_A.sl.r_230]
  pointwise [k0_pay743, k0_pay723, k0_pay720]
  rw [st0 (B := B) (s := 2) (a := i) (hk := by first | rfl | (show i.val = 128 * 0 + i.val; omega)), tot0 (B := B), kx0_2 (B := B), l_exp]
  exact congrArg (· + _) (mul_comm _ _)

set_option maxHeartbeats 2000000 in
theorem kx0_3 (a f : Fin 128) : (kernelRun0_A.sl.r_127 (F := Ideal) c arg2 harg2 arg3 harg3 arg6 harg6 arg7 harg7 arg14 harg14 arg16 harg16 x0 x1 x4 x5 x12 x14) (ix2 a ⟨384 + f.val, by omega⟩)
    = ((∑ u : Fin 4, (1 - ff w (S 3) u (hc 0 f)) * Real.exp (hb w (S 3) 3 (hc 0 f) - hb w (S 3) u (hc 0 f)) * iv (S 3) u (hc 0 a) : ℝ) : EReal) := by
  simp only [kernelRun0_A.sl.r_127, kernelRun0_A.sl.r_126]
  pointwise [cat16_3, k0_pay610, k0_pay609]
  simp only [kernelRun0_A.sl.r_125, kernelRun0_A.sl.r_124, kernelRun0_A.sl.r_123, kernelRun0_A.sl.r_122, kernelRun0_A.sl.r_121, kernelRun0_A.sl.r_120, kernelRun0_A.sl.r_118, kernelRun0_A.sl.r_119]
  pointwise [k0_pay608, k0_pay454, k0_pay607, k0_pay606, k0_pay605, k0_pay604, k0_pay603, k0_pay601, k0_pay602]
  simp (disch := omega) only [iv0 (B := B), kf0 (B := B), cum0 (B := B), tot0 (B := B), w_seq, l_sel, l_sub, l_exp, l_mul, flag_coe, l_sum]
  rw [sum_seq_at 3 3 rfl]
  simp only [sR_rw4, tR_rw4]
  exact congrArg _ (Finset.sum_congr rfl fun u _ => by ring)

theorem new0_3 (i j : Fin 128) : (k0_pay744 (kernelRun0_A.sl.r_231 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 0 3 i j := by
  simp only [kernelRun0_A.sl.r_231]
  pointwise [k0_pay744, k0_pay724, k0_pay720]
  rw [st0 (B := B) (s := 3) (a := i) (hk := by first | rfl | (show i.val = 128 * 0 + i.val; omega)), tot0 (B := B), kx0_3 (B := B), l_exp]
  exact congrArg (· + _) (mul_comm _ _)

set_option maxHeartbeats 2000000 in
theorem kx0_4 (a f : Fin 128) : (kernelRun0_A.sl.r_127 (F := Ideal) c arg2 harg2 arg3 harg3 arg6 harg6 arg7 harg7 arg14 harg14 arg16 harg16 x0 x1 x4 x5 x12 x14) (ix2 a ⟨512 + f.val, by omega⟩)
    = ((∑ u : Fin 4, (1 - ff w (S 4) u (hc 0 f)) * Real.exp (hb w (S 4) 3 (hc 0 f) - hb w (S 4) u (hc 0 f)) * iv (S 4) u (hc 0 a) : ℝ) : EReal) := by
  simp only [kernelRun0_A.sl.r_127, kernelRun0_A.sl.r_126]
  pointwise [cat16_4, k0_pay610, k0_pay609]
  simp only [kernelRun0_A.sl.r_125, kernelRun0_A.sl.r_124, kernelRun0_A.sl.r_123, kernelRun0_A.sl.r_122, kernelRun0_A.sl.r_121, kernelRun0_A.sl.r_120, kernelRun0_A.sl.r_118, kernelRun0_A.sl.r_119]
  pointwise [k0_pay608, k0_pay454, k0_pay607, k0_pay606, k0_pay605, k0_pay604, k0_pay603, k0_pay601, k0_pay602]
  simp (disch := omega) only [iv0 (B := B), kf0 (B := B), cum0 (B := B), tot0 (B := B), w_seq, l_sel, l_sub, l_exp, l_mul, flag_coe, l_sum]
  rw [sum_seq_at 4 4 rfl]
  simp only [sR_rw4, tR_rw4]
  exact congrArg _ (Finset.sum_congr rfl fun u _ => by ring)

theorem new0_4 (i j : Fin 128) : (k0_pay745 (kernelRun0_A.sl.r_232 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 0 4 i j := by
  simp only [kernelRun0_A.sl.r_232]
  pointwise [k0_pay745, k0_pay725, k0_pay720]
  rw [st0 (B := B) (s := 4) (a := i) (hk := by first | rfl | (show i.val = 128 * 0 + i.val; omega)), tot0 (B := B), kx0_4 (B := B), l_exp]
  exact congrArg (· + _) (mul_comm _ _)

set_option maxHeartbeats 2000000 in
theorem kx0_5 (a f : Fin 128) : (kernelRun0_A.sl.r_127 (F := Ideal) c arg2 harg2 arg3 harg3 arg6 harg6 arg7 harg7 arg14 harg14 arg16 harg16 x0 x1 x4 x5 x12 x14) (ix2 a ⟨640 + f.val, by omega⟩)
    = ((∑ u : Fin 4, (1 - ff w (S 5) u (hc 0 f)) * Real.exp (hb w (S 5) 3 (hc 0 f) - hb w (S 5) u (hc 0 f)) * iv (S 5) u (hc 0 a) : ℝ) : EReal) := by
  simp only [kernelRun0_A.sl.r_127, kernelRun0_A.sl.r_126]
  pointwise [cat16_5, k0_pay610, k0_pay609]
  simp only [kernelRun0_A.sl.r_125, kernelRun0_A.sl.r_124, kernelRun0_A.sl.r_123, kernelRun0_A.sl.r_122, kernelRun0_A.sl.r_121, kernelRun0_A.sl.r_120, kernelRun0_A.sl.r_118, kernelRun0_A.sl.r_119]
  pointwise [k0_pay608, k0_pay454, k0_pay607, k0_pay606, k0_pay605, k0_pay604, k0_pay603, k0_pay601, k0_pay602]
  simp (disch := omega) only [iv0 (B := B), kf0 (B := B), cum0 (B := B), tot0 (B := B), w_seq, l_sel, l_sub, l_exp, l_mul, flag_coe, l_sum]
  rw [sum_seq_at 5 5 rfl]
  simp only [sR_rw4, tR_rw4]
  exact congrArg _ (Finset.sum_congr rfl fun u _ => by ring)

theorem new0_5 (i j : Fin 128) : (k0_pay746 (kernelRun0_A.sl.r_235 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 0 5 i j := by
  simp only [kernelRun0_A.sl.r_235, kernelRun0_A.sl.r_234, kernelRun0_A.sl.r_233]
  pointwise [k0_pay746, k0_pay728, k0_pay727, k0_pay726, k0_pay720]
  rw [st0 (B := B) (s := 5) (a := i) (hk := by first | rfl | (show i.val = 128 * 0 + i.val; omega)), tot0 (B := B), kx0_5 (B := B), l_exp]
  exact congrArg (· + _) (mul_comm _ _)

set_option maxHeartbeats 2000000 in
theorem kx0_6 (a f : Fin 128) : (kernelRun0_A.sl.r_127 (F := Ideal) c arg2 harg2 arg3 harg3 arg6 harg6 arg7 harg7 arg14 harg14 arg16 harg16 x0 x1 x4 x5 x12 x14) (ix2 a ⟨768 + f.val, by omega⟩)
    = ((∑ u : Fin 4, (1 - ff w (S 6) u (hc 0 f)) * Real.exp (hb w (S 6) 3 (hc 0 f) - hb w (S 6) u (hc 0 f)) * iv (S 6) u (hc 0 a) : ℝ) : EReal) := by
  simp only [kernelRun0_A.sl.r_127, kernelRun0_A.sl.r_126]
  pointwise [cat16_6, k0_pay610, k0_pay609]
  simp only [kernelRun0_A.sl.r_125, kernelRun0_A.sl.r_124, kernelRun0_A.sl.r_123, kernelRun0_A.sl.r_122, kernelRun0_A.sl.r_121, kernelRun0_A.sl.r_120, kernelRun0_A.sl.r_118, kernelRun0_A.sl.r_119]
  pointwise [k0_pay608, k0_pay454, k0_pay607, k0_pay606, k0_pay605, k0_pay604, k0_pay603, k0_pay601, k0_pay602]
  simp (disch := omega) only [iv0 (B := B), kf0 (B := B), cum0 (B := B), tot0 (B := B), w_seq, l_sel, l_sub, l_exp, l_mul, flag_coe, l_sum]
  rw [sum_seq_at 6 6 rfl]
  simp only [sR_rw4, tR_rw4]
  exact congrArg _ (Finset.sum_congr rfl fun u _ => by ring)

theorem new0_6 (i j : Fin 128) : (k0_pay747 (kernelRun0_A.sl.r_236 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 0 6 i j := by
  simp only [kernelRun0_A.sl.r_236, kernelRun0_A.sl.r_227]
  pointwise [k0_pay747, k0_pay729, k0_pay720]
  rw [st0 (B := B) (s := 6) (a := i) (hk := by first | rfl | (show i.val = 128 * 0 + i.val; omega)), tot0 (B := B), kx0_6 (B := B), l_exp]
  exact congrArg (· + _) (mul_comm _ _)

set_option maxHeartbeats 2000000 in
theorem kx0_7 (a f : Fin 128) : (kernelRun0_A.sl.r_127 (F := Ideal) c arg2 harg2 arg3 harg3 arg6 harg6 arg7 harg7 arg14 harg14 arg16 harg16 x0 x1 x4 x5 x12 x14) (ix2 a ⟨896 + f.val, by omega⟩)
    = ((∑ u : Fin 4, (1 - ff w (S 7) u (hc 0 f)) * Real.exp (hb w (S 7) 3 (hc 0 f) - hb w (S 7) u (hc 0 f)) * iv (S 7) u (hc 0 a) : ℝ) : EReal) := by
  simp only [kernelRun0_A.sl.r_127, kernelRun0_A.sl.r_126]
  pointwise [cat16_7, k0_pay610, k0_pay609]
  simp only [kernelRun0_A.sl.r_125, kernelRun0_A.sl.r_124, kernelRun0_A.sl.r_123, kernelRun0_A.sl.r_122, kernelRun0_A.sl.r_121, kernelRun0_A.sl.r_120, kernelRun0_A.sl.r_118, kernelRun0_A.sl.r_119]
  pointwise [k0_pay608, k0_pay454, k0_pay607, k0_pay606, k0_pay605, k0_pay604, k0_pay603, k0_pay601, k0_pay602]
  simp (disch := omega) only [iv0 (B := B), kf0 (B := B), cum0 (B := B), tot0 (B := B), w_seq, l_sel, l_sub, l_exp, l_mul, flag_coe, l_sum]
  rw [sum_seq_at 7 7 rfl]
  simp only [sR_rw4, tR_rw4]
  exact congrArg _ (Finset.sum_congr rfl fun u _ => by ring)

theorem new0_7 (i j : Fin 128) : ((kernelRun0_A.sl.v1910 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 0 7 i j := by
  simp only [kernelRun0_A.sl.v1910, kernelRun0_A.sl.r_237, kernelRun0_A.sl.r_227]
  pointwise [k0_pay730, k0_pay720]
  rw [st0 (B := B) (s := 7) (a := i) (hk := by first | rfl | (show i.val = 128 * 0 + i.val; omega)), tot0 (B := B), kx0_7 (B := B), l_exp]
  exact congrArg (· + _) (mul_comm _ _)

set_option maxHeartbeats 2000000 in
theorem kx0_8 (a f : Fin 128) : (kernelRun0_A.sl.r_127 (F := Ideal) c arg2 harg2 arg3 harg3 arg6 harg6 arg7 harg7 arg14 harg14 arg16 harg16 x0 x1 x4 x5 x12 x14) (ix2 a ⟨1024 + f.val, by omega⟩)
    = ((∑ u : Fin 4, (1 - ff w (S 8) u (hc 0 f)) * Real.exp (hb w (S 8) 3 (hc 0 f) - hb w (S 8) u (hc 0 f)) * iv (S 8) u (hc 0 a) : ℝ) : EReal) := by
  simp only [kernelRun0_A.sl.r_127, kernelRun0_A.sl.r_126]
  pointwise [cat16_8, k0_pay610, k0_pay609]
  simp only [kernelRun0_A.sl.r_125, kernelRun0_A.sl.r_124, kernelRun0_A.sl.r_123, kernelRun0_A.sl.r_122, kernelRun0_A.sl.r_121, kernelRun0_A.sl.r_120, kernelRun0_A.sl.r_118, kernelRun0_A.sl.r_119]
  pointwise [k0_pay608, k0_pay454, k0_pay607, k0_pay606, k0_pay605, k0_pay604, k0_pay603, k0_pay601, k0_pay602]
  simp (disch := omega) only [iv0 (B := B), kf0 (B := B), cum0 (B := B), tot0 (B := B), w_seq, l_sel, l_sub, l_exp, l_mul, flag_coe, l_sum]
  rw [sum_seq_at 8 8 rfl]
  simp only [sR_rw4, tR_rw4]
  exact congrArg _ (Finset.sum_congr rfl fun u _ => by ring)

theorem new0_8 (i j : Fin 128) : ((kernelRun0_A.sl.v1913 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 0 8 i j := by
  simp only [kernelRun0_A.sl.v1913, kernelRun0_A.sl.r_238, kernelRun0_A.sl.r_227]
  pointwise [k0_pay731, k0_pay720]
  rw [st0 (B := B) (s := 8) (a := i) (hk := by first | rfl | (show i.val = 128 * 0 + i.val; omega)), tot0 (B := B), kx0_8 (B := B), l_exp]
  exact congrArg (· + _) (mul_comm _ _)

set_option maxHeartbeats 2000000 in
theorem kx0_9 (a f : Fin 128) : (kernelRun0_A.sl.r_127 (F := Ideal) c arg2 harg2 arg3 harg3 arg6 harg6 arg7 harg7 arg14 harg14 arg16 harg16 x0 x1 x4 x5 x12 x14) (ix2 a ⟨1152 + f.val, by omega⟩)
    = ((∑ u : Fin 4, (1 - ff w (S 9) u (hc 0 f)) * Real.exp (hb w (S 9) 3 (hc 0 f) - hb w (S 9) u (hc 0 f)) * iv (S 9) u (hc 0 a) : ℝ) : EReal) := by
  simp only [kernelRun0_A.sl.r_127, kernelRun0_A.sl.r_126]
  pointwise [cat16_9, k0_pay610, k0_pay609]
  simp only [kernelRun0_A.sl.r_125, kernelRun0_A.sl.r_124, kernelRun0_A.sl.r_123, kernelRun0_A.sl.r_122, kernelRun0_A.sl.r_121, kernelRun0_A.sl.r_120, kernelRun0_A.sl.r_118, kernelRun0_A.sl.r_119]
  pointwise [k0_pay608, k0_pay454, k0_pay607, k0_pay606, k0_pay605, k0_pay604, k0_pay603, k0_pay601, k0_pay602]
  simp (disch := omega) only [iv0 (B := B), kf0 (B := B), cum0 (B := B), tot0 (B := B), w_seq, l_sel, l_sub, l_exp, l_mul, flag_coe, l_sum]
  rw [sum_seq_at 9 9 rfl]
  simp only [sR_rw4, tR_rw4]
  exact congrArg _ (Finset.sum_congr rfl fun u _ => by ring)

theorem new0_9 (i j : Fin 128) : ((kernelRun0_A.sl.v1916 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 0 9 i j := by
  simp only [kernelRun0_A.sl.v1916, kernelRun0_A.sl.r_239, kernelRun0_A.sl.r_227]
  pointwise [k0_pay732, k0_pay720]
  rw [st0 (B := B) (s := 9) (a := i) (hk := by first | rfl | (show i.val = 128 * 0 + i.val; omega)), tot0 (B := B), kx0_9 (B := B), l_exp]
  exact congrArg (· + _) (mul_comm _ _)

set_option maxHeartbeats 2000000 in
theorem kx0_10 (a f : Fin 128) : (kernelRun0_A.sl.r_127 (F := Ideal) c arg2 harg2 arg3 harg3 arg6 harg6 arg7 harg7 arg14 harg14 arg16 harg16 x0 x1 x4 x5 x12 x14) (ix2 a ⟨1280 + f.val, by omega⟩)
    = ((∑ u : Fin 4, (1 - ff w (S 10) u (hc 0 f)) * Real.exp (hb w (S 10) 3 (hc 0 f) - hb w (S 10) u (hc 0 f)) * iv (S 10) u (hc 0 a) : ℝ) : EReal) := by
  simp only [kernelRun0_A.sl.r_127, kernelRun0_A.sl.r_126]
  pointwise [cat16_10, k0_pay610, k0_pay609]
  simp only [kernelRun0_A.sl.r_125, kernelRun0_A.sl.r_124, kernelRun0_A.sl.r_123, kernelRun0_A.sl.r_122, kernelRun0_A.sl.r_121, kernelRun0_A.sl.r_120, kernelRun0_A.sl.r_118, kernelRun0_A.sl.r_119]
  pointwise [k0_pay608, k0_pay454, k0_pay607, k0_pay606, k0_pay605, k0_pay604, k0_pay603, k0_pay601, k0_pay602]
  simp (disch := omega) only [iv0 (B := B), kf0 (B := B), cum0 (B := B), tot0 (B := B), w_seq, l_sel, l_sub, l_exp, l_mul, flag_coe, l_sum]
  rw [sum_seq_at 10 10 rfl]
  simp only [sR_rw4, tR_rw4]
  exact congrArg _ (Finset.sum_congr rfl fun u _ => by ring)

theorem new0_10 (i j : Fin 128) : ((kernelRun0_A.sl.v1919 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 0 10 i j := by
  simp only [kernelRun0_A.sl.v1919, kernelRun0_A.sl.r_240, kernelRun0_A.sl.r_227]
  pointwise [k0_pay733, k0_pay720]
  rw [st0 (B := B) (s := 10) (a := i) (hk := by first | rfl | (show i.val = 128 * 0 + i.val; omega)), tot0 (B := B), kx0_10 (B := B), l_exp]
  exact congrArg (· + _) (mul_comm _ _)

set_option maxHeartbeats 2000000 in
theorem kx0_11 (a f : Fin 128) : (kernelRun0_A.sl.r_127 (F := Ideal) c arg2 harg2 arg3 harg3 arg6 harg6 arg7 harg7 arg14 harg14 arg16 harg16 x0 x1 x4 x5 x12 x14) (ix2 a ⟨1408 + f.val, by omega⟩)
    = ((∑ u : Fin 4, (1 - ff w (S 11) u (hc 0 f)) * Real.exp (hb w (S 11) 3 (hc 0 f) - hb w (S 11) u (hc 0 f)) * iv (S 11) u (hc 0 a) : ℝ) : EReal) := by
  simp only [kernelRun0_A.sl.r_127, kernelRun0_A.sl.r_126]
  pointwise [cat16_11, k0_pay610, k0_pay609]
  simp only [kernelRun0_A.sl.r_125, kernelRun0_A.sl.r_124, kernelRun0_A.sl.r_123, kernelRun0_A.sl.r_122, kernelRun0_A.sl.r_121, kernelRun0_A.sl.r_120, kernelRun0_A.sl.r_118, kernelRun0_A.sl.r_119]
  pointwise [k0_pay608, k0_pay454, k0_pay607, k0_pay606, k0_pay605, k0_pay604, k0_pay603, k0_pay601, k0_pay602]
  simp (disch := omega) only [iv0 (B := B), kf0 (B := B), cum0 (B := B), tot0 (B := B), w_seq, l_sel, l_sub, l_exp, l_mul, flag_coe, l_sum]
  rw [sum_seq_at 11 11 rfl]
  simp only [sR_rw4, tR_rw4]
  exact congrArg _ (Finset.sum_congr rfl fun u _ => by ring)

theorem new0_11 (i j : Fin 128) : ((kernelRun0_A.sl.v1922 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 0 11 i j := by
  simp only [kernelRun0_A.sl.v1922, kernelRun0_A.sl.r_241, kernelRun0_A.sl.r_227]
  pointwise [k0_pay734, k0_pay720]
  rw [st0 (B := B) (s := 11) (a := i) (hk := by first | rfl | (show i.val = 128 * 0 + i.val; omega)), tot0 (B := B), kx0_11 (B := B), l_exp]
  exact congrArg (· + _) (mul_comm _ _)

set_option maxHeartbeats 2000000 in
theorem kx0_12 (a f : Fin 128) : (kernelRun0_A.sl.r_127 (F := Ideal) c arg2 harg2 arg3 harg3 arg6 harg6 arg7 harg7 arg14 harg14 arg16 harg16 x0 x1 x4 x5 x12 x14) (ix2 a ⟨1536 + f.val, by omega⟩)
    = ((∑ u : Fin 4, (1 - ff w (S 12) u (hc 0 f)) * Real.exp (hb w (S 12) 3 (hc 0 f) - hb w (S 12) u (hc 0 f)) * iv (S 12) u (hc 0 a) : ℝ) : EReal) := by
  simp only [kernelRun0_A.sl.r_127, kernelRun0_A.sl.r_126]
  pointwise [cat16_12, k0_pay610, k0_pay609]
  simp only [kernelRun0_A.sl.r_125, kernelRun0_A.sl.r_124, kernelRun0_A.sl.r_123, kernelRun0_A.sl.r_122, kernelRun0_A.sl.r_121, kernelRun0_A.sl.r_120, kernelRun0_A.sl.r_118, kernelRun0_A.sl.r_119]
  pointwise [k0_pay608, k0_pay454, k0_pay607, k0_pay606, k0_pay605, k0_pay604, k0_pay603, k0_pay601, k0_pay602]
  simp (disch := omega) only [iv0 (B := B), kf0 (B := B), cum0 (B := B), tot0 (B := B), w_seq, l_sel, l_sub, l_exp, l_mul, flag_coe, l_sum]
  rw [sum_seq_at 12 12 rfl]
  simp only [sR_rw4, tR_rw4]
  exact congrArg _ (Finset.sum_congr rfl fun u _ => by ring)

theorem new0_12 (i j : Fin 128) : ((kernelRun0_A.sl.v1925 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 0 12 i j := by
  simp only [kernelRun0_A.sl.v1925, kernelRun0_A.sl.r_242, kernelRun0_A.sl.r_227]
  pointwise [k0_pay735, k0_pay720]
  rw [st0 (B := B) (s := 12) (a := i) (hk := by first | rfl | (show i.val = 128 * 0 + i.val; omega)), tot0 (B := B), kx0_12 (B := B), l_exp]
  exact congrArg (· + _) (mul_comm _ _)

set_option maxHeartbeats 2000000 in
theorem kx0_13 (a f : Fin 128) : (kernelRun0_A.sl.r_127 (F := Ideal) c arg2 harg2 arg3 harg3 arg6 harg6 arg7 harg7 arg14 harg14 arg16 harg16 x0 x1 x4 x5 x12 x14) (ix2 a ⟨1664 + f.val, by omega⟩)
    = ((∑ u : Fin 4, (1 - ff w (S 13) u (hc 0 f)) * Real.exp (hb w (S 13) 3 (hc 0 f) - hb w (S 13) u (hc 0 f)) * iv (S 13) u (hc 0 a) : ℝ) : EReal) := by
  simp only [kernelRun0_A.sl.r_127, kernelRun0_A.sl.r_126]
  pointwise [cat16_13, k0_pay610, k0_pay609]
  simp only [kernelRun0_A.sl.r_125, kernelRun0_A.sl.r_124, kernelRun0_A.sl.r_123, kernelRun0_A.sl.r_122, kernelRun0_A.sl.r_121, kernelRun0_A.sl.r_120, kernelRun0_A.sl.r_118, kernelRun0_A.sl.r_119]
  pointwise [k0_pay608, k0_pay454, k0_pay607, k0_pay606, k0_pay605, k0_pay604, k0_pay603, k0_pay601, k0_pay602]
  simp (disch := omega) only [iv0 (B := B), kf0 (B := B), cum0 (B := B), tot0 (B := B), w_seq, l_sel, l_sub, l_exp, l_mul, flag_coe, l_sum]
  rw [sum_seq_at 13 13 rfl]
  simp only [sR_rw4, tR_rw4]
  exact congrArg _ (Finset.sum_congr rfl fun u _ => by ring)

theorem new0_13 (i j : Fin 128) : ((kernelRun0_A.sl.v1928 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 0 13 i j := by
  simp only [kernelRun0_A.sl.v1928, kernelRun0_A.sl.r_243, kernelRun0_A.sl.r_227]
  pointwise [k0_pay736, k0_pay720]
  rw [st0 (B := B) (s := 13) (a := i) (hk := by first | rfl | (show i.val = 128 * 0 + i.val; omega)), tot0 (B := B), kx0_13 (B := B), l_exp]
  exact congrArg (· + _) (mul_comm _ _)

set_option maxHeartbeats 2000000 in
theorem kx0_14 (a f : Fin 128) : (kernelRun0_A.sl.r_127 (F := Ideal) c arg2 harg2 arg3 harg3 arg6 harg6 arg7 harg7 arg14 harg14 arg16 harg16 x0 x1 x4 x5 x12 x14) (ix2 a ⟨1792 + f.val, by omega⟩)
    = ((∑ u : Fin 4, (1 - ff w (S 14) u (hc 0 f)) * Real.exp (hb w (S 14) 3 (hc 0 f) - hb w (S 14) u (hc 0 f)) * iv (S 14) u (hc 0 a) : ℝ) : EReal) := by
  simp only [kernelRun0_A.sl.r_127, kernelRun0_A.sl.r_126]
  pointwise [cat16_14, k0_pay610, k0_pay609]
  simp only [kernelRun0_A.sl.r_125, kernelRun0_A.sl.r_124, kernelRun0_A.sl.r_123, kernelRun0_A.sl.r_122, kernelRun0_A.sl.r_121, kernelRun0_A.sl.r_120, kernelRun0_A.sl.r_118, kernelRun0_A.sl.r_119]
  pointwise [k0_pay608, k0_pay454, k0_pay607, k0_pay606, k0_pay605, k0_pay604, k0_pay603, k0_pay601, k0_pay602]
  simp (disch := omega) only [iv0 (B := B), kf0 (B := B), cum0 (B := B), tot0 (B := B), w_seq, l_sel, l_sub, l_exp, l_mul, flag_coe, l_sum]
  rw [sum_seq_at 14 14 rfl]
  simp only [sR_rw4, tR_rw4]
  exact congrArg _ (Finset.sum_congr rfl fun u _ => by ring)

theorem new0_14 (i j : Fin 128) : (k0_pay755 (kernelRun0_A.sl.r_244 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 0 14 i j := by
  simp only [kernelRun0_A.sl.r_244, kernelRun0_A.sl.r_227]
  pointwise [k0_pay755, k0_pay737, k0_pay720]
  rw [st0 (B := B) (s := 14) (a := i) (hk := by first | rfl | (show i.val = 128 * 0 + i.val; omega)), tot0 (B := B), kx0_14 (B := B), l_exp]
  exact congrArg (· + _) (mul_comm _ _)

set_option maxHeartbeats 2000000 in
theorem kx0_15 (a f : Fin 128) : (kernelRun0_A.sl.r_127 (F := Ideal) c arg2 harg2 arg3 harg3 arg6 harg6 arg7 harg7 arg14 harg14 arg16 harg16 x0 x1 x4 x5 x12 x14) (ix2 a ⟨1920 + f.val, by omega⟩)
    = ((∑ u : Fin 4, (1 - ff w (S 15) u (hc 0 f)) * Real.exp (hb w (S 15) 3 (hc 0 f) - hb w (S 15) u (hc 0 f)) * iv (S 15) u (hc 0 a) : ℝ) : EReal) := by
  simp only [kernelRun0_A.sl.r_127, kernelRun0_A.sl.r_126]
  pointwise [cat16_15, k0_pay610, k0_pay609]
  simp only [kernelRun0_A.sl.r_125, kernelRun0_A.sl.r_124, kernelRun0_A.sl.r_123, kernelRun0_A.sl.r_122, kernelRun0_A.sl.r_121, kernelRun0_A.sl.r_120, kernelRun0_A.sl.r_118, kernelRun0_A.sl.r_119]
  pointwise [k0_pay608, k0_pay454, k0_pay607, k0_pay606, k0_pay605, k0_pay604, k0_pay603, k0_pay601, k0_pay602]
  simp (disch := omega) only [iv0 (B := B), kf0 (B := B), cum0 (B := B), tot0 (B := B), w_seq, l_sel, l_sub, l_exp, l_mul, flag_coe, l_sum]
  rw [sum_seq_at 15 15 rfl]
  simp only [sR_rw4, tR_rw4]
  exact congrArg _ (Finset.sum_congr rfl fun u _ => by ring)

theorem new0_15 (i j : Fin 128) : (k0_pay756 (kernelRun0_A.sl.r_247 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 0 15 i j := by
  simp only [kernelRun0_A.sl.r_247, kernelRun0_A.sl.r_246, kernelRun0_A.sl.r_227, kernelRun0_A.sl.r_245]
  pointwise [k0_pay756, k0_pay740, k0_pay739, k0_pay720, k0_pay738]
  rw [st0 (B := B) (s := 15) (a := i) (hk := by first | rfl | (show i.val = 128 * 0 + i.val; omega)), tot0 (B := B), kx0_15 (B := B), l_exp]
  exact congrArg (· + _) (mul_comm _ _)

end Cert.Rec
end
-- ==== Proof.RecH1.lean ====
/- The states of the linear recurrence after the steps, head 1. -/
module

public import proofs.«01_k».proof.Proof.RecHB
public import proofs.«01_k».proof.Proof.RecCat

@[expose] public section

set_option maxRecDepth 16384

noncomputable section

namespace Cert.Rec

open Idealize.ShloMosaic Idealize.ShloMosaic.TcCoe Idealize.SL.Sem Cert.KernelIdeal Cert.KernelIdeal.Gen

variable (c : Dev nD)
variable (arg2 : Memref sig .tc .vmem S1x64x3840 .f32) (harg2 : arg2.IsWhole) (x0 : Vec Ideal S1x64x3840 .f32)
variable (arg3 : Memref sig .tc .vmem S1x16x1792 .f32) (harg3 : arg3.IsWhole) (x1 : Vec Ideal S1x16x1792 .f32)
variable (arg4 : Memref sig .tc .vmem S16x8x64x64 .f32) (harg4 : arg4.IsWhole) (x2 : Vec Ideal S16x8x64x64 .f32)
variable (arg5 : Memref sig .tc .vmem S16x4x128x128 .f32) (harg5 : arg5.IsWhole) (x3 : Vec Ideal S16x4x128x128 .f32)
variable (arg6 : Memref sig .tc .vmem S1x1792 .f32) (harg6 : arg6.IsWhole) (x4 : Vec Ideal S1x1792 .f32)
variable (arg7 : Memref sig .tc .vmem S1x512 .f32) (harg7 : arg7.IsWhole) (x5 : Vec Ideal S1x512 .f32)
variable (arg8 : Memref sig .tc .vmem S1x512 .f32) (harg8 : arg8.IsWhole) (x6 : Vec Ideal S1x512 .f32)
variable (arg9 : Memref sig .tc .vmem S1x512 .f32) (harg9 : arg9.IsWhole) (x7 : Vec Ideal S1x512 .f32)
variable (arg10 : Memref sig .tc .vmem S1x512 .f32) (harg10 : arg10.IsWhole) (x8 : Vec Ideal S1x512 .f32)
variable (arg11 : Memref sig .tc .vmem S1x512 .f32) (harg11 : arg11.IsWhole) (x9 : Vec Ideal S1x512 .f32)
variable (arg12 : Memref sig .tc .vmem S1x512 .f32) (harg12 : arg12.IsWhole) (x10 : Vec Ideal S1x512 .f32)
variable (arg13 : Memref sig .tc .vmem S1x512 .f32) (harg13 : arg13.IsWhole) (x11 : Vec Ideal S1x512 .f32)
variable (arg14 : Memref sig .tc .vmem S2x512 .f32) (harg14 : arg14.IsWhole) (x12 : Vec Ideal S2x512 .f32)
variable (arg15 : Memref sig .tc .vmem S1x128 .f32) (harg15 : arg15.IsWhole) (x13 : Vec Ideal S1x128 .f32)
variable (arg16 : Memref sig .tc .vmem S128x1024 .bf16) (harg16 : arg16.IsWhole) (x14 : Vec Ideal S128x1024 .bf16)
variable (arg17 : Memref sig .tc .vmem S128x512 .bf16) (harg17 : arg17.IsWhole) (x15 : Vec Ideal S128x512 .bf16)
variable (arg22 : Memref sig .tc .vmem S1x4x2048x128 .f32) (arg23 : Memref sig .tc .vmem S1x4x2048x128 .f32)
variable {w : Wt} {S : Fin 16 → Sq}
variable (B : Blk x0 x1 x2 x3 x4 x5 x6 x7 x8 x9 x10 x11 x12 x13 x14 x15 w S)

include B

set_option maxHeartbeats 2000000 in
theorem kx1_0 (a f : Fin 128) : (kernelRun0_A.sl.r_153 (F := Ideal) c arg2 harg2 arg3 harg3 arg6 harg6 arg7 harg7 arg14 harg14 arg16 harg16 x0 x1 x4 x5 x12 x14) (ix2 a ⟨f.val, by omega⟩)
    = ((∑ u : Fin 4, (1 - ff w (S 0) u (hc 1 f)) * Real.exp (hb w (S 0) 3 (hc 1 f) - hb w (S 0) u (hc 1 f)) * iv (S 0) u (hc 1 a) : ℝ) : EReal) := by
  simp only [kernelRun0_A.sl.r_153]
  pointwise [cat16_0, k0_pay641, k0_pay639, k0_pay640]
  simp only [kernelRun0_A.sl.r_152, kernelRun0_A.sl.r_140, kernelRun0_A.sl.r_151, kernelRun0_A.sl.r_150, kernelRun0_A.sl.r_149, kernelRun0_A.sl.r_148, kernelRun0_A.sl.r_147, kernelRun0_A.sl.r_146, kernelRun0_A.sl.r_145, kernelRun0_A.sl.r_144, kernelRun0_A.sl.r_143, kernelRun0_A.sl.r_142, kernelRun0_A.sl.r_141]
  pointwise [k0_pay638, k0_pay454, k0_pay624, k0_pay637, k0_pay636, k0_pay635, k0_pay634, k0_pay633, k0_pay632, k0_pay631, k0_pay630, k0_pay629, k0_pay627, k0_pay628, k0_pay626, k0_pay625]
  simp (disch := omega) only [iv1 (B := B), kf1 (B := B), cum1 (B := B), tot1 (B := B), w_seq, l_sel, l_sub, l_exp, l_mul, flag_coe, l_sum]
  rw [sum_seq_at 0 0 rfl]
  simp only [sR_rw4, tR_rw4]
  exact congrArg _ (Finset.sum_congr rfl fun u _ => by ring)

theorem new1_0 (i j : Fin 128) : (k0_pay779 (kernelRun0_A.sl.r_249 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 1 0 i j := by
  simp only [kernelRun0_A.sl.r_249]
  pointwise [k0_pay779, k0_pay759, k0_pay758]
  rw [st1 (B := B) (s := 0) (a := i) (hk := by first | rfl | (show i.val = 128 * 0 + i.val; omega)), tot1 (B := B), kx1_0 (B := B), l_exp]
  exact congrArg (· + _) (mul_comm _ _)

set_option maxHeartbeats 2000000 in
theorem kx1_1 (a f : Fin 128) : (kernelRun0_A.sl.r_153 (F := Ideal) c arg2 harg2 arg3 harg3 arg6 harg6 arg7 harg7 arg14 harg14 arg16 harg16 x0 x1 x4 x5 x12 x14) (ix2 a ⟨128 + f.val, by omega⟩)
    = ((∑ u : Fin 4, (1 - ff w (S 1) u (hc 1 f)) * Real.exp (hb w (S 1) 3 (hc 1 f) - hb w (S 1) u (hc 1 f)) * iv (S 1) u (hc 1 a) : ℝ) : EReal) := by
  simp only [kernelRun0_A.sl.r_153]
  pointwise [cat16_1, k0_pay641, k0_pay639, k0_pay640]
  simp only [kernelRun0_A.sl.r_152, kernelRun0_A.sl.r_140, kernelRun0_A.sl.r_151, kernelRun0_A.sl.r_150, kernelRun0_A.sl.r_149, kernelRun0_A.sl.r_148, kernelRun0_A.sl.r_147, kernelRun0_A.sl.r_146, kernelRun0_A.sl.r_145, kernelRun0_A.sl.r_144, kernelRun0_A.sl.r_143, kernelRun0_A.sl.r_142, kernelRun0_A.sl.r_141]
  pointwise [k0_pay638, k0_pay454, k0_pay624, k0_pay637, k0_pay636, k0_pay635, k0_pay634, k0_pay633, k0_pay632, k0_pay631, k0_pay630, k0_pay629, k0_pay627, k0_pay628, k0_pay626, k0_pay625]
  simp (disch := omega) only [iv1 (B := B), kf1 (B := B), cum1 (B := B), tot1 (B := B), w_seq, l_sel, l_sub, l_exp, l_mul, flag_coe, l_sum]
  rw [sum_seq_at 1 1 rfl]
  simp only [sR_rw4, tR_rw4]
  exact congrArg _ (Finset.sum_congr rfl fun u _ => by ring)

theorem new1_1 (i j : Fin 128) : (k0_pay780 (kernelRun0_A.sl.r_252 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 1 1 i j := by
  simp only [kernelRun0_A.sl.r_252, kernelRun0_A.sl.r_251, kernelRun0_A.sl.r_250]
  pointwise [k0_pay780, k0_pay762, k0_pay761, k0_pay760, k0_pay758]
  rw [st1 (B := B) (s := 1) (a := i) (hk := by first | rfl | (show i.val = 128 * 0 + i.val; omega)), tot1 (B := B), kx1_1 (B := B), l_exp]
  exact congrArg (· + _) (mul_comm _ _)

set_option maxHeartbeats 2000000 in
theorem kx1_2 (a f : Fin 128) : (kernelRun0_A.sl.r_153 (F := Ideal) c arg2 harg2 arg3 harg3 arg6 harg6 arg7 harg7 arg14 harg14 arg16 harg16 x0 x1 x4 x5 x12 x14) (ix2 a ⟨256 + f.val, by omega⟩)
    = ((∑ u : Fin 4, (1 - ff w (S 2) u (hc 1 f)) * Real.exp (hb w (S 2) 3 (hc 1 f) - hb w (S 2) u (hc 1 f)) * iv (S 2) u (hc 1 a) : ℝ) : EReal) := by
  simp only [kernelRun0_A.sl.r_153]
  pointwise [cat16_2, k0_pay641, k0_pay639, k0_pay640]
  simp only [kernelRun0_A.sl.r_152, kernelRun0_A.sl.r_140, kernelRun0_A.sl.r_151, kernelRun0_A.sl.r_150, kernelRun0_A.sl.r_149, kernelRun0_A.sl.r_148, kernelRun0_A.sl.r_147, kernelRun0_A.sl.r_146, kernelRun0_A.sl.r_145, kernelRun0_A.sl.r_144, kernelRun0_A.sl.r_143, kernelRun0_A.sl.r_142, kernelRun0_A.sl.r_141]
  pointwise [k0_pay638, k0_pay454, k0_pay624, k0_pay637, k0_pay636, k0_pay635, k0_pay634, k0_pay633, k0_pay632, k0_pay631, k0_pay630, k0_pay629, k0_pay627, k0_pay628, k0_pay626, k0_pay625]
  simp (disch := omega) only [iv1 (B := B), kf1 (B := B), cum1 (B := B), tot1 (B := B), w_seq, l_sel, l_sub, l_exp, l_mul, flag_coe, l_sum]
  rw [sum_seq_at 2 2 rfl]
  simp only [sR_rw4, tR_rw4]
  exact congrArg _ (Finset.sum_congr rfl fun u _ => by ring)

theorem new1_2 (i j : Fin 128) : (k0_pay781 (kernelRun0_A.sl.r_253 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 1 2 i j := by
  simp only [kernelRun0_A.sl.r_253, kernelRun0_A.sl.r_248]
  pointwise [k0_pay781, k0_pay763, k0_pay758]
  rw [st1 (B := B) (s := 2) (a := i) (hk := by first | rfl | (show i.val = 128 * 0 + i.val; omega)), tot1 (B := B), kx1_2 (B := B), l_exp]
  exact congrArg (· + _) (mul_comm _ _)

set_option maxHeartbeats 2000000 in
theorem kx1_3 (a f : Fin 128) : (kernelRun0_A.sl.r_153 (F := Ideal) c arg2 harg2 arg3 harg3 arg6 harg6 arg7 harg7 arg14 harg14 arg16 harg16 x0 x1 x4 x5 x12 x14) (ix2 a ⟨384 + f.val, by omega⟩)
    = ((∑ u : Fin 4, (1 - ff w (S 3) u (hc 1 f)) * Real.exp (hb w (S 3) 3 (hc 1 f) - hb w (S 3) u (hc 1 f)) * iv (S 3) u (hc 1 a) : ℝ) : EReal) := by
  simp only [kernelRun0_A.sl.r_153]
  pointwise [cat16_3, k0_pay641, k0_pay639, k0_pay640]
  simp only [kernelRun0_A.sl.r_152, kernelRun0_A.sl.r_140, kernelRun0_A.sl.r_151, kernelRun0_A.sl.r_150, kernelRun0_A.sl.r_149, kernelRun0_A.sl.r_148, kernelRun0_A.sl.r_147, kernelRun0_A.sl.r_146, kernelRun0_A.sl.r_145, kernelRun0_A.sl.r_144, kernelRun0_A.sl.r_143, kernelRun0_A.sl.r_142, kernelRun0_A.sl.r_141]
  pointwise [k0_pay638, k0_pay454, k0_pay624, k0_pay637, k0_pay636, k0_pay635, k0_pay634, k0_pay633, k0_pay632, k0_pay631, k0_pay630, k0_pay629, k0_pay627, k0_pay628, k0_pay626, k0_pay625]
  simp (disch := omega) only [iv1 (B := B), kf1 (B := B), cum1 (B := B), tot1 (B := B), w_seq, l_sel, l_sub, l_exp, l_mul, flag_coe, l_sum]
  rw [sum_seq_at 3 3 rfl]
  simp only [sR_rw4, tR_rw4]
  exact congrArg _ (Finset.sum_congr rfl fun u _ => by ring)

theorem new1_3 (i j : Fin 128) : (k0_pay782 (kernelRun0_A.sl.r_254 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 1 3 i j := by
  simp only [kernelRun0_A.sl.r_254, kernelRun0_A.sl.r_248]
  pointwise [k0_pay782, k0_pay764, k0_pay758]
  rw [st1 (B := B) (s := 3) (a := i) (hk := by first | rfl | (show i.val = 128 * 0 + i.val; omega)), tot1 (B := B), kx1_3 (B := B), l_exp]
  exact congrArg (· + _) (mul_comm _ _)

set_option maxHeartbeats 2000000 in
theorem kx1_4 (a f : Fin 128) : (kernelRun0_A.sl.r_153 (F := Ideal) c arg2 harg2 arg3 harg3 arg6 harg6 arg7 harg7 arg14 harg14 arg16 harg16 x0 x1 x4 x5 x12 x14) (ix2 a ⟨512 + f.val, by omega⟩)
    = ((∑ u : Fin 4, (1 - ff w (S 4) u (hc 1 f)) * Real.exp (hb w (S 4) 3 (hc 1 f) - hb w (S 4) u (hc 1 f)) * iv (S 4) u (hc 1 a) : ℝ) : EReal) := by
  simp only [kernelRun0_A.sl.r_153]
  pointwise [cat16_4, k0_pay641, k0_pay639, k0_pay640]
  simp only [kernelRun0_A.sl.r_152, kernelRun0_A.sl.r_140, kernelRun0_A.sl.r_151, kernelRun0_A.sl.r_150, kernelRun0_A.sl.r_149, kernelRun0_A.sl.r_148, kernelRun0_A.sl.r_147, kernelRun0_A.sl.r_146, kernelRun0_A.sl.r_145, kernelRun0_A.sl.r_144, kernelRun0_A.sl.r_143, kernelRun0_A.sl.r_142, kernelRun0_A.sl.r_141]
  pointwise [k0_pay638, k0_pay454, k0_pay624, k0_pay637, k0_pay636, k0_pay635, k0_pay634, k0_pay633, k0_pay632, k0_pay631, k0_pay630, k0_pay629, k0_pay627, k0_pay628, k0_pay626, k0_pay625]
  simp (disch := omega) only [iv1 (B := B), kf1 (B := B), cum1 (B := B), tot1 (B := B), w_seq, l_sel, l_sub, l_exp, l_mul, flag_coe, l_sum]
  rw [sum_seq_at 4 4 rfl]
  simp only [sR_rw4, tR_rw4]
  exact congrArg _ (Finset.sum_congr rfl fun u _ => by ring)

theorem new1_4 (i j : Fin 128) : ((kernelRun0_A.sl.v2074 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 1 4 i j := by
  simp only [kernelRun0_A.sl.v2074, kernelRun0_A.sl.r_255, kernelRun0_A.sl.r_248]
  pointwise [k0_pay765, k0_pay758]
  rw [st1 (B := B) (s := 4) (a := i) (hk := by first | rfl | (show i.val = 128 * 0 + i.val; omega)), tot1 (B := B), kx1_4 (B := B), l_exp]
  exact congrArg (· + _) (mul_comm _ _)

set_option maxHeartbeats 2000000 in
theorem kx1_5 (a f : Fin 128) : (kernelRun0_A.sl.r_153 (F := Ideal) c arg2 harg2 arg3 harg3 arg6 harg6 arg7 harg7 arg14 harg14 arg16 harg16 x0 x1 x4 x5 x12 x14) (ix2 a ⟨640 + f.val, by omega⟩)
    = ((∑ u : Fin 4, (1 - ff w (S 5) u (hc 1 f)) * Real.exp (hb w (S 5) 3 (hc 1 f) - hb w (S 5) u (hc 1 f)) * iv (S 5) u (hc 1 a) : ℝ) : EReal) := by
  simp only [kernelRun0_A.sl.r_153]
  pointwise [cat16_5, k0_pay641, k0_pay639, k0_pay640]
  simp only [kernelRun0_A.sl.r_152, kernelRun0_A.sl.r_140, kernelRun0_A.sl.r_151, kernelRun0_A.sl.r_150, kernelRun0_A.sl.r_149, kernelRun0_A.sl.r_148, kernelRun0_A.sl.r_147, kernelRun0_A.sl.r_146, kernelRun0_A.sl.r_145, kernelRun0_A.sl.r_144, kernelRun0_A.sl.r_143, kernelRun0_A.sl.r_142, kernelRun0_A.sl.r_141]
  pointwise [k0_pay638, k0_pay454, k0_pay624, k0_pay637, k0_pay636, k0_pay635, k0_pay634, k0_pay633, k0_pay632, k0_pay631, k0_pay630, k0_pay629, k0_pay627, k0_pay628, k0_pay626, k0_pay625]
  simp (disch := omega) only [iv1 (B := B), kf1 (B := B), cum1 (B := B), tot1 (B := B), w_seq, l_sel, l_sub, l_exp, l_mul, flag_coe, l_sum]
  rw [sum_seq_at 5 5 rfl]
  simp only [sR_rw4, tR_rw4]
  exact congrArg _ (Finset.sum_congr rfl fun u _ => by ring)

theorem new1_5 (i j : Fin 128) : ((kernelRun0_A.sl.v2077 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 1 5 i j := by
  simp only [kernelRun0_A.sl.v2077, kernelRun0_A.sl.r_256, kernelRun0_A.sl.r_248]
  pointwise [k0_pay766, k0_pay758]
  rw [st1 (B := B) (s := 5) (a := i) (hk := by first | rfl | (show i.val = 128 * 0 + i.val; omega)), tot1 (B := B), kx1_5 (B := B), l_exp]
  exact congrArg (· + _) (mul_comm _ _)

set_option maxHeartbeats 2000000 in
theorem kx1_6 (a f : Fin 128) : (kernelRun0_A.sl.r_153 (F := Ideal) c arg2 harg2 arg3 harg3 arg6 harg6 arg7 harg7 arg14 harg14 arg16 harg16 x0 x1 x4 x5 x12 x14) (ix2 a ⟨768 + f.val, by omega⟩)
    = ((∑ u : Fin 4, (1 - ff w (S 6) u (hc 1 f)) * Real.exp (hb w (S 6) 3 (hc 1 f) - hb w (S 6) u (hc 1 f)) * iv (S 6) u (hc 1 a) : ℝ) : EReal) := by
  simp only [kernelRun0_A.sl.r_153]
  pointwise [cat16_6, k0_pay641, k0_pay639, k0_pay640]
  simp only [kernelRun0_A.sl.r_152, kernelRun0_A.sl.r_140, kernelRun0_A.sl.r_151, kernelRun0_A.sl.r_150, kernelRun0_A.sl.r_149, kernelRun0_A.sl.r_148, kernelRun0_A.sl.r_147, kernelRun0_A.sl.r_146, kernelRun0_A.sl.r_145, kernelRun0_A.sl.r_144, kernelRun0_A.sl.r_143, kernelRun0_A.sl.r_142, kernelRun0_A.sl.r_141]
  pointwise [k0_pay638, k0_pay454, k0_pay624, k0_pay637, k0_pay636, k0_pay635, k0_pay634, k0_pay633, k0_pay632, k0_pay631, k0_pay630, k0_pay629, k0_pay627, k0_pay628, k0_pay626, k0_pay625]
  simp (disch := omega) only [iv1 (B := B), kf1 (B := B), cum1 (B := B), tot1 (B := B), w_seq, l_sel, l_sub, l_exp, l_mul, flag_coe, l_sum]
  rw [sum_seq_at 6 6 rfl]
  simp only [sR_rw4, tR_rw4]
  exact congrArg _ (Finset.sum_congr rfl fun u _ => by ring)

theorem new1_6 (i j : Fin 128) : ((kernelRun0_A.sl.v2080 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 1 6 i j := by
  simp only [kernelRun0_A.sl.v2080, kernelRun0_A.sl.r_257, kernelRun0_A.sl.r_248]
  pointwise [k0_pay767, k0_pay758]
  rw [st1 (B := B) (s := 6) (a := i) (hk := by first | rfl | (show i.val = 128 * 0 + i.val; omega)), tot1 (B := B), kx1_6 (B := B), l_exp]
  exact congrArg (· + _) (mul_comm _ _)

set_option maxHeartbeats 2000000 in
theorem kx1_7 (a f : Fin 128) : (kernelRun0_A.sl.r_153 (F := Ideal) c arg2 harg2 arg3 harg3 arg6 harg6 arg7 harg7 arg14 harg14 arg16 harg16 x0 x1 x4 x5 x12 x14) (ix2 a ⟨896 + f.val, by omega⟩)
    = ((∑ u : Fin 4, (1 - ff w (S 7) u (hc 1 f)) * Real.exp (hb w (S 7) 3 (hc 1 f) - hb w (S 7) u (hc 1 f)) * iv (S 7) u (hc 1 a) : ℝ) : EReal) := by
  simp only [kernelRun0_A.sl.r_153]
  pointwise [cat16_7, k0_pay641, k0_pay639, k0_pay640]
  simp only [kernelRun0_A.sl.r_152, kernelRun0_A.sl.r_140, kernelRun0_A.sl.r_151, kernelRun0_A.sl.r_150, kernelRun0_A.sl.r_149, kernelRun0_A.sl.r_148, kernelRun0_A.sl.r_147, kernelRun0_A.sl.r_146, kernelRun0_A.sl.r_145, kernelRun0_A.sl.r_144, kernelRun0_A.sl.r_143, kernelRun0_A.sl.r_142, kernelRun0_A.sl.r_141]
  pointwise [k0_pay638, k0_pay454, k0_pay624, k0_pay637, k0_pay636, k0_pay635, k0_pay634, k0_pay633, k0_pay632, k0_pay631, k0_pay630, k0_pay629, k0_pay627, k0_pay628, k0_pay626, k0_pay625]
  simp (disch := omega) only [iv1 (B := B), kf1 (B := B), cum1 (B := B), tot1 (B := B), w_seq, l_sel, l_sub, l_exp, l_mul, flag_coe, l_sum]
  rw [sum_seq_at 7 7 rfl]
  simp only [sR_rw4, tR_rw4]
  exact congrArg _ (Finset.sum_congr rfl fun u _ => by ring)

theorem new1_7 (i j : Fin 128) : ((kernelRun0_A.sl.v2083 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 1 7 i j := by
  simp only [kernelRun0_A.sl.v2083, kernelRun0_A.sl.r_258, kernelRun0_A.sl.r_248]
  pointwise [k0_pay768, k0_pay758]
  rw [st1 (B := B) (s := 7) (a := i) (hk := by first | rfl | (show i.val = 128 * 0 + i.val; omega)), tot1 (B := B), kx1_7 (B := B), l_exp]
  exact congrArg (· + _) (mul_comm _ _)

set_option maxHeartbeats 2000000 in
theorem kx1_8 (a f : Fin 128) : (kernelRun0_A.sl.r_153 (F := Ideal) c arg2 harg2 arg3 harg3 arg6 harg6 arg7 harg7 arg14 harg14 arg16 harg16 x0 x1 x4 x5 x12 x14) (ix2 a ⟨1024 + f.val, by omega⟩)
    = ((∑ u : Fin 4, (1 - ff w (S 8) u (hc 1 f)) * Real.exp (hb w (S 8) 3 (hc 1 f) - hb w (S 8) u (hc 1 f)) * iv (S 8) u (hc 1 a) : ℝ) : EReal) := by
  simp only [kernelRun0_A.sl.r_153]
  pointwise [cat16_8, k0_pay641, k0_pay639, k0_pay640]
  simp only [kernelRun0_A.sl.r_152, kernelRun0_A.sl.r_140, kernelRun0_A.sl.r_151, kernelRun0_A.sl.r_150, kernelRun0_A.sl.r_149, kernelRun0_A.sl.r_148, kernelRun0_A.sl.r_147, kernelRun0_A.sl.r_146, kernelRun0_A.sl.r_145, kernelRun0_A.sl.r_144, kernelRun0_A.sl.r_143, kernelRun0_A.sl.r_142, kernelRun0_A.sl.r_141]
  pointwise [k0_pay638, k0_pay454, k0_pay624, k0_pay637, k0_pay636, k0_pay635, k0_pay634, k0_pay633, k0_pay632, k0_pay631, k0_pay630, k0_pay629, k0_pay627, k0_pay628, k0_pay626, k0_pay625]
  simp (disch := omega) only [iv1 (B := B), kf1 (B := B), cum1 (B := B), tot1 (B := B), w_seq, l_sel, l_sub, l_exp, l_mul, flag_coe, l_sum]
  rw [sum_seq_at 8 8 rfl]
  simp only [sR_rw4, tR_rw4]
  exact congrArg _ (Finset.sum_congr rfl fun u _ => by ring)

theorem new1_8 (i j : Fin 128) : ((kernelRun0_A.sl.v2086 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 1 8 i j := by
  simp only [kernelRun0_A.sl.v2086, kernelRun0_A.sl.r_259, kernelRun0_A.sl.r_248]
  pointwise [k0_pay769, k0_pay758]
  rw [st1 (B := B) (s := 8) (a := i) (hk := by first | rfl | (show i.val = 128 * 0 + i.val; omega)), tot1 (B := B), kx1_8 (B := B), l_exp]
  exact congrArg (· + _) (mul_comm _ _)

set_option maxHeartbeats 2000000 in
theorem kx1_9 (a f : Fin 128) : (kernelRun0_A.sl.r_153 (F := Ideal) c arg2 harg2 arg3 harg3 arg6 harg6 arg7 harg7 arg14 harg14 arg16 harg16 x0 x1 x4 x5 x12 x14) (ix2 a ⟨1152 + f.val, by omega⟩)
    = ((∑ u : Fin 4, (1 - ff w (S 9) u (hc 1 f)) * Real.exp (hb w (S 9) 3 (hc 1 f) - hb w (S 9) u (hc 1 f)) * iv (S 9) u (hc 1 a) : ℝ) : EReal) := by
  simp only [kernelRun0_A.sl.r_153]
  pointwise [cat16_9, k0_pay641, k0_pay639, k0_pay640]
  simp only [kernelRun0_A.sl.r_152, kernelRun0_A.sl.r_140, kernelRun0_A.sl.r_151, kernelRun0_A.sl.r_150, kernelRun0_A.sl.r_149, kernelRun0_A.sl.r_148, kernelRun0_A.sl.r_147, kernelRun0_A.sl.r_146, kernelRun0_A.sl.r_145, kernelRun0_A.sl.r_144, kernelRun0_A.sl.r_143, kernelRun0_A.sl.r_142, kernelRun0_A.sl.r_141]
  pointwise [k0_pay638, k0_pay454, k0_pay624, k0_pay637, k0_pay636, k0_pay635, k0_pay634, k0_pay633, k0_pay632, k0_pay631, k0_pay630, k0_pay629, k0_pay627, k0_pay628, k0_pay626, k0_pay625]
  simp (disch := omega) only [iv1 (B := B), kf1 (B := B), cum1 (B := B), tot1 (B := B), w_seq, l_sel, l_sub, l_exp, l_mul, flag_coe, l_sum]
  rw [sum_seq_at 9 9 rfl]
  simp only [sR_rw4, tR_rw4]
  exact congrArg _ (Finset.sum_congr rfl fun u _ => by ring)

theorem new1_9 (i j : Fin 128) : ((kernelRun0_A.sl.v2089 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 1 9 i j := by
  simp only [kernelRun0_A.sl.v2089, kernelRun0_A.sl.r_260, kernelRun0_A.sl.r_248]
  pointwise [k0_pay770, k0_pay758]
  rw [st1 (B := B) (s := 9) (a := i) (hk := by first | rfl | (show i.val = 128 * 0 + i.val; omega)), tot1 (B := B), kx1_9 (B := B), l_exp]
  exact congrArg (· + _) (mul_comm _ _)

set_option maxHeartbeats 2000000 in
theorem kx1_10 (a f : Fin 128) : (kernelRun0_A.sl.r_153 (F := Ideal) c arg2 harg2 arg3 harg3 arg6 harg6 arg7 harg7 arg14 harg14 arg16 harg16 x0 x1 x4 x5 x12 x14) (ix2 a ⟨1280 + f.val, by omega⟩)
    = ((∑ u : Fin 4, (1 - ff w (S 10) u (hc 1 f)) * Real.exp (hb w (S 10) 3 (hc 1 f) - hb w (S 10) u (hc 1 f)) * iv (S 10) u (hc 1 a) : ℝ) : EReal) := by
  simp only [kernelRun0_A.sl.r_153]
  pointwise [cat16_10, k0_pay641, k0_pay639, k0_pay640]
  simp only [kernelRun0_A.sl.r_152, kernelRun0_A.sl.r_140, kernelRun0_A.sl.r_151, kernelRun0_A.sl.r_150, kernelRun0_A.sl.r_149, kernelRun0_A.sl.r_148, kernelRun0_A.sl.r_147, kernelRun0_A.sl.r_146, kernelRun0_A.sl.r_145, kernelRun0_A.sl.r_144, kernelRun0_A.sl.r_143, kernelRun0_A.sl.r_142, kernelRun0_A.sl.r_141]
  pointwise [k0_pay638, k0_pay454, k0_pay624, k0_pay637, k0_pay636, k0_pay635, k0_pay634, k0_pay633, k0_pay632, k0_pay631, k0_pay630, k0_pay629, k0_pay627, k0_pay628, k0_pay626, k0_pay625]
  simp (disch := omega) only [iv1 (B := B), kf1 (B := B), cum1 (B := B), tot1 (B := B), w_seq, l_sel, l_sub, l_exp, l_mul, flag_coe, l_sum]
  rw [sum_seq_at 10 10 rfl]
  simp only [sR_rw4, tR_rw4]
  exact congrArg _ (Finset.sum_congr rfl fun u _ => by ring)

theorem new1_10 (i j : Fin 128) : ((kernelRun0_A.sl.v2092 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 1 10 i j := by
  simp only [kernelRun0_A.sl.v2092, kernelRun0_A.sl.r_261, kernelRun0_A.sl.r_248]
  pointwise [k0_pay771, k0_pay758]
  rw [st1 (B := B) (s := 10) (a := i) (hk := by first | rfl | (show i.val = 128 * 0 + i.val; omega)), tot1 (B := B), kx1_10 (B := B), l_exp]
  exact congrArg (· + _) (mul_comm _ _)

set_option maxHeartbeats 2000000 in
theorem kx1_11 (a f : Fin 128) : (kernelRun0_A.sl.r_153 (F := Ideal) c arg2 harg2 arg3 harg3 arg6 harg6 arg7 harg7 arg14 harg14 arg16 harg16 x0 x1 x4 x5 x12 x14) (ix2 a ⟨1408 + f.val, by omega⟩)
    = ((∑ u : Fin 4, (1 - ff w (S 11) u (hc 1 f)) * Real.exp (hb w (S 11) 3 (hc 1 f) - hb w (S 11) u (hc 1 f)) * iv (S 11) u (hc 1 a) : ℝ) : EReal) := by
  simp only [kernelRun0_A.sl.r_153]
  pointwise [cat16_11, k0_pay641, k0_pay639, k0_pay640]
  simp only [kernelRun0_A.sl.r_152, kernelRun0_A.sl.r_140, kernelRun0_A.sl.r_151, kernelRun0_A.sl.r_150, kernelRun0_A.sl.r_149, kernelRun0_A.sl.r_148, kernelRun0_A.sl.r_147, kernelRun0_A.sl.r_146, kernelRun0_A.sl.r_145, kernelRun0_A.sl.r_144, kernelRun0_A.sl.r_143, kernelRun0_A.sl.r_142, kernelRun0_A.sl.r_141]
  pointwise [k0_pay638, k0_pay454, k0_pay624, k0_pay637, k0_pay636, k0_pay635, k0_pay634, k0_pay633, k0_pay632, k0_pay631, k0_pay630, k0_pay629, k0_pay627, k0_pay628, k0_pay626, k0_pay625]
  simp (disch := omega) only [iv1 (B := B), kf1 (B := B), cum1 (B := B), tot1 (B := B), w_seq, l_sel, l_sub, l_exp, l_mul, flag_coe, l_sum]
  rw [sum_seq_at 11 11 rfl]
  simp only [sR_rw4, tR_rw4]
  exact congrArg _ (Finset.sum_congr rfl fun u _ => by ring)

theorem new1_11 (i j : Fin 128) : (k0_pay790 (kernelRun0_A.sl.r_264 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 1 11 i j := by
  simp only [kernelRun0_A.sl.r_264, kernelRun0_A.sl.r_263, kernelRun0_A.sl.r_248, kernelRun0_A.sl.r_262]
  pointwise [k0_pay790, k0_pay774, k0_pay773, k0_pay758, k0_pay772]
  rw [st1 (B := B) (s := 11) (a := i) (hk := by first | rfl | (show i.val = 128 * 0 + i.val; omega)), tot1 (B := B), kx1_11 (B := B), l_exp]
  exact congrArg (· + _) (mul_comm _ _)

set_option maxHeartbeats 2000000 in
theorem kx1_12 (a f : Fin 128) : (kernelRun0_A.sl.r_153 (F := Ideal) c arg2 harg2 arg3 harg3 arg6 harg6 arg7 harg7 arg14 harg14 arg16 harg16 x0 x1 x4 x5 x12 x14) (ix2 a ⟨1536 + f.val, by omega⟩)
    = ((∑ u : Fin 4, (1 - ff w (S 12) u (hc 1 f)) * Real.exp (hb w (S 12) 3 (hc 1 f) - hb w (S 12) u (hc 1 f)) * iv (S 12) u (hc 1 a) : ℝ) : EReal) := by
  simp only [kernelRun0_A.sl.r_153]
  pointwise [cat16_12, k0_pay641, k0_pay639, k0_pay640]
  simp only [kernelRun0_A.sl.r_152, kernelRun0_A.sl.r_140, kernelRun0_A.sl.r_151, kernelRun0_A.sl.r_150, kernelRun0_A.sl.r_149, kernelRun0_A.sl.r_148, kernelRun0_A.sl.r_147, kernelRun0_A.sl.r_146, kernelRun0_A.sl.r_145, kernelRun0_A.sl.r_144, kernelRun0_A.sl.r_143, kernelRun0_A.sl.r_142, kernelRun0_A.sl.r_141]
  pointwise [k0_pay638, k0_pay454, k0_pay624, k0_pay637, k0_pay636, k0_pay635, k0_pay634, k0_pay633, k0_pay632, k0_pay631, k0_pay630, k0_pay629, k0_pay627, k0_pay628, k0_pay626, k0_pay625]
  simp (disch := omega) only [iv1 (B := B), kf1 (B := B), cum1 (B := B), tot1 (B := B), w_seq, l_sel, l_sub, l_exp, l_mul, flag_coe, l_sum]
  rw [sum_seq_at 12 12 rfl]
  simp only [sR_rw4, tR_rw4]
  exact congrArg _ (Finset.sum_congr rfl fun u _ => by ring)

theorem new1_12 (i j : Fin 128) : (k0_pay791 (kernelRun0_A.sl.r_265 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 1 12 i j := by
  simp only [kernelRun0_A.sl.r_265, kernelRun0_A.sl.r_248]
  pointwise [k0_pay791, k0_pay775, k0_pay758]
  rw [st1 (B := B) (s := 12) (a := i) (hk := by first | rfl | (show i.val = 128 * 0 + i.val; omega)), tot1 (B := B), kx1_12 (B := B), l_exp]
  exact congrArg (· + _) (mul_comm _ _)

set_option maxHeartbeats 2000000 in
theorem kx1_13 (a f : Fin 128) : (kernelRun0_A.sl.r_153 (F := Ideal) c arg2 harg2 arg3 harg3 arg6 harg6 arg7 harg7 arg14 harg14 arg16 harg16 x0 x1 x4 x5 x12 x14) (ix2 a ⟨1664 + f.val, by omega⟩)
    = ((∑ u : Fin 4, (1 - ff w (S 13) u (hc 1 f)) * Real.exp (hb w (S 13) 3 (hc 1 f) - hb w (S 13) u (hc 1 f)) * iv (S 13) u (hc 1 a) : ℝ) : EReal) := by
  simp only [kernelRun0_A.sl.r_153]
  pointwise [cat16_13, k0_pay641, k0_pay639, k0_pay640]
  simp only [kernelRun0_A.sl.r_152, kernelRun0_A.sl.r_140, kernelRun0_A.sl.r_151, kernelRun0_A.sl.r_150, kernelRun0_A.sl.r_149, kernelRun0_A.sl.r_148, kernelRun0_A.sl.r_147, kernelRun0_A.sl.r_146, kernelRun0_A.sl.r_145, kernelRun0_A.sl.r_144, kernelRun0_A.sl.r_143, kernelRun0_A.sl.r_142, kernelRun0_A.sl.r_141]
  pointwise [k0_pay638, k0_pay454, k0_pay624, k0_pay637, k0_pay636, k0_pay635, k0_pay634, k0_pay633, k0_pay632, k0_pay631, k0_pay630, k0_pay629, k0_pay627, k0_pay628, k0_pay626, k0_pay625]
  simp (disch := omega) only [iv1 (B := B), kf1 (B := B), cum1 (B := B), tot1 (B := B), w_seq, l_sel, l_sub, l_exp, l_mul, flag_coe, l_sum]
  rw [sum_seq_at 13 13 rfl]
  simp only [sR_rw4, tR_rw4]
  exact congrArg _ (Finset.sum_congr rfl fun u _ => by ring)

theorem new1_13 (i j : Fin 128) : (k0_pay792 (kernelRun0_A.sl.r_266 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 1 13 i j := by
  simp only [kernelRun0_A.sl.r_266, kernelRun0_A.sl.r_248]
  pointwise [k0_pay792, k0_pay776, k0_pay758]
  rw [st1 (B := B) (s := 13) (a := i) (hk := by first | rfl | (show i.val = 128 * 0 + i.val; omega)), tot1 (B := B), kx1_13 (B := B), l_exp]
  exact congrArg (· + _) (mul_comm _ _)

set_option maxHeartbeats 2000000 in
theorem kx1_14 (a f : Fin 128) : (kernelRun0_A.sl.r_153 (F := Ideal) c arg2 harg2 arg3 harg3 arg6 harg6 arg7 harg7 arg14 harg14 arg16 harg16 x0 x1 x4 x5 x12 x14) (ix2 a ⟨1792 + f.val, by omega⟩)
    = ((∑ u : Fin 4, (1 - ff w (S 14) u (hc 1 f)) * Real.exp (hb w (S 14) 3 (hc 1 f) - hb w (S 14) u (hc 1 f)) * iv (S 14) u (hc 1 a) : ℝ) : EReal) := by
  simp only [kernelRun0_A.sl.r_153]
  pointwise [cat16_14, k0_pay641, k0_pay639, k0_pay640]
  simp only [kernelRun0_A.sl.r_152, kernelRun0_A.sl.r_140, kernelRun0_A.sl.r_151, kernelRun0_A.sl.r_150, kernelRun0_A.sl.r_149, kernelRun0_A.sl.r_148, kernelRun0_A.sl.r_147, kernelRun0_A.sl.r_146, kernelRun0_A.sl.r_145, kernelRun0_A.sl.r_144, kernelRun0_A.sl.r_143, kernelRun0_A.sl.r_142, kernelRun0_A.sl.r_141]
  pointwise [k0_pay638, k0_pay454, k0_pay624, k0_pay637, k0_pay636, k0_pay635, k0_pay634, k0_pay633, k0_pay632, k0_pay631, k0_pay630, k0_pay629, k0_pay627, k0_pay628, k0_pay626, k0_pay625]
  simp (disch := omega) only [iv1 (B := B), kf1 (B := B), cum1 (B := B), tot1 (B := B), w_seq, l_sel, l_sub, l_exp, l_mul, flag_coe, l_sum]
  rw [sum_seq_at 14 14 rfl]
  simp only [sR_rw4, tR_rw4]
  exact congrArg _ (Finset.sum_congr rfl fun u _ => by ring)

theorem new1_14 (i j : Fin 128) : (k0_pay793 (kernelRun0_A.sl.r_267 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 1 14 i j := by
  simp only [kernelRun0_A.sl.r_267, kernelRun0_A.sl.r_248]
  pointwise [k0_pay793, k0_pay777, k0_pay758]
  rw [st1 (B := B) (s := 14) (a := i) (hk := by first | rfl | (show i.val = 128 * 0 + i.val; omega)), tot1 (B := B), kx1_14 (B := B), l_exp]
  exact congrArg (· + _) (mul_comm _ _)

set_option maxHeartbeats 2000000 in
theorem kx1_15 (a f : Fin 128) : (kernelRun0_A.sl.r_153 (F := Ideal) c arg2 harg2 arg3 harg3 arg6 harg6 arg7 harg7 arg14 harg14 arg16 harg16 x0 x1 x4 x5 x12 x14) (ix2 a ⟨1920 + f.val, by omega⟩)
    = ((∑ u : Fin 4, (1 - ff w (S 15) u (hc 1 f)) * Real.exp (hb w (S 15) 3 (hc 1 f) - hb w (S 15) u (hc 1 f)) * iv (S 15) u (hc 1 a) : ℝ) : EReal) := by
  simp only [kernelRun0_A.sl.r_153]
  pointwise [cat16_15, k0_pay641, k0_pay639, k0_pay640]
  simp only [kernelRun0_A.sl.r_152, kernelRun0_A.sl.r_140, kernelRun0_A.sl.r_151, kernelRun0_A.sl.r_150, kernelRun0_A.sl.r_149, kernelRun0_A.sl.r_148, kernelRun0_A.sl.r_147, kernelRun0_A.sl.r_146, kernelRun0_A.sl.r_145, kernelRun0_A.sl.r_144, kernelRun0_A.sl.r_143, kernelRun0_A.sl.r_142, kernelRun0_A.sl.r_141]
  pointwise [k0_pay638, k0_pay454, k0_pay624, k0_pay637, k0_pay636, k0_pay635, k0_pay634, k0_pay633, k0_pay632, k0_pay631, k0_pay630, k0_pay629, k0_pay627, k0_pay628, k0_pay626, k0_pay625]
  simp (disch := omega) only [iv1 (B := B), kf1 (B := B), cum1 (B := B), tot1 (B := B), w_seq, l_sel, l_sub, l_exp, l_mul, flag_coe, l_sum]
  rw [sum_seq_at 15 15 rfl]
  simp only [sR_rw4, tR_rw4]
  exact congrArg _ (Finset.sum_congr rfl fun u _ => by ring)

theorem new1_15 (i j : Fin 128) : (k0_pay794 (kernelRun0_A.sl.r_268 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 1 15 i j := by
  simp only [kernelRun0_A.sl.r_268, kernelRun0_A.sl.r_248]
  pointwise [k0_pay794, k0_pay778, k0_pay758]
  rw [st1 (B := B) (s := 15) (a := i) (hk := by first | rfl | (show i.val = 128 * 0 + i.val; omega)), tot1 (B := B), kx1_15 (B := B), l_exp]
  exact congrArg (· + _) (mul_comm _ _)

end Cert.Rec
end
-- ==== Proof.RecH2.lean ====
/- The states of the linear recurrence after the steps, head 2. -/
module

public import proofs.«01_k».proof.Proof.RecHB
public import proofs.«01_k».proof.Proof.RecCat

@[expose] public section

set_option maxRecDepth 16384

noncomputable section

namespace Cert.Rec

open Idealize.ShloMosaic Idealize.ShloMosaic.TcCoe Idealize.SL.Sem Cert.KernelIdeal Cert.KernelIdeal.Gen

variable (c : Dev nD)
variable (arg2 : Memref sig .tc .vmem S1x64x3840 .f32) (harg2 : arg2.IsWhole) (x0 : Vec Ideal S1x64x3840 .f32)
variable (arg3 : Memref sig .tc .vmem S1x16x1792 .f32) (harg3 : arg3.IsWhole) (x1 : Vec Ideal S1x16x1792 .f32)
variable (arg4 : Memref sig .tc .vmem S16x8x64x64 .f32) (harg4 : arg4.IsWhole) (x2 : Vec Ideal S16x8x64x64 .f32)
variable (arg5 : Memref sig .tc .vmem S16x4x128x128 .f32) (harg5 : arg5.IsWhole) (x3 : Vec Ideal S16x4x128x128 .f32)
variable (arg6 : Memref sig .tc .vmem S1x1792 .f32) (harg6 : arg6.IsWhole) (x4 : Vec Ideal S1x1792 .f32)
variable (arg7 : Memref sig .tc .vmem S1x512 .f32) (harg7 : arg7.IsWhole) (x5 : Vec Ideal S1x512 .f32)
variable (arg8 : Memref sig .tc .vmem S1x512 .f32) (harg8 : arg8.IsWhole) (x6 : Vec Ideal S1x512 .f32)
variable (arg9 : Memref sig .tc .vmem S1x512 .f32) (harg9 : arg9.IsWhole) (x7 : Vec Ideal S1x512 .f32)
variable (arg10 : Memref sig .tc .vmem S1x512 .f32) (harg10 : arg10.IsWhole) (x8 : Vec Ideal S1x512 .f32)
variable (arg11 : Memref sig .tc .vmem S1x512 .f32) (harg11 : arg11.IsWhole) (x9 : Vec Ideal S1x512 .f32)
variable (arg12 : Memref sig .tc .vmem S1x512 .f32) (harg12 : arg12.IsWhole) (x10 : Vec Ideal S1x512 .f32)
variable (arg13 : Memref sig .tc .vmem S1x512 .f32) (harg13 : arg13.IsWhole) (x11 : Vec Ideal S1x512 .f32)
variable (arg14 : Memref sig .tc .vmem S2x512 .f32) (harg14 : arg14.IsWhole) (x12 : Vec Ideal S2x512 .f32)
variable (arg15 : Memref sig .tc .vmem S1x128 .f32) (harg15 : arg15.IsWhole) (x13 : Vec Ideal S1x128 .f32)
variable (arg16 : Memref sig .tc .vmem S128x1024 .bf16) (harg16 : arg16.IsWhole) (x14 : Vec Ideal S128x1024 .bf16)
variable (arg17 : Memref sig .tc .vmem S128x512 .bf16) (harg17 : arg17.IsWhole) (x15 : Vec Ideal S128x512 .bf16)
variable (arg22 : Memref sig .tc .vmem S1x4x2048x128 .f32) (arg23 : Memref sig .tc .vmem S1x4x2048x128 .f32)
variable {w : Wt} {S : Fin 16 → Sq}
variable (B : Blk x0 x1 x2 x3 x4 x5 x6 x7 x8 x9 x10 x11 x12 x13 x14 x15 w S)

include B

set_option maxHeartbeats 2000000 in
theorem kx2_0 (a f : Fin 128) : (kernelRun0_A.sl.r_176 (F := Ideal) c arg2 harg2 arg3 harg3 arg6 harg6 arg7 harg7 arg14 harg14 arg16 harg16 x0 x1 x4 x5 x12 x14) (ix2 a ⟨f.val, by omega⟩)
    = ((∑ u : Fin 4, (1 - ff w (S 0) u (hc 2 f)) * Real.exp (hb w (S 0) 3 (hc 2 f) - hb w (S 0) u (hc 2 f)) * iv (S 0) u (hc 2 a) : ℝ) : EReal) := by
  simp only [kernelRun0_A.sl.r_176]
  pointwise [cat16_0, k0_pay668, k0_pay667]
  simp only [kernelRun0_A.sl.r_175, kernelRun0_A.sl.r_174, kernelRun0_A.sl.r_173, kernelRun0_A.sl.r_172, kernelRun0_A.sl.r_171, kernelRun0_A.sl.r_170, kernelRun0_A.sl.r_169, kernelRun0_A.sl.r_168, kernelRun0_A.sl.r_167]
  pointwise [k0_pay666, k0_pay454, k0_pay665, k0_pay664, k0_pay663, k0_pay662, k0_pay661, k0_pay660, k0_pay659, k0_pay658]
  simp (disch := omega) only [iv2 (B := B), kf2 (B := B), cum2 (B := B), tot2 (B := B), w_seq, l_sel, l_sub, l_exp, l_mul, flag_coe, l_sum]
  rw [sum_seq_at 0 0 rfl]
  simp only [sR_rw4, tR_rw4]
  exact congrArg _ (Finset.sum_congr rfl fun u _ => by ring)

theorem new2_0 (i j : Fin 128) : ((kernelRun0_A.sl.r_290 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 2 0 i j := by
  simp only [kernelRun0_A.sl.r_290, kernelRun0_A.sl.r_273]
  pointwise [k0_pay817, k0_pay800, k0_pay799]
  rw [st2 (B := B) (s := 0) (a := i) (hk := by first | rfl | (show i.val = 128 * 0 + i.val; omega)), tot2 (B := B), kx2_0 (B := B), l_exp]
  exact congrArg (· + _) (mul_comm _ _)

set_option maxHeartbeats 2000000 in
theorem kx2_1 (a f : Fin 128) : (kernelRun0_A.sl.r_176 (F := Ideal) c arg2 harg2 arg3 harg3 arg6 harg6 arg7 harg7 arg14 harg14 arg16 harg16 x0 x1 x4 x5 x12 x14) (ix2 a ⟨128 + f.val, by omega⟩)
    = ((∑ u : Fin 4, (1 - ff w (S 1) u (hc 2 f)) * Real.exp (hb w (S 1) 3 (hc 2 f) - hb w (S 1) u (hc 2 f)) * iv (S 1) u (hc 2 a) : ℝ) : EReal) := by
  simp only [kernelRun0_A.sl.r_176]
  pointwise [cat16_1, k0_pay668, k0_pay667]
  simp only [kernelRun0_A.sl.r_175, kernelRun0_A.sl.r_174, kernelRun0_A.sl.r_173, kernelRun0_A.sl.r_172, kernelRun0_A.sl.r_171, kernelRun0_A.sl.r_170, kernelRun0_A.sl.r_169, kernelRun0_A.sl.r_168, kernelRun0_A.sl.r_167]
  pointwise [k0_pay666, k0_pay454, k0_pay665, k0_pay664, k0_pay663, k0_pay662, k0_pay661, k0_pay660, k0_pay659, k0_pay658]
  simp (disch := omega) only [iv2 (B := B), kf2 (B := B), cum2 (B := B), tot2 (B := B), w_seq, l_sel, l_sub, l_exp, l_mul, flag_coe, l_sum]
  rw [sum_seq_at 1 1 rfl]
  simp only [sR_rw4, tR_rw4]
  exact congrArg _ (Finset.sum_congr rfl fun u _ => by ring)

theorem new2_1 (i j : Fin 128) : ((kernelRun0_A.sl.v2238 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 2 1 i j := by
  simp only [kernelRun0_A.sl.v2238, kernelRun0_A.sl.r_274]
  pointwise [k0_pay801, k0_pay799]
  rw [st2 (B := B) (s := 1) (a := i) (hk := by first | rfl | (show i.val = 128 * 0 + i.val; omega)), tot2 (B := B), kx2_1 (B := B), l_exp]
  exact congrArg (· + _) (mul_comm _ _)

set_option maxHeartbeats 2000000 in
theorem kx2_2 (a f : Fin 128) : (kernelRun0_A.sl.r_176 (F := Ideal) c arg2 harg2 arg3 harg3 arg6 harg6 arg7 harg7 arg14 harg14 arg16 harg16 x0 x1 x4 x5 x12 x14) (ix2 a ⟨256 + f.val, by omega⟩)
    = ((∑ u : Fin 4, (1 - ff w (S 2) u (hc 2 f)) * Real.exp (hb w (S 2) 3 (hc 2 f) - hb w (S 2) u (hc 2 f)) * iv (S 2) u (hc 2 a) : ℝ) : EReal) := by
  simp only [kernelRun0_A.sl.r_176]
  pointwise [cat16_2, k0_pay668, k0_pay667]
  simp only [kernelRun0_A.sl.r_175, kernelRun0_A.sl.r_174, kernelRun0_A.sl.r_173, kernelRun0_A.sl.r_172, kernelRun0_A.sl.r_171, kernelRun0_A.sl.r_170, kernelRun0_A.sl.r_169, kernelRun0_A.sl.r_168, kernelRun0_A.sl.r_167]
  pointwise [k0_pay666, k0_pay454, k0_pay665, k0_pay664, k0_pay663, k0_pay662, k0_pay661, k0_pay660, k0_pay659, k0_pay658]
  simp (disch := omega) only [iv2 (B := B), kf2 (B := B), cum2 (B := B), tot2 (B := B), w_seq, l_sel, l_sub, l_exp, l_mul, flag_coe, l_sum]
  rw [sum_seq_at 2 2 rfl]
  simp only [sR_rw4, tR_rw4]
  exact congrArg _ (Finset.sum_congr rfl fun u _ => by ring)

theorem new2_2 (i j : Fin 128) : ((kernelRun0_A.sl.v2241 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 2 2 i j := by
  simp only [kernelRun0_A.sl.v2241, kernelRun0_A.sl.r_275]
  pointwise [k0_pay802, k0_pay799]
  rw [st2 (B := B) (s := 2) (a := i) (hk := by first | rfl | (show i.val = 128 * 0 + i.val; omega)), tot2 (B := B), kx2_2 (B := B), l_exp]
  exact congrArg (· + _) (mul_comm _ _)

set_option maxHeartbeats 2000000 in
theorem kx2_3 (a f : Fin 128) : (kernelRun0_A.sl.r_176 (F := Ideal) c arg2 harg2 arg3 harg3 arg6 harg6 arg7 harg7 arg14 harg14 arg16 harg16 x0 x1 x4 x5 x12 x14) (ix2 a ⟨384 + f.val, by omega⟩)
    = ((∑ u : Fin 4, (1 - ff w (S 3) u (hc 2 f)) * Real.exp (hb w (S 3) 3 (hc 2 f) - hb w (S 3) u (hc 2 f)) * iv (S 3) u (hc 2 a) : ℝ) : EReal) := by
  simp only [kernelRun0_A.sl.r_176]
  pointwise [cat16_3, k0_pay668, k0_pay667]
  simp only [kernelRun0_A.sl.r_175, kernelRun0_A.sl.r_174, kernelRun0_A.sl.r_173, kernelRun0_A.sl.r_172, kernelRun0_A.sl.r_171, kernelRun0_A.sl.r_170, kernelRun0_A.sl.r_169, kernelRun0_A.sl.r_168, kernelRun0_A.sl.r_167]
  pointwise [k0_pay666, k0_pay454, k0_pay665, k0_pay664, k0_pay663, k0_pay662, k0_pay661, k0_pay660, k0_pay659, k0_pay658]
  simp (disch := omega) only [iv2 (B := B), kf2 (B := B), cum2 (B := B), tot2 (B := B), w_seq, l_sel, l_sub, l_exp, l_mul, flag_coe, l_sum]
  rw [sum_seq_at 3 3 rfl]
  simp only [sR_rw4, tR_rw4]
  exact congrArg _ (Finset.sum_congr rfl fun u _ => by ring)

theorem new2_3 (i j : Fin 128) : ((kernelRun0_A.sl.v2244 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 2 3 i j := by
  simp only [kernelRun0_A.sl.v2244, kernelRun0_A.sl.r_276]
  pointwise [k0_pay803, k0_pay799]
  rw [st2 (B := B) (s := 3) (a := i) (hk := by first | rfl | (show i.val = 128 * 0 + i.val; omega)), tot2 (B := B), kx2_3 (B := B), l_exp]
  exact congrArg (· + _) (mul_comm _ _)

set_option maxHeartbeats 2000000 in
theorem kx2_4 (a f : Fin 128) : (kernelRun0_A.sl.r_176 (F := Ideal) c arg2 harg2 arg3 harg3 arg6 harg6 arg7 harg7 arg14 harg14 arg16 harg16 x0 x1 x4 x5 x12 x14) (ix2 a ⟨512 + f.val, by omega⟩)
    = ((∑ u : Fin 4, (1 - ff w (S 4) u (hc 2 f)) * Real.exp (hb w (S 4) 3 (hc 2 f) - hb w (S 4) u (hc 2 f)) * iv (S 4) u (hc 2 a) : ℝ) : EReal) := by
  simp only [kernelRun0_A.sl.r_176]
  pointwise [cat16_4, k0_pay668, k0_pay667]
  simp only [kernelRun0_A.sl.r_175, kernelRun0_A.sl.r_174, kernelRun0_A.sl.r_173, kernelRun0_A.sl.r_172, kernelRun0_A.sl.r_171, kernelRun0_A.sl.r_170, kernelRun0_A.sl.r_169, kernelRun0_A.sl.r_168, kernelRun0_A.sl.r_167]
  pointwise [k0_pay666, k0_pay454, k0_pay665, k0_pay664, k0_pay663, k0_pay662, k0_pay661, k0_pay660, k0_pay659, k0_pay658]
  simp (disch := omega) only [iv2 (B := B), kf2 (B := B), cum2 (B := B), tot2 (B := B), w_seq, l_sel, l_sub, l_exp, l_mul, flag_coe, l_sum]
  rw [sum_seq_at 4 4 rfl]
  simp only [sR_rw4, tR_rw4]
  exact congrArg _ (Finset.sum_congr rfl fun u _ => by ring)

theorem new2_4 (i j : Fin 128) : ((kernelRun0_A.sl.v2247 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 2 4 i j := by
  simp only [kernelRun0_A.sl.v2247, kernelRun0_A.sl.r_277]
  pointwise [k0_pay804, k0_pay799]
  rw [st2 (B := B) (s := 4) (a := i) (hk := by first | rfl | (show i.val = 128 * 0 + i.val; omega)), tot2 (B := B), kx2_4 (B := B), l_exp]
  exact congrArg (· + _) (mul_comm _ _)

set_option maxHeartbeats 2000000 in
theorem kx2_5 (a f : Fin 128) : (kernelRun0_A.sl.r_176 (F := Ideal) c arg2 harg2 arg3 harg3 arg6 harg6 arg7 harg7 arg14 harg14 arg16 harg16 x0 x1 x4 x5 x12 x14) (ix2 a ⟨640 + f.val, by omega⟩)
    = ((∑ u : Fin 4, (1 - ff w (S 5) u (hc 2 f)) * Real.exp (hb w (S 5) 3 (hc 2 f) - hb w (S 5) u (hc 2 f)) * iv (S 5) u (hc 2 a) : ℝ) : EReal) := by
  simp only [kernelRun0_A.sl.r_176]
  pointwise [cat16_5, k0_pay668, k0_pay667]
  simp only [kernelRun0_A.sl.r_175, kernelRun0_A.sl.r_174, kernelRun0_A.sl.r_173, kernelRun0_A.sl.r_172, kernelRun0_A.sl.r_171, kernelRun0_A.sl.r_170, kernelRun0_A.sl.r_169, kernelRun0_A.sl.r_168, kernelRun0_A.sl.r_167]
  pointwise [k0_pay666, k0_pay454, k0_pay665, k0_pay664, k0_pay663, k0_pay662, k0_pay661, k0_pay660, k0_pay659, k0_pay658]
  simp (disch := omega) only [iv2 (B := B), kf2 (B := B), cum2 (B := B), tot2 (B := B), w_seq, l_sel, l_sub, l_exp, l_mul, flag_coe, l_sum]
  rw [sum_seq_at 5 5 rfl]
  simp only [sR_rw4, tR_rw4]
  exact congrArg _ (Finset.sum_congr rfl fun u _ => by ring)

theorem new2_5 (i j : Fin 128) : ((kernelRun0_A.sl.v2250 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 2 5 i j := by
  simp only [kernelRun0_A.sl.v2250, kernelRun0_A.sl.r_278]
  pointwise [k0_pay805, k0_pay799]
  rw [st2 (B := B) (s := 5) (a := i) (hk := by first | rfl | (show i.val = 128 * 0 + i.val; omega)), tot2 (B := B), kx2_5 (B := B), l_exp]
  exact congrArg (· + _) (mul_comm _ _)

set_option maxHeartbeats 2000000 in
theorem kx2_6 (a f : Fin 128) : (kernelRun0_A.sl.r_176 (F := Ideal) c arg2 harg2 arg3 harg3 arg6 harg6 arg7 harg7 arg14 harg14 arg16 harg16 x0 x1 x4 x5 x12 x14) (ix2 a ⟨768 + f.val, by omega⟩)
    = ((∑ u : Fin 4, (1 - ff w (S 6) u (hc 2 f)) * Real.exp (hb w (S 6) 3 (hc 2 f) - hb w (S 6) u (hc 2 f)) * iv (S 6) u (hc 2 a) : ℝ) : EReal) := by
  simp only [kernelRun0_A.sl.r_176]
  pointwise [cat16_6, k0_pay668, k0_pay667]
  simp only [kernelRun0_A.sl.r_175, kernelRun0_A.sl.r_174, kernelRun0_A.sl.r_173, kernelRun0_A.sl.r_172, kernelRun0_A.sl.r_171, kernelRun0_A.sl.r_170, kernelRun0_A.sl.r_169, kernelRun0_A.sl.r_168, kernelRun0_A.sl.r_167]
  pointwise [k0_pay666, k0_pay454, k0_pay665, k0_pay664, k0_pay663, k0_pay662, k0_pay661, k0_pay660, k0_pay659, k0_pay658]
  simp (disch := omega) only [iv2 (B := B), kf2 (B := B), cum2 (B := B), tot2 (B := B), w_seq, l_sel, l_sub, l_exp, l_mul, flag_coe, l_sum]
  rw [sum_seq_at 6 6 rfl]
  simp only [sR_rw4, tR_rw4]
  exact congrArg _ (Finset.sum_congr rfl fun u _ => by ring)

theorem new2_6 (i j : Fin 128) : ((kernelRun0_A.sl.v2253 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 2 6 i j := by
  simp only [kernelRun0_A.sl.v2253, kernelRun0_A.sl.r_279]
  pointwise [k0_pay806, k0_pay799]
  rw [st2 (B := B) (s := 6) (a := i) (hk := by first | rfl | (show i.val = 128 * 0 + i.val; omega)), tot2 (B := B), kx2_6 (B := B), l_exp]
  exact congrArg (· + _) (mul_comm _ _)

set_option maxHeartbeats 2000000 in
theorem kx2_7 (a f : Fin 128) : (kernelRun0_A.sl.r_176 (F := Ideal) c arg2 harg2 arg3 harg3 arg6 harg6 arg7 harg7 arg14 harg14 arg16 harg16 x0 x1 x4 x5 x12 x14) (ix2 a ⟨896 + f.val, by omega⟩)
    = ((∑ u : Fin 4, (1 - ff w (S 7) u (hc 2 f)) * Real.exp (hb w (S 7) 3 (hc 2 f) - hb w (S 7) u (hc 2 f)) * iv (S 7) u (hc 2 a) : ℝ) : EReal) := by
  simp only [kernelRun0_A.sl.r_176]
  pointwise [cat16_7, k0_pay668, k0_pay667]
  simp only [kernelRun0_A.sl.r_175, kernelRun0_A.sl.r_174, kernelRun0_A.sl.r_173, kernelRun0_A.sl.r_172, kernelRun0_A.sl.r_171, kernelRun0_A.sl.r_170, kernelRun0_A.sl.r_169, kernelRun0_A.sl.r_168, kernelRun0_A.sl.r_167]
  pointwise [k0_pay666, k0_pay454, k0_pay665, k0_pay664, k0_pay663, k0_pay662, k0_pay661, k0_pay660, k0_pay659, k0_pay658]
  simp (disch := omega) only [iv2 (B := B), kf2 (B := B), cum2 (B := B), tot2 (B := B), w_seq, l_sel, l_sub, l_exp, l_mul, flag_coe, l_sum]
  rw [sum_seq_at 7 7 rfl]
  simp only [sR_rw4, tR_rw4]
  exact congrArg _ (Finset.sum_congr rfl fun u _ => by ring)

theorem new2_7 (i j : Fin 128) : ((kernelRun0_A.sl.v2256 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 2 7 i j := by
  simp only [kernelRun0_A.sl.v2256, kernelRun0_A.sl.r_281, kernelRun0_A.sl.r_280, kernelRun0_A.sl.r_272]
  pointwise [k0_pay808, k0_pay807, k0_pay799]
  rw [st2 (B := B) (s := 7) (a := i) (hk := by first | rfl | (show i.val = 128 * 0 + i.val; omega)), tot2 (B := B), kx2_7 (B := B), l_exp]
  exact congrArg (· + _) (mul_comm _ _)

set_option maxHeartbeats 2000000 in
theorem kx2_8 (a f : Fin 128) : (kernelRun0_A.sl.r_176 (F := Ideal) c arg2 harg2 arg3 harg3 arg6 harg6 arg7 harg7 arg14 harg14 arg16 harg16 x0 x1 x4 x5 x12 x14) (ix2 a ⟨1024 + f.val, by omega⟩)
    = ((∑ u : Fin 4, (1 - ff w (S 8) u (hc 2 f)) * Real.exp (hb w (S 8) 3 (hc 2 f) - hb w (S 8) u (hc 2 f)) * iv (S 8) u (hc 2 a) : ℝ) : EReal) := by
  simp only [kernelRun0_A.sl.r_176]
  pointwise [cat16_8, k0_pay668, k0_pay667]
  simp only [kernelRun0_A.sl.r_175, kernelRun0_A.sl.r_174, kernelRun0_A.sl.r_173, kernelRun0_A.sl.r_172, kernelRun0_A.sl.r_171, kernelRun0_A.sl.r_170, kernelRun0_A.sl.r_169, kernelRun0_A.sl.r_168, kernelRun0_A.sl.r_167]
  pointwise [k0_pay666, k0_pay454, k0_pay665, k0_pay664, k0_pay663, k0_pay662, k0_pay661, k0_pay660, k0_pay659, k0_pay658]
  simp (disch := omega) only [iv2 (B := B), kf2 (B := B), cum2 (B := B), tot2 (B := B), w_seq, l_sel, l_sub, l_exp, l_mul, flag_coe, l_sum]
  rw [sum_seq_at 8 8 rfl]
  simp only [sR_rw4, tR_rw4]
  exact congrArg _ (Finset.sum_congr rfl fun u _ => by ring)

theorem new2_8 (i j : Fin 128) : ((kernelRun0_A.sl.v2259 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 2 8 i j := by
  simp only [kernelRun0_A.sl.v2259, kernelRun0_A.sl.r_282, kernelRun0_A.sl.r_272]
  pointwise [k0_pay809, k0_pay799]
  rw [st2 (B := B) (s := 8) (a := i) (hk := by first | rfl | (show i.val = 128 * 0 + i.val; omega)), tot2 (B := B), kx2_8 (B := B), l_exp]
  exact congrArg (· + _) (mul_comm _ _)

set_option maxHeartbeats 2000000 in
theorem kx2_9 (a f : Fin 128) : (kernelRun0_A.sl.r_176 (F := Ideal) c arg2 harg2 arg3 harg3 arg6 harg6 arg7 harg7 arg14 harg14 arg16 harg16 x0 x1 x4 x5 x12 x14) (ix2 a ⟨1152 + f.val, by omega⟩)
    = ((∑ u : Fin 4, (1 - ff w (S 9) u (hc 2 f)) * Real.exp (hb w (S 9) 3 (hc 2 f) - hb w (S 9) u (hc 2 f)) * iv (S 9) u (hc 2 a) : ℝ) : EReal) := by
  simp only [kernelRun0_A.sl.r_176]
  pointwise [cat16_9, k0_pay668, k0_pay667]
  simp only [kernelRun0_A.sl.r_175, kernelRun0_A.sl.r_174, kernelRun0_A.sl.r_173, kernelRun0_A.sl.r_172, kernelRun0_A.sl.r_171, kernelRun0_A.sl.r_170, kernelRun0_A.sl.r_169, kernelRun0_A.sl.r_168, kernelRun0_A.sl.r_167]
  pointwise [k0_pay666, k0_pay454, k0_pay665, k0_pay664, k0_pay663, k0_pay662, k0_pay661, k0_pay660, k0_pay659, k0_pay658]
  simp (disch := omega) only [iv2 (B := B), kf2 (B := B), cum2 (B := B), tot2 (B := B), w_seq, l_sel, l_sub, l_exp, l_mul, flag_coe, l_sum]
  rw [sum_seq_at 9 9 rfl]
  simp only [sR_rw4, tR_rw4]
  exact congrArg _ (Finset.sum_congr rfl fun u _ => by ring)

theorem new2_9 (i j : Fin 128) : ((kernelRun0_A.sl.v2262 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 2 9 i j := by
  simp only [kernelRun0_A.sl.v2262, kernelRun0_A.sl.r_283, kernelRun0_A.sl.r_272]
  pointwise [k0_pay810, k0_pay799]
  rw [st2 (B := B) (s := 9) (a := i) (hk := by first | rfl | (show i.val = 128 * 0 + i.val; omega)), tot2 (B := B), kx2_9 (B := B), l_exp]
  exact congrArg (· + _) (mul_comm _ _)

set_option maxHeartbeats 2000000 in
theorem kx2_10 (a f : Fin 128) : (kernelRun0_A.sl.r_176 (F := Ideal) c arg2 harg2 arg3 harg3 arg6 harg6 arg7 harg7 arg14 harg14 arg16 harg16 x0 x1 x4 x5 x12 x14) (ix2 a ⟨1280 + f.val, by omega⟩)
    = ((∑ u : Fin 4, (1 - ff w (S 10) u (hc 2 f)) * Real.exp (hb w (S 10) 3 (hc 2 f) - hb w (S 10) u (hc 2 f)) * iv (S 10) u (hc 2 a) : ℝ) : EReal) := by
  simp only [kernelRun0_A.sl.r_176]
  pointwise [cat16_10, k0_pay668, k0_pay667]
  simp only [kernelRun0_A.sl.r_175, kernelRun0_A.sl.r_174, kernelRun0_A.sl.r_173, kernelRun0_A.sl.r_172, kernelRun0_A.sl.r_171, kernelRun0_A.sl.r_170, kernelRun0_A.sl.r_169, kernelRun0_A.sl.r_168, kernelRun0_A.sl.r_167]
  pointwise [k0_pay666, k0_pay454, k0_pay665, k0_pay664, k0_pay663, k0_pay662, k0_pay661, k0_pay660, k0_pay659, k0_pay658]
  simp (disch := omega) only [iv2 (B := B), kf2 (B := B), cum2 (B := B), tot2 (B := B), w_seq, l_sel, l_sub, l_exp, l_mul, flag_coe, l_sum]
  rw [sum_seq_at 10 10 rfl]
  simp only [sR_rw4, tR_rw4]
  exact congrArg _ (Finset.sum_congr rfl fun u _ => by ring)

theorem new2_10 (i j : Fin 128) : ((kernelRun0_A.sl.v2265 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 2 10 i j := by
  simp only [kernelRun0_A.sl.v2265, kernelRun0_A.sl.r_284, kernelRun0_A.sl.r_272]
  pointwise [k0_pay811, k0_pay799]
  rw [st2 (B := B) (s := 10) (a := i) (hk := by first | rfl | (show i.val = 128 * 0 + i.val; omega)), tot2 (B := B), kx2_10 (B := B), l_exp]
  exact congrArg (· + _) (mul_comm _ _)

set_option maxHeartbeats 2000000 in
theorem kx2_11 (a f : Fin 128) : (kernelRun0_A.sl.r_176 (F := Ideal) c arg2 harg2 arg3 harg3 arg6 harg6 arg7 harg7 arg14 harg14 arg16 harg16 x0 x1 x4 x5 x12 x14) (ix2 a ⟨1408 + f.val, by omega⟩)
    = ((∑ u : Fin 4, (1 - ff w (S 11) u (hc 2 f)) * Real.exp (hb w (S 11) 3 (hc 2 f) - hb w (S 11) u (hc 2 f)) * iv (S 11) u (hc 2 a) : ℝ) : EReal) := by
  simp only [kernelRun0_A.sl.r_176]
  pointwise [cat16_11, k0_pay668, k0_pay667]
  simp only [kernelRun0_A.sl.r_175, kernelRun0_A.sl.r_174, kernelRun0_A.sl.r_173, kernelRun0_A.sl.r_172, kernelRun0_A.sl.r_171, kernelRun0_A.sl.r_170, kernelRun0_A.sl.r_169, kernelRun0_A.sl.r_168, kernelRun0_A.sl.r_167]
  pointwise [k0_pay666, k0_pay454, k0_pay665, k0_pay664, k0_pay663, k0_pay662, k0_pay661, k0_pay660, k0_pay659, k0_pay658]
  simp (disch := omega) only [iv2 (B := B), kf2 (B := B), cum2 (B := B), tot2 (B := B), w_seq, l_sel, l_sub, l_exp, l_mul, flag_coe, l_sum]
  rw [sum_seq_at 11 11 rfl]
  simp only [sR_rw4, tR_rw4]
  exact congrArg _ (Finset.sum_congr rfl fun u _ => by ring)

theorem new2_11 (i j : Fin 128) : ((kernelRun0_A.sl.v2268 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 2 11 i j := by
  simp only [kernelRun0_A.sl.v2268, kernelRun0_A.sl.r_285, kernelRun0_A.sl.r_272]
  pointwise [k0_pay812, k0_pay799]
  rw [st2 (B := B) (s := 11) (a := i) (hk := by first | rfl | (show i.val = 128 * 0 + i.val; omega)), tot2 (B := B), kx2_11 (B := B), l_exp]
  exact congrArg (· + _) (mul_comm _ _)

set_option maxHeartbeats 2000000 in
theorem kx2_12 (a f : Fin 128) : (kernelRun0_A.sl.r_176 (F := Ideal) c arg2 harg2 arg3 harg3 arg6 harg6 arg7 harg7 arg14 harg14 arg16 harg16 x0 x1 x4 x5 x12 x14) (ix2 a ⟨1536 + f.val, by omega⟩)
    = ((∑ u : Fin 4, (1 - ff w (S 12) u (hc 2 f)) * Real.exp (hb w (S 12) 3 (hc 2 f) - hb w (S 12) u (hc 2 f)) * iv (S 12) u (hc 2 a) : ℝ) : EReal) := by
  simp only [kernelRun0_A.sl.r_176]
  pointwise [cat16_12, k0_pay668, k0_pay667]
  simp only [kernelRun0_A.sl.r_175, kernelRun0_A.sl.r_174, kernelRun0_A.sl.r_173, kernelRun0_A.sl.r_172, kernelRun0_A.sl.r_171, kernelRun0_A.sl.r_170, kernelRun0_A.sl.r_169, kernelRun0_A.sl.r_168, kernelRun0_A.sl.r_167]
  pointwise [k0_pay666, k0_pay454, k0_pay665, k0_pay664, k0_pay663, k0_pay662, k0_pay661, k0_pay660, k0_pay659, k0_pay658]
  simp (disch := omega) only [iv2 (B := B), kf2 (B := B), cum2 (B := B), tot2 (B := B), w_seq, l_sel, l_sub, l_exp, l_mul, flag_coe, l_sum]
  rw [sum_seq_at 12 12 rfl]
  simp only [sR_rw4, tR_rw4]
  exact congrArg _ (Finset.sum_congr rfl fun u _ => by ring)

theorem new2_12 (i j : Fin 128) : ((kernelRun0_A.sl.v2271 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 2 12 i j := by
  simp only [kernelRun0_A.sl.v2271, kernelRun0_A.sl.r_286, kernelRun0_A.sl.r_272]
  pointwise [k0_pay813, k0_pay799]
  rw [st2 (B := B) (s := 12) (a := i) (hk := by first | rfl | (show i.val = 128 * 0 + i.val; omega)), tot2 (B := B), kx2_12 (B := B), l_exp]
  exact congrArg (· + _) (mul_comm _ _)

set_option maxHeartbeats 2000000 in
theorem kx2_13 (a f : Fin 128) : (kernelRun0_A.sl.r_176 (F := Ideal) c arg2 harg2 arg3 harg3 arg6 harg6 arg7 harg7 arg14 harg14 arg16 harg16 x0 x1 x4 x5 x12 x14) (ix2 a ⟨1664 + f.val, by omega⟩)
    = ((∑ u : Fin 4, (1 - ff w (S 13) u (hc 2 f)) * Real.exp (hb w (S 13) 3 (hc 2 f) - hb w (S 13) u (hc 2 f)) * iv (S 13) u (hc 2 a) : ℝ) : EReal) := by
  simp only [kernelRun0_A.sl.r_176]
  pointwise [cat16_13, k0_pay668, k0_pay667]
  simp only [kernelRun0_A.sl.r_175, kernelRun0_A.sl.r_174, kernelRun0_A.sl.r_173, kernelRun0_A.sl.r_172, kernelRun0_A.sl.r_171, kernelRun0_A.sl.r_170, kernelRun0_A.sl.r_169, kernelRun0_A.sl.r_168, kernelRun0_A.sl.r_167]
  pointwise [k0_pay666, k0_pay454, k0_pay665, k0_pay664, k0_pay663, k0_pay662, k0_pay661, k0_pay660, k0_pay659, k0_pay658]
  simp (disch := omega) only [iv2 (B := B), kf2 (B := B), cum2 (B := B), tot2 (B := B), w_seq, l_sel, l_sub, l_exp, l_mul, flag_coe, l_sum]
  rw [sum_seq_at 13 13 rfl]
  simp only [sR_rw4, tR_rw4]
  exact congrArg _ (Finset.sum_congr rfl fun u _ => by ring)

theorem new2_13 (i j : Fin 128) : ((kernelRun0_A.sl.v2274 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 2 13 i j := by
  simp only [kernelRun0_A.sl.v2274, kernelRun0_A.sl.r_287, kernelRun0_A.sl.r_272]
  pointwise [k0_pay814, k0_pay799]
  rw [st2 (B := B) (s := 13) (a := i) (hk := by first | rfl | (show i.val = 128 * 0 + i.val; omega)), tot2 (B := B), kx2_13 (B := B), l_exp]
  exact congrArg (· + _) (mul_comm _ _)

set_option maxHeartbeats 2000000 in
theorem kx2_14 (a f : Fin 128) : (kernelRun0_A.sl.r_176 (F := Ideal) c arg2 harg2 arg3 harg3 arg6 harg6 arg7 harg7 arg14 harg14 arg16 harg16 x0 x1 x4 x5 x12 x14) (ix2 a ⟨1792 + f.val, by omega⟩)
    = ((∑ u : Fin 4, (1 - ff w (S 14) u (hc 2 f)) * Real.exp (hb w (S 14) 3 (hc 2 f) - hb w (S 14) u (hc 2 f)) * iv (S 14) u (hc 2 a) : ℝ) : EReal) := by
  simp only [kernelRun0_A.sl.r_176]
  pointwise [cat16_14, k0_pay668, k0_pay667]
  simp only [kernelRun0_A.sl.r_175, kernelRun0_A.sl.r_174, kernelRun0_A.sl.r_173, kernelRun0_A.sl.r_172, kernelRun0_A.sl.r_171, kernelRun0_A.sl.r_170, kernelRun0_A.sl.r_169, kernelRun0_A.sl.r_168, kernelRun0_A.sl.r_167]
  pointwise [k0_pay666, k0_pay454, k0_pay665, k0_pay664, k0_pay663, k0_pay662, k0_pay661, k0_pay660, k0_pay659, k0_pay658]
  simp (disch := omega) only [iv2 (B := B), kf2 (B := B), cum2 (B := B), tot2 (B := B), w_seq, l_sel, l_sub, l_exp, l_mul, flag_coe, l_sum]
  rw [sum_seq_at 14 14 rfl]
  simp only [sR_rw4, tR_rw4]
  exact congrArg _ (Finset.sum_congr rfl fun u _ => by ring)

theorem new2_14 (i j : Fin 128) : ((kernelRun0_A.sl.v2277 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 2 14 i j := by
  simp only [kernelRun0_A.sl.v2277, kernelRun0_A.sl.r_288, kernelRun0_A.sl.r_272]
  pointwise [k0_pay815, k0_pay799]
  rw [st2 (B := B) (s := 14) (a := i) (hk := by first | rfl | (show i.val = 128 * 0 + i.val; omega)), tot2 (B := B), kx2_14 (B := B), l_exp]
  exact congrArg (· + _) (mul_comm _ _)

set_option maxHeartbeats 2000000 in
theorem kx2_15 (a f : Fin 128) : (kernelRun0_A.sl.r_176 (F := Ideal) c arg2 harg2 arg3 harg3 arg6 harg6 arg7 harg7 arg14 harg14 arg16 harg16 x0 x1 x4 x5 x12 x14) (ix2 a ⟨1920 + f.val, by omega⟩)
    = ((∑ u : Fin 4, (1 - ff w (S 15) u (hc 2 f)) * Real.exp (hb w (S 15) 3 (hc 2 f) - hb w (S 15) u (hc 2 f)) * iv (S 15) u (hc 2 a) : ℝ) : EReal) := by
  simp only [kernelRun0_A.sl.r_176]
  pointwise [cat16_15, k0_pay668, k0_pay667]
  simp only [kernelRun0_A.sl.r_175, kernelRun0_A.sl.r_174, kernelRun0_A.sl.r_173, kernelRun0_A.sl.r_172, kernelRun0_A.sl.r_171, kernelRun0_A.sl.r_170, kernelRun0_A.sl.r_169, kernelRun0_A.sl.r_168, kernelRun0_A.sl.r_167]
  pointwise [k0_pay666, k0_pay454, k0_pay665, k0_pay664, k0_pay663, k0_pay662, k0_pay661, k0_pay660, k0_pay659, k0_pay658]
  simp (disch := omega) only [iv2 (B := B), kf2 (B := B), cum2 (B := B), tot2 (B := B), w_seq, l_sel, l_sub, l_exp, l_mul, flag_coe, l_sum]
  rw [sum_seq_at 15 15 rfl]
  simp only [sR_rw4, tR_rw4]
  exact congrArg _ (Finset.sum_congr rfl fun u _ => by ring)

theorem new2_15 (i j : Fin 128) : ((kernelRun0_A.sl.v2280 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 2 15 i j := by
  simp only [kernelRun0_A.sl.v2280, kernelRun0_A.sl.r_289, kernelRun0_A.sl.r_272]
  pointwise [k0_pay816, k0_pay799]
  rw [st2 (B := B) (s := 15) (a := i) (hk := by first | rfl | (show i.val = 128 * 0 + i.val; omega)), tot2 (B := B), kx2_15 (B := B), l_exp]
  exact congrArg (· + _) (mul_comm _ _)

end Cert.Rec
end
-- ==== Proof.RecH3.lean ====
/- The states of the linear recurrence after the steps, head 3. -/
module

public import proofs.«01_k».proof.Proof.RecHB
public import proofs.«01_k».proof.Proof.RecCat

@[expose] public section

set_option maxRecDepth 16384

noncomputable section

namespace Cert.Rec

open Idealize.ShloMosaic Idealize.ShloMosaic.TcCoe Idealize.SL.Sem Cert.KernelIdeal Cert.KernelIdeal.Gen

variable (c : Dev nD)
variable (arg2 : Memref sig .tc .vmem S1x64x3840 .f32) (harg2 : arg2.IsWhole) (x0 : Vec Ideal S1x64x3840 .f32)
variable (arg3 : Memref sig .tc .vmem S1x16x1792 .f32) (harg3 : arg3.IsWhole) (x1 : Vec Ideal S1x16x1792 .f32)
variable (arg4 : Memref sig .tc .vmem S16x8x64x64 .f32) (harg4 : arg4.IsWhole) (x2 : Vec Ideal S16x8x64x64 .f32)
variable (arg5 : Memref sig .tc .vmem S16x4x128x128 .f32) (harg5 : arg5.IsWhole) (x3 : Vec Ideal S16x4x128x128 .f32)
variable (arg6 : Memref sig .tc .vmem S1x1792 .f32) (harg6 : arg6.IsWhole) (x4 : Vec Ideal S1x1792 .f32)
variable (arg7 : Memref sig .tc .vmem S1x512 .f32) (harg7 : arg7.IsWhole) (x5 : Vec Ideal S1x512 .f32)
variable (arg8 : Memref sig .tc .vmem S1x512 .f32) (harg8 : arg8.IsWhole) (x6 : Vec Ideal S1x512 .f32)
variable (arg9 : Memref sig .tc .vmem S1x512 .f32) (harg9 : arg9.IsWhole) (x7 : Vec Ideal S1x512 .f32)
variable (arg10 : Memref sig .tc .vmem S1x512 .f32) (harg10 : arg10.IsWhole) (x8 : Vec Ideal S1x512 .f32)
variable (arg11 : Memref sig .tc .vmem S1x512 .f32) (harg11 : arg11.IsWhole) (x9 : Vec Ideal S1x512 .f32)
variable (arg12 : Memref sig .tc .vmem S1x512 .f32) (harg12 : arg12.IsWhole) (x10 : Vec Ideal S1x512 .f32)
variable (arg13 : Memref sig .tc .vmem S1x512 .f32) (harg13 : arg13.IsWhole) (x11 : Vec Ideal S1x512 .f32)
variable (arg14 : Memref sig .tc .vmem S2x512 .f32) (harg14 : arg14.IsWhole) (x12 : Vec Ideal S2x512 .f32)
variable (arg15 : Memref sig .tc .vmem S1x128 .f32) (harg15 : arg15.IsWhole) (x13 : Vec Ideal S1x128 .f32)
variable (arg16 : Memref sig .tc .vmem S128x1024 .bf16) (harg16 : arg16.IsWhole) (x14 : Vec Ideal S128x1024 .bf16)
variable (arg17 : Memref sig .tc .vmem S128x512 .bf16) (harg17 : arg17.IsWhole) (x15 : Vec Ideal S128x512 .bf16)
variable (arg22 : Memref sig .tc .vmem S1x4x2048x128 .f32) (arg23 : Memref sig .tc .vmem S1x4x2048x128 .f32)
variable {w : Wt} {S : Fin 16 → Sq}
variable (B : Blk x0 x1 x2 x3 x4 x5 x6 x7 x8 x9 x10 x11 x12 x13 x14 x15 w S)

include B

set_option maxHeartbeats 2000000 in
theorem kx3_0 (a f : Fin 128) : (kernelRun0_A.sl.r_204 (F := Ideal) c arg2 harg2 arg3 harg3 arg6 harg6 arg7 harg7 arg14 harg14 arg16 harg16 x0 x1 x4 x5 x12 x14) (ix2 a ⟨f.val, by omega⟩)
    = ((∑ u : Fin 4, (1 - ff w (S 0) u (hc 3 f)) * Real.exp (hb w (S 0) 3 (hc 3 f) - hb w (S 0) u (hc 3 f)) * iv (S 0) u (hc 3 a) : ℝ) : EReal) := by
  simp only [kernelRun0_A.sl.r_204]
  pointwise [cat16_0, k0_pay697]
  simp only [kernelRun0_A.sl.r_203, kernelRun0_A.sl.r_189, kernelRun0_A.sl.r_202, kernelRun0_A.sl.r_201, kernelRun0_A.sl.r_200, kernelRun0_A.sl.r_199, kernelRun0_A.sl.r_198, kernelRun0_A.sl.r_197, kernelRun0_A.sl.r_196, kernelRun0_A.sl.r_195, kernelRun0_A.sl.r_194, kernelRun0_A.sl.r_193, kernelRun0_A.sl.r_192, kernelRun0_A.sl.r_191, kernelRun0_A.sl.r_190]
  pointwise [k0_pay696, k0_pay454, k0_pay682, k0_pay695, k0_pay694, k0_pay693, k0_pay692, k0_pay691, k0_pay690, k0_pay689, k0_pay688, k0_pay687, k0_pay686, k0_pay685, k0_pay684, k0_pay683]
  simp (disch := omega) only [iv3 (B := B), kf3 (B := B), cum3 (B := B), tot3 (B := B), w_seq, l_sel, l_sub, l_exp, l_mul, flag_coe, l_sum]
  rw [sum_seq_at 0 0 rfl]
  simp only [sR_rw4, tR_rw4]
  exact congrArg _ (Finset.sum_congr rfl fun u _ => by ring)

theorem new3_0 (i j : Fin 128) : (k0_pay851 (kernelRun0_A.sl.r_292 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 3 0 i j := by
  simp only [kernelRun0_A.sl.r_292]
  pointwise [k0_pay851, k0_pay835, k0_pay834]
  rw [st3 (B := B) (s := 0) (a := i) (hk := by first | rfl | (show i.val = 128 * 0 + i.val; omega)), tot3 (B := B), kx3_0 (B := B), l_exp]
  exact congrArg (· + _) (mul_comm _ _)

set_option maxHeartbeats 2000000 in
theorem kx3_1 (a f : Fin 128) : (kernelRun0_A.sl.r_204 (F := Ideal) c arg2 harg2 arg3 harg3 arg6 harg6 arg7 harg7 arg14 harg14 arg16 harg16 x0 x1 x4 x5 x12 x14) (ix2 a ⟨128 + f.val, by omega⟩)
    = ((∑ u : Fin 4, (1 - ff w (S 1) u (hc 3 f)) * Real.exp (hb w (S 1) 3 (hc 3 f) - hb w (S 1) u (hc 3 f)) * iv (S 1) u (hc 3 a) : ℝ) : EReal) := by
  simp only [kernelRun0_A.sl.r_204]
  pointwise [cat16_1, k0_pay697]
  simp only [kernelRun0_A.sl.r_203, kernelRun0_A.sl.r_189, kernelRun0_A.sl.r_202, kernelRun0_A.sl.r_201, kernelRun0_A.sl.r_200, kernelRun0_A.sl.r_199, kernelRun0_A.sl.r_198, kernelRun0_A.sl.r_197, kernelRun0_A.sl.r_196, kernelRun0_A.sl.r_195, kernelRun0_A.sl.r_194, kernelRun0_A.sl.r_193, kernelRun0_A.sl.r_192, kernelRun0_A.sl.r_191, kernelRun0_A.sl.r_190]
  pointwise [k0_pay696, k0_pay454, k0_pay682, k0_pay695, k0_pay694, k0_pay693, k0_pay692, k0_pay691, k0_pay690, k0_pay689, k0_pay688, k0_pay687, k0_pay686, k0_pay685, k0_pay684, k0_pay683]
  simp (disch := omega) only [iv3 (B := B), kf3 (B := B), cum3 (B := B), tot3 (B := B), w_seq, l_sel, l_sub, l_exp, l_mul, flag_coe, l_sum]
  rw [sum_seq_at 1 1 rfl]
  simp only [sR_rw4, tR_rw4]
  exact congrArg _ (Finset.sum_congr rfl fun u _ => by ring)

theorem new3_1 (i j : Fin 128) : (k0_pay852 (kernelRun0_A.sl.r_293 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 3 1 i j := by
  simp only [kernelRun0_A.sl.r_293]
  pointwise [k0_pay852, k0_pay836, k0_pay834]
  rw [st3 (B := B) (s := 1) (a := i) (hk := by first | rfl | (show i.val = 128 * 0 + i.val; omega)), tot3 (B := B), kx3_1 (B := B), l_exp]
  exact congrArg (· + _) (mul_comm _ _)

set_option maxHeartbeats 2000000 in
theorem kx3_2 (a f : Fin 128) : (kernelRun0_A.sl.r_204 (F := Ideal) c arg2 harg2 arg3 harg3 arg6 harg6 arg7 harg7 arg14 harg14 arg16 harg16 x0 x1 x4 x5 x12 x14) (ix2 a ⟨256 + f.val, by omega⟩)
    = ((∑ u : Fin 4, (1 - ff w (S 2) u (hc 3 f)) * Real.exp (hb w (S 2) 3 (hc 3 f) - hb w (S 2) u (hc 3 f)) * iv (S 2) u (hc 3 a) : ℝ) : EReal) := by
  simp only [kernelRun0_A.sl.r_204]
  pointwise [cat16_2, k0_pay697]
  simp only [kernelRun0_A.sl.r_203, kernelRun0_A.sl.r_189, kernelRun0_A.sl.r_202, kernelRun0_A.sl.r_201, kernelRun0_A.sl.r_200, kernelRun0_A.sl.r_199, kernelRun0_A.sl.r_198, kernelRun0_A.sl.r_197, kernelRun0_A.sl.r_196, kernelRun0_A.sl.r_195, kernelRun0_A.sl.r_194, kernelRun0_A.sl.r_193, kernelRun0_A.sl.r_192, kernelRun0_A.sl.r_191, kernelRun0_A.sl.r_190]
  pointwise [k0_pay696, k0_pay454, k0_pay682, k0_pay695, k0_pay694, k0_pay693, k0_pay692, k0_pay691, k0_pay690, k0_pay689, k0_pay688, k0_pay687, k0_pay686, k0_pay685, k0_pay684, k0_pay683]
  simp (disch := omega) only [iv3 (B := B), kf3 (B := B), cum3 (B := B), tot3 (B := B), w_seq, l_sel, l_sub, l_exp, l_mul, flag_coe, l_sum]
  rw [sum_seq_at 2 2 rfl]
  simp only [sR_rw4, tR_rw4]
  exact congrArg _ (Finset.sum_congr rfl fun u _ => by ring)

theorem new3_2 (i j : Fin 128) : (k0_pay853 (kernelRun0_A.sl.r_294 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 3 2 i j := by
  simp only [kernelRun0_A.sl.r_294]
  pointwise [k0_pay853, k0_pay837, k0_pay834]
  rw [st3 (B := B) (s := 2) (a := i) (hk := by first | rfl | (show i.val = 128 * 0 + i.val; omega)), tot3 (B := B), kx3_2 (B := B), l_exp]
  exact congrArg (· + _) (mul_comm _ _)

set_option maxHeartbeats 2000000 in
theorem kx3_3 (a f : Fin 128) : (kernelRun0_A.sl.r_204 (F := Ideal) c arg2 harg2 arg3 harg3 arg6 harg6 arg7 harg7 arg14 harg14 arg16 harg16 x0 x1 x4 x5 x12 x14) (ix2 a ⟨384 + f.val, by omega⟩)
    = ((∑ u : Fin 4, (1 - ff w (S 3) u (hc 3 f)) * Real.exp (hb w (S 3) 3 (hc 3 f) - hb w (S 3) u (hc 3 f)) * iv (S 3) u (hc 3 a) : ℝ) : EReal) := by
  simp only [kernelRun0_A.sl.r_204]
  pointwise [cat16_3, k0_pay697]
  simp only [kernelRun0_A.sl.r_203, kernelRun0_A.sl.r_189, kernelRun0_A.sl.r_202, kernelRun0_A.sl.r_201, kernelRun0_A.sl.r_200, kernelRun0_A.sl.r_199, kernelRun0_A.sl.r_198, kernelRun0_A.sl.r_197, kernelRun0_A.sl.r_196, kernelRun0_A.sl.r_195, kernelRun0_A.sl.r_194, kernelRun0_A.sl.r_193, kernelRun0_A.sl.r_192, kernelRun0_A.sl.r_191, kernelRun0_A.sl.r_190]
  pointwise [k0_pay696, k0_pay454, k0_pay682, k0_pay695, k0_pay694, k0_pay693, k0_pay692, k0_pay691, k0_pay690, k0_pay689, k0_pay688, k0_pay687, k0_pay686, k0_pay685, k0_pay684, k0_pay683]
  simp (disch := omega) only [iv3 (B := B), kf3 (B := B), cum3 (B := B), tot3 (B := B), w_seq, l_sel, l_sub, l_exp, l_mul, flag_coe, l_sum]
  rw [sum_seq_at 3 3 rfl]
  simp only [sR_rw4, tR_rw4]
  exact congrArg _ (Finset.sum_congr rfl fun u _ => by ring)

theorem new3_3 (i j : Fin 128) : (k0_pay854 (kernelRun0_A.sl.r_295 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 3 3 i j := by
  simp only [kernelRun0_A.sl.r_295, kernelRun0_A.sl.r_291]
  pointwise [k0_pay854, k0_pay838, k0_pay834]
  rw [st3 (B := B) (s := 3) (a := i) (hk := by first | rfl | (show i.val = 128 * 0 + i.val; omega)), tot3 (B := B), kx3_3 (B := B), l_exp]
  exact congrArg (· + _) (mul_comm _ _)

set_option maxHeartbeats 2000000 in
theorem kx3_4 (a f : Fin 128) : (kernelRun0_A.sl.r_204 (F := Ideal) c arg2 harg2 arg3 harg3 arg6 harg6 arg7 harg7 arg14 harg14 arg16 harg16 x0 x1 x4 x5 x12 x14) (ix2 a ⟨512 + f.val, by omega⟩)
    = ((∑ u : Fin 4, (1 - ff w (S 4) u (hc 3 f)) * Real.exp (hb w (S 4) 3 (hc 3 f) - hb w (S 4) u (hc 3 f)) * iv (S 4) u (hc 3 a) : ℝ) : EReal) := by
  simp only [kernelRun0_A.sl.r_204]
  pointwise [cat16_4, k0_pay697]
  simp only [kernelRun0_A.sl.r_203, kernelRun0_A.sl.r_189, kernelRun0_A.sl.r_202, kernelRun0_A.sl.r_201, kernelRun0_A.sl.r_200, kernelRun0_A.sl.r_199, kernelRun0_A.sl.r_198, kernelRun0_A.sl.r_197, kernelRun0_A.sl.r_196, kernelRun0_A.sl.r_195, kernelRun0_A.sl.r_194, kernelRun0_A.sl.r_193, kernelRun0_A.sl.r_192, kernelRun0_A.sl.r_191, kernelRun0_A.sl.r_190]
  pointwise [k0_pay696, k0_pay454, k0_pay682, k0_pay695, k0_pay694, k0_pay693, k0_pay692, k0_pay691, k0_pay690, k0_pay689, k0_pay688, k0_pay687, k0_pay686, k0_pay685, k0_pay684, k0_pay683]
  simp (disch := omega) only [iv3 (B := B), kf3 (B := B), cum3 (B := B), tot3 (B := B), w_seq, l_sel, l_sub, l_exp, l_mul, flag_coe, l_sum]
  rw [sum_seq_at 4 4 rfl]
  simp only [sR_rw4, tR_rw4]
  exact congrArg _ (Finset.sum_congr rfl fun u _ => by ring)

theorem new3_4 (i j : Fin 128) : (k0_pay855 (kernelRun0_A.sl.r_296 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 3 4 i j := by
  simp only [kernelRun0_A.sl.r_296, kernelRun0_A.sl.r_291]
  pointwise [k0_pay855, k0_pay839, k0_pay834]
  rw [st3 (B := B) (s := 4) (a := i) (hk := by first | rfl | (show i.val = 128 * 0 + i.val; omega)), tot3 (B := B), kx3_4 (B := B), l_exp]
  exact congrArg (· + _) (mul_comm _ _)

set_option maxHeartbeats 2000000 in
theorem kx3_5 (a f : Fin 128) : (kernelRun0_A.sl.r_204 (F := Ideal) c arg2 harg2 arg3 harg3 arg6 harg6 arg7 harg7 arg14 harg14 arg16 harg16 x0 x1 x4 x5 x12 x14) (ix2 a ⟨640 + f.val, by omega⟩)
    = ((∑ u : Fin 4, (1 - ff w (S 5) u (hc 3 f)) * Real.exp (hb w (S 5) 3 (hc 3 f) - hb w (S 5) u (hc 3 f)) * iv (S 5) u (hc 3 a) : ℝ) : EReal) := by
  simp only [kernelRun0_A.sl.r_204]
  pointwise [cat16_5, k0_pay697]
  simp only [kernelRun0_A.sl.r_203, kernelRun0_A.sl.r_189, kernelRun0_A.sl.r_202, kernelRun0_A.sl.r_201, kernelRun0_A.sl.r_200, kernelRun0_A.sl.r_199, kernelRun0_A.sl.r_198, kernelRun0_A.sl.r_197, kernelRun0_A.sl.r_196, kernelRun0_A.sl.r_195, kernelRun0_A.sl.r_194, kernelRun0_A.sl.r_193, kernelRun0_A.sl.r_192, kernelRun0_A.sl.r_191, kernelRun0_A.sl.r_190]
  pointwise [k0_pay696, k0_pay454, k0_pay682, k0_pay695, k0_pay694, k0_pay693, k0_pay692, k0_pay691, k0_pay690, k0_pay689, k0_pay688, k0_pay687, k0_pay686, k0_pay685, k0_pay684, k0_pay683]
  simp (disch := omega) only [iv3 (B := B), kf3 (B := B), cum3 (B := B), tot3 (B := B), w_seq, l_sel, l_sub, l_exp, l_mul, flag_coe, l_sum]
  rw [sum_seq_at 5 5 rfl]
  simp only [sR_rw4, tR_rw4]
  exact congrArg _ (Finset.sum_congr rfl fun u _ => by ring)

theorem new3_5 (i j : Fin 128) : ((kernelRun0_A.sl.v2423 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 3 5 i j := by
  simp only [kernelRun0_A.sl.v2423, kernelRun0_A.sl.r_297, kernelRun0_A.sl.r_291]
  pointwise [k0_pay840, k0_pay834]
  rw [st3 (B := B) (s := 5) (a := i) (hk := by first | rfl | (show i.val = 128 * 0 + i.val; omega)), tot3 (B := B), kx3_5 (B := B), l_exp]
  exact congrArg (· + _) (mul_comm _ _)

set_option maxHeartbeats 2000000 in
theorem kx3_6 (a f : Fin 128) : (kernelRun0_A.sl.r_204 (F := Ideal) c arg2 harg2 arg3 harg3 arg6 harg6 arg7 harg7 arg14 harg14 arg16 harg16 x0 x1 x4 x5 x12 x14) (ix2 a ⟨768 + f.val, by omega⟩)
    = ((∑ u : Fin 4, (1 - ff w (S 6) u (hc 3 f)) * Real.exp (hb w (S 6) 3 (hc 3 f) - hb w (S 6) u (hc 3 f)) * iv (S 6) u (hc 3 a) : ℝ) : EReal) := by
  simp only [kernelRun0_A.sl.r_204]
  pointwise [cat16_6, k0_pay697]
  simp only [kernelRun0_A.sl.r_203, kernelRun0_A.sl.r_189, kernelRun0_A.sl.r_202, kernelRun0_A.sl.r_201, kernelRun0_A.sl.r_200, kernelRun0_A.sl.r_199, kernelRun0_A.sl.r_198, kernelRun0_A.sl.r_197, kernelRun0_A.sl.r_196, kernelRun0_A.sl.r_195, kernelRun0_A.sl.r_194, kernelRun0_A.sl.r_193, kernelRun0_A.sl.r_192, kernelRun0_A.sl.r_191, kernelRun0_A.sl.r_190]
  pointwise [k0_pay696, k0_pay454, k0_pay682, k0_pay695, k0_pay694, k0_pay693, k0_pay692, k0_pay691, k0_pay690, k0_pay689, k0_pay688, k0_pay687, k0_pay686, k0_pay685, k0_pay684, k0_pay683]
  simp (disch := omega) only [iv3 (B := B), kf3 (B := B), cum3 (B := B), tot3 (B := B), w_seq, l_sel, l_sub, l_exp, l_mul, flag_coe, l_sum]
  rw [sum_seq_at 6 6 rfl]
  simp only [sR_rw4, tR_rw4]
  exact congrArg _ (Finset.sum_congr rfl fun u _ => by ring)

theorem new3_6 (i j : Fin 128) : ((kernelRun0_A.sl.v2426 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 3 6 i j := by
  simp only [kernelRun0_A.sl.v2426, kernelRun0_A.sl.r_298, kernelRun0_A.sl.r_291]
  pointwise [k0_pay841, k0_pay834]
  rw [st3 (B := B) (s := 6) (a := i) (hk := by first | rfl | (show i.val = 128 * 0 + i.val; omega)), tot3 (B := B), kx3_6 (B := B), l_exp]
  exact congrArg (· + _) (mul_comm _ _)

set_option maxHeartbeats 2000000 in
theorem kx3_7 (a f : Fin 128) : (kernelRun0_A.sl.r_204 (F := Ideal) c arg2 harg2 arg3 harg3 arg6 harg6 arg7 harg7 arg14 harg14 arg16 harg16 x0 x1 x4 x5 x12 x14) (ix2 a ⟨896 + f.val, by omega⟩)
    = ((∑ u : Fin 4, (1 - ff w (S 7) u (hc 3 f)) * Real.exp (hb w (S 7) 3 (hc 3 f) - hb w (S 7) u (hc 3 f)) * iv (S 7) u (hc 3 a) : ℝ) : EReal) := by
  simp only [kernelRun0_A.sl.r_204]
  pointwise [cat16_7, k0_pay697]
  simp only [kernelRun0_A.sl.r_203, kernelRun0_A.sl.r_189, kernelRun0_A.sl.r_202, kernelRun0_A.sl.r_201, kernelRun0_A.sl.r_200, kernelRun0_A.sl.r_199, kernelRun0_A.sl.r_198, kernelRun0_A.sl.r_197, kernelRun0_A.sl.r_196, kernelRun0_A.sl.r_195, kernelRun0_A.sl.r_194, kernelRun0_A.sl.r_193, kernelRun0_A.sl.r_192, kernelRun0_A.sl.r_191, kernelRun0_A.sl.r_190]
  pointwise [k0_pay696, k0_pay454, k0_pay682, k0_pay695, k0_pay694, k0_pay693, k0_pay692, k0_pay691, k0_pay690, k0_pay689, k0_pay688, k0_pay687, k0_pay686, k0_pay685, k0_pay684, k0_pay683]
  simp (disch := omega) only [iv3 (B := B), kf3 (B := B), cum3 (B := B), tot3 (B := B), w_seq, l_sel, l_sub, l_exp, l_mul, flag_coe, l_sum]
  rw [sum_seq_at 7 7 rfl]
  simp only [sR_rw4, tR_rw4]
  exact congrArg _ (Finset.sum_congr rfl fun u _ => by ring)

theorem new3_7 (i j : Fin 128) : ((kernelRun0_A.sl.v2429 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 3 7 i j := by
  simp only [kernelRun0_A.sl.v2429, kernelRun0_A.sl.r_299, kernelRun0_A.sl.r_291]
  pointwise [k0_pay842, k0_pay834]
  rw [st3 (B := B) (s := 7) (a := i) (hk := by first | rfl | (show i.val = 128 * 0 + i.val; omega)), tot3 (B := B), kx3_7 (B := B), l_exp]
  exact congrArg (· + _) (mul_comm _ _)

set_option maxHeartbeats 2000000 in
theorem kx3_8 (a f : Fin 128) : (kernelRun0_A.sl.r_204 (F := Ideal) c arg2 harg2 arg3 harg3 arg6 harg6 arg7 harg7 arg14 harg14 arg16 harg16 x0 x1 x4 x5 x12 x14) (ix2 a ⟨1024 + f.val, by omega⟩)
    = ((∑ u : Fin 4, (1 - ff w (S 8) u (hc 3 f)) * Real.exp (hb w (S 8) 3 (hc 3 f) - hb w (S 8) u (hc 3 f)) * iv (S 8) u (hc 3 a) : ℝ) : EReal) := by
  simp only [kernelRun0_A.sl.r_204]
  pointwise [cat16_8, k0_pay697]
  simp only [kernelRun0_A.sl.r_203, kernelRun0_A.sl.r_189, kernelRun0_A.sl.r_202, kernelRun0_A.sl.r_201, kernelRun0_A.sl.r_200, kernelRun0_A.sl.r_199, kernelRun0_A.sl.r_198, kernelRun0_A.sl.r_197, kernelRun0_A.sl.r_196, kernelRun0_A.sl.r_195, kernelRun0_A.sl.r_194, kernelRun0_A.sl.r_193, kernelRun0_A.sl.r_192, kernelRun0_A.sl.r_191, kernelRun0_A.sl.r_190]
  pointwise [k0_pay696, k0_pay454, k0_pay682, k0_pay695, k0_pay694, k0_pay693, k0_pay692, k0_pay691, k0_pay690, k0_pay689, k0_pay688, k0_pay687, k0_pay686, k0_pay685, k0_pay684, k0_pay683]
  simp (disch := omega) only [iv3 (B := B), kf3 (B := B), cum3 (B := B), tot3 (B := B), w_seq, l_sel, l_sub, l_exp, l_mul, flag_coe, l_sum]
  rw [sum_seq_at 8 8 rfl]
  simp only [sR_rw4, tR_rw4]
  exact congrArg _ (Finset.sum_congr rfl fun u _ => by ring)

theorem new3_8 (i j : Fin 128) : ((kernelRun0_A.sl.v2432 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 3 8 i j := by
  simp only [kernelRun0_A.sl.v2432, kernelRun0_A.sl.r_300, kernelRun0_A.sl.r_291]
  pointwise [k0_pay843, k0_pay834]
  rw [st3 (B := B) (s := 8) (a := i) (hk := by first | rfl | (show i.val = 128 * 0 + i.val; omega)), tot3 (B := B), kx3_8 (B := B), l_exp]
  exact congrArg (· + _) (mul_comm _ _)

set_option maxHeartbeats 2000000 in
theorem kx3_9 (a f : Fin 128) : (kernelRun0_A.sl.r_204 (F := Ideal) c arg2 harg2 arg3 harg3 arg6 harg6 arg7 harg7 arg14 harg14 arg16 harg16 x0 x1 x4 x5 x12 x14) (ix2 a ⟨1152 + f.val, by omega⟩)
    = ((∑ u : Fin 4, (1 - ff w (S 9) u (hc 3 f)) * Real.exp (hb w (S 9) 3 (hc 3 f) - hb w (S 9) u (hc 3 f)) * iv (S 9) u (hc 3 a) : ℝ) : EReal) := by
  simp only [kernelRun0_A.sl.r_204]
  pointwise [cat16_9, k0_pay697]
  simp only [kernelRun0_A.sl.r_203, kernelRun0_A.sl.r_189, kernelRun0_A.sl.r_202, kernelRun0_A.sl.r_201, kernelRun0_A.sl.r_200, kernelRun0_A.sl.r_199, kernelRun0_A.sl.r_198, kernelRun0_A.sl.r_197, kernelRun0_A.sl.r_196, kernelRun0_A.sl.r_195, kernelRun0_A.sl.r_194, kernelRun0_A.sl.r_193, kernelRun0_A.sl.r_192, kernelRun0_A.sl.r_191, kernelRun0_A.sl.r_190]
  pointwise [k0_pay696, k0_pay454, k0_pay682, k0_pay695, k0_pay694, k0_pay693, k0_pay692, k0_pay691, k0_pay690, k0_pay689, k0_pay688, k0_pay687, k0_pay686, k0_pay685, k0_pay684, k0_pay683]
  simp (disch := omega) only [iv3 (B := B), kf3 (B := B), cum3 (B := B), tot3 (B := B), w_seq, l_sel, l_sub, l_exp, l_mul, flag_coe, l_sum]
  rw [sum_seq_at 9 9 rfl]
  simp only [sR_rw4, tR_rw4]
  exact congrArg _ (Finset.sum_congr rfl fun u _ => by ring)

theorem new3_9 (i j : Fin 128) : ((kernelRun0_A.sl.v2435 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 3 9 i j := by
  simp only [kernelRun0_A.sl.v2435, kernelRun0_A.sl.r_301, kernelRun0_A.sl.r_291]
  pointwise [k0_pay844, k0_pay834]
  rw [st3 (B := B) (s := 9) (a := i) (hk := by first | rfl | (show i.val = 128 * 0 + i.val; omega)), tot3 (B := B), kx3_9 (B := B), l_exp]
  exact congrArg (· + _) (mul_comm _ _)

set_option maxHeartbeats 2000000 in
theorem kx3_10 (a f : Fin 128) : (kernelRun0_A.sl.r_204 (F := Ideal) c arg2 harg2 arg3 harg3 arg6 harg6 arg7 harg7 arg14 harg14 arg16 harg16 x0 x1 x4 x5 x12 x14) (ix2 a ⟨1280 + f.val, by omega⟩)
    = ((∑ u : Fin 4, (1 - ff w (S 10) u (hc 3 f)) * Real.exp (hb w (S 10) 3 (hc 3 f) - hb w (S 10) u (hc 3 f)) * iv (S 10) u (hc 3 a) : ℝ) : EReal) := by
  simp only [kernelRun0_A.sl.r_204]
  pointwise [cat16_10, k0_pay697]
  simp only [kernelRun0_A.sl.r_203, kernelRun0_A.sl.r_189, kernelRun0_A.sl.r_202, kernelRun0_A.sl.r_201, kernelRun0_A.sl.r_200, kernelRun0_A.sl.r_199, kernelRun0_A.sl.r_198, kernelRun0_A.sl.r_197, kernelRun0_A.sl.r_196, kernelRun0_A.sl.r_195, kernelRun0_A.sl.r_194, kernelRun0_A.sl.r_193, kernelRun0_A.sl.r_192, kernelRun0_A.sl.r_191, kernelRun0_A.sl.r_190]
  pointwise [k0_pay696, k0_pay454, k0_pay682, k0_pay695, k0_pay694, k0_pay693, k0_pay692, k0_pay691, k0_pay690, k0_pay689, k0_pay688, k0_pay687, k0_pay686, k0_pay685, k0_pay684, k0_pay683]
  simp (disch := omega) only [iv3 (B := B), kf3 (B := B), cum3 (B := B), tot3 (B := B), w_seq, l_sel, l_sub, l_exp, l_mul, flag_coe, l_sum]
  rw [sum_seq_at 10 10 rfl]
  simp only [sR_rw4, tR_rw4]
  exact congrArg _ (Finset.sum_congr rfl fun u _ => by ring)

theorem new3_10 (i j : Fin 128) : ((kernelRun0_A.sl.v2438 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 3 10 i j := by
  simp only [kernelRun0_A.sl.v2438, kernelRun0_A.sl.r_302, kernelRun0_A.sl.r_291]
  pointwise [k0_pay845, k0_pay834]
  rw [st3 (B := B) (s := 10) (a := i) (hk := by first | rfl | (show i.val = 128 * 0 + i.val; omega)), tot3 (B := B), kx3_10 (B := B), l_exp]
  exact congrArg (· + _) (mul_comm _ _)

set_option maxHeartbeats 2000000 in
theorem kx3_11 (a f : Fin 128) : (kernelRun0_A.sl.r_204 (F := Ideal) c arg2 harg2 arg3 harg3 arg6 harg6 arg7 harg7 arg14 harg14 arg16 harg16 x0 x1 x4 x5 x12 x14) (ix2 a ⟨1408 + f.val, by omega⟩)
    = ((∑ u : Fin 4, (1 - ff w (S 11) u (hc 3 f)) * Real.exp (hb w (S 11) 3 (hc 3 f) - hb w (S 11) u (hc 3 f)) * iv (S 11) u (hc 3 a) : ℝ) : EReal) := by
  simp only [kernelRun0_A.sl.r_204]
  pointwise [cat16_11, k0_pay697]
  simp only [kernelRun0_A.sl.r_203, kernelRun0_A.sl.r_189, kernelRun0_A.sl.r_202, kernelRun0_A.sl.r_201, kernelRun0_A.sl.r_200, kernelRun0_A.sl.r_199, kernelRun0_A.sl.r_198, kernelRun0_A.sl.r_197, kernelRun0_A.sl.r_196, kernelRun0_A.sl.r_195, kernelRun0_A.sl.r_194, kernelRun0_A.sl.r_193, kernelRun0_A.sl.r_192, kernelRun0_A.sl.r_191, kernelRun0_A.sl.r_190]
  pointwise [k0_pay696, k0_pay454, k0_pay682, k0_pay695, k0_pay694, k0_pay693, k0_pay692, k0_pay691, k0_pay690, k0_pay689, k0_pay688, k0_pay687, k0_pay686, k0_pay685, k0_pay684, k0_pay683]
  simp (disch := omega) only [iv3 (B := B), kf3 (B := B), cum3 (B := B), tot3 (B := B), w_seq, l_sel, l_sub, l_exp, l_mul, flag_coe, l_sum]
  rw [sum_seq_at 11 11 rfl]
  simp only [sR_rw4, tR_rw4]
  exact congrArg _ (Finset.sum_congr rfl fun u _ => by ring)

theorem new3_11 (i j : Fin 128) : ((kernelRun0_A.sl.v2441 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 3 11 i j := by
  simp only [kernelRun0_A.sl.v2441, kernelRun0_A.sl.r_303, kernelRun0_A.sl.r_291]
  pointwise [k0_pay846, k0_pay834]
  rw [st3 (B := B) (s := 11) (a := i) (hk := by first | rfl | (show i.val = 128 * 0 + i.val; omega)), tot3 (B := B), kx3_11 (B := B), l_exp]
  exact congrArg (· + _) (mul_comm _ _)

set_option maxHeartbeats 2000000 in
theorem kx3_12 (a f : Fin 128) : (kernelRun0_A.sl.r_204 (F := Ideal) c arg2 harg2 arg3 harg3 arg6 harg6 arg7 harg7 arg14 harg14 arg16 harg16 x0 x1 x4 x5 x12 x14) (ix2 a ⟨1536 + f.val, by omega⟩)
    = ((∑ u : Fin 4, (1 - ff w (S 12) u (hc 3 f)) * Real.exp (hb w (S 12) 3 (hc 3 f) - hb w (S 12) u (hc 3 f)) * iv (S 12) u (hc 3 a) : ℝ) : EReal) := by
  simp only [kernelRun0_A.sl.r_204]
  pointwise [cat16_12, k0_pay697]
  simp only [kernelRun0_A.sl.r_203, kernelRun0_A.sl.r_189, kernelRun0_A.sl.r_202, kernelRun0_A.sl.r_201, kernelRun0_A.sl.r_200, kernelRun0_A.sl.r_199, kernelRun0_A.sl.r_198, kernelRun0_A.sl.r_197, kernelRun0_A.sl.r_196, kernelRun0_A.sl.r_195, kernelRun0_A.sl.r_194, kernelRun0_A.sl.r_193, kernelRun0_A.sl.r_192, kernelRun0_A.sl.r_191, kernelRun0_A.sl.r_190]
  pointwise [k0_pay696, k0_pay454, k0_pay682, k0_pay695, k0_pay694, k0_pay693, k0_pay692, k0_pay691, k0_pay690, k0_pay689, k0_pay688, k0_pay687, k0_pay686, k0_pay685, k0_pay684, k0_pay683]
  simp (disch := omega) only [iv3 (B := B), kf3 (B := B), cum3 (B := B), tot3 (B := B), w_seq, l_sel, l_sub, l_exp, l_mul, flag_coe, l_sum]
  rw [sum_seq_at 12 12 rfl]
  simp only [sR_rw4, tR_rw4]
  exact congrArg _ (Finset.sum_congr rfl fun u _ => by ring)

theorem new3_12 (i j : Fin 128) : (k0_pay863 (kernelRun0_A.sl.r_304 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 3 12 i j := by
  simp only [kernelRun0_A.sl.r_304, kernelRun0_A.sl.r_291]
  pointwise [k0_pay863, k0_pay847, k0_pay834]
  rw [st3 (B := B) (s := 12) (a := i) (hk := by first | rfl | (show i.val = 128 * 0 + i.val; omega)), tot3 (B := B), kx3_12 (B := B), l_exp]
  exact congrArg (· + _) (mul_comm _ _)

set_option maxHeartbeats 2000000 in
theorem kx3_13 (a f : Fin 128) : (kernelRun0_A.sl.r_204 (F := Ideal) c arg2 harg2 arg3 harg3 arg6 harg6 arg7 harg7 arg14 harg14 arg16 harg16 x0 x1 x4 x5 x12 x14) (ix2 a ⟨1664 + f.val, by omega⟩)
    = ((∑ u : Fin 4, (1 - ff w (S 13) u (hc 3 f)) * Real.exp (hb w (S 13) 3 (hc 3 f) - hb w (S 13) u (hc 3 f)) * iv (S 13) u (hc 3 a) : ℝ) : EReal) := by
  simp only [kernelRun0_A.sl.r_204]
  pointwise [cat16_13, k0_pay697]
  simp only [kernelRun0_A.sl.r_203, kernelRun0_A.sl.r_189, kernelRun0_A.sl.r_202, kernelRun0_A.sl.r_201, kernelRun0_A.sl.r_200, kernelRun0_A.sl.r_199, kernelRun0_A.sl.r_198, kernelRun0_A.sl.r_197, kernelRun0_A.sl.r_196, kernelRun0_A.sl.r_195, kernelRun0_A.sl.r_194, kernelRun0_A.sl.r_193, kernelRun0_A.sl.r_192, kernelRun0_A.sl.r_191, kernelRun0_A.sl.r_190]
  pointwise [k0_pay696, k0_pay454, k0_pay682, k0_pay695, k0_pay694, k0_pay693, k0_pay692, k0_pay691, k0_pay690, k0_pay689, k0_pay688, k0_pay687, k0_pay686, k0_pay685, k0_pay684, k0_pay683]
  simp (disch := omega) only [iv3 (B := B), kf3 (B := B), cum3 (B := B), tot3 (B := B), w_seq, l_sel, l_sub, l_exp, l_mul, flag_coe, l_sum]
  rw [sum_seq_at 13 13 rfl]
  simp only [sR_rw4, tR_rw4]
  exact congrArg _ (Finset.sum_congr rfl fun u _ => by ring)

theorem new3_13 (i j : Fin 128) : (k0_pay864 (kernelRun0_A.sl.r_305 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 3 13 i j := by
  simp only [kernelRun0_A.sl.r_305, kernelRun0_A.sl.r_291]
  pointwise [k0_pay864, k0_pay848, k0_pay834]
  rw [st3 (B := B) (s := 13) (a := i) (hk := by first | rfl | (show i.val = 128 * 0 + i.val; omega)), tot3 (B := B), kx3_13 (B := B), l_exp]
  exact congrArg (· + _) (mul_comm _ _)

set_option maxHeartbeats 2000000 in
theorem kx3_14 (a f : Fin 128) : (kernelRun0_A.sl.r_204 (F := Ideal) c arg2 harg2 arg3 harg3 arg6 harg6 arg7 harg7 arg14 harg14 arg16 harg16 x0 x1 x4 x5 x12 x14) (ix2 a ⟨1792 + f.val, by omega⟩)
    = ((∑ u : Fin 4, (1 - ff w (S 14) u (hc 3 f)) * Real.exp (hb w (S 14) 3 (hc 3 f) - hb w (S 14) u (hc 3 f)) * iv (S 14) u (hc 3 a) : ℝ) : EReal) := by
  simp only [kernelRun0_A.sl.r_204]
  pointwise [cat16_14, k0_pay697]
  simp only [kernelRun0_A.sl.r_203, kernelRun0_A.sl.r_189, kernelRun0_A.sl.r_202, kernelRun0_A.sl.r_201, kernelRun0_A.sl.r_200, kernelRun0_A.sl.r_199, kernelRun0_A.sl.r_198, kernelRun0_A.sl.r_197, kernelRun0_A.sl.r_196, kernelRun0_A.sl.r_195, kernelRun0_A.sl.r_194, kernelRun0_A.sl.r_193, kernelRun0_A.sl.r_192, kernelRun0_A.sl.r_191, kernelRun0_A.sl.r_190]
  pointwise [k0_pay696, k0_pay454, k0_pay682, k0_pay695, k0_pay694, k0_pay693, k0_pay692, k0_pay691, k0_pay690, k0_pay689, k0_pay688, k0_pay687, k0_pay686, k0_pay685, k0_pay684, k0_pay683]
  simp (disch := omega) only [iv3 (B := B), kf3 (B := B), cum3 (B := B), tot3 (B := B), w_seq, l_sel, l_sub, l_exp, l_mul, flag_coe, l_sum]
  rw [sum_seq_at 14 14 rfl]
  simp only [sR_rw4, tR_rw4]
  exact congrArg _ (Finset.sum_congr rfl fun u _ => by ring)

theorem new3_14 (i j : Fin 128) : (k0_pay865 (kernelRun0_A.sl.r_306 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 3 14 i j := by
  simp only [kernelRun0_A.sl.r_306, kernelRun0_A.sl.r_291]
  pointwise [k0_pay865, k0_pay849, k0_pay834]
  rw [st3 (B := B) (s := 14) (a := i) (hk := by first | rfl | (show i.val = 128 * 0 + i.val; omega)), tot3 (B := B), kx3_14 (B := B), l_exp]
  exact congrArg (· + _) (mul_comm _ _)

set_option maxHeartbeats 2000000 in
theorem kx3_15 (a f : Fin 128) : (kernelRun0_A.sl.r_204 (F := Ideal) c arg2 harg2 arg3 harg3 arg6 harg6 arg7 harg7 arg14 harg14 arg16 harg16 x0 x1 x4 x5 x12 x14) (ix2 a ⟨1920 + f.val, by omega⟩)
    = ((∑ u : Fin 4, (1 - ff w (S 15) u (hc 3 f)) * Real.exp (hb w (S 15) 3 (hc 3 f) - hb w (S 15) u (hc 3 f)) * iv (S 15) u (hc 3 a) : ℝ) : EReal) := by
  simp only [kernelRun0_A.sl.r_204]
  pointwise [cat16_15, k0_pay697]
  simp only [kernelRun0_A.sl.r_203, kernelRun0_A.sl.r_189, kernelRun0_A.sl.r_202, kernelRun0_A.sl.r_201, kernelRun0_A.sl.r_200, kernelRun0_A.sl.r_199, kernelRun0_A.sl.r_198, kernelRun0_A.sl.r_197, kernelRun0_A.sl.r_196, kernelRun0_A.sl.r_195, kernelRun0_A.sl.r_194, kernelRun0_A.sl.r_193, kernelRun0_A.sl.r_192, kernelRun0_A.sl.r_191, kernelRun0_A.sl.r_190]
  pointwise [k0_pay696, k0_pay454, k0_pay682, k0_pay695, k0_pay694, k0_pay693, k0_pay692, k0_pay691, k0_pay690, k0_pay689, k0_pay688, k0_pay687, k0_pay686, k0_pay685, k0_pay684, k0_pay683]
  simp (disch := omega) only [iv3 (B := B), kf3 (B := B), cum3 (B := B), tot3 (B := B), w_seq, l_sel, l_sub, l_exp, l_mul, flag_coe, l_sum]
  rw [sum_seq_at 15 15 rfl]
  simp only [sR_rw4, tR_rw4]
  exact congrArg _ (Finset.sum_congr rfl fun u _ => by ring)

theorem new3_15 (i j : Fin 128) : (k0_pay866 (kernelRun0_A.sl.r_307 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = after w S 3 15 i j := by
  simp only [kernelRun0_A.sl.r_307, kernelRun0_A.sl.r_291]
  pointwise [k0_pay866, k0_pay850, k0_pay834]
  rw [st3 (B := B) (s := 15) (a := i) (hk := by first | rfl | (show i.val = 128 * 0 + i.val; omega)), tot3 (B := B), kx3_15 (B := B), l_exp]
  exact congrArg (· + _) (mul_comm _ _)

end Cert.Rec
end
-- ==== Proof.RecHS.lean ====
/- The state array of the linear recurrence after the steps. -/
module

public import proofs.«01_k».proof.Proof.RecH0
public import proofs.«01_k».proof.Proof.RecH1
public import proofs.«01_k».proof.Proof.RecH2
public import proofs.«01_k».proof.Proof.RecH3

@[expose] public section

set_option maxRecDepth 16384

noncomputable section

namespace Cert.Rec

open Idealize.ShloMosaic Idealize.ShloMosaic.TcCoe Idealize.SL.Sem Cert.KernelIdeal Cert.KernelIdeal.Gen

variable (c : Dev nD)
variable (arg2 : Memref sig .tc .vmem S1x64x3840 .f32) (harg2 : arg2.IsWhole) (x0 : Vec Ideal S1x64x3840 .f32)
variable (arg3 : Memref sig .tc .vmem S1x16x1792 .f32) (harg3 : arg3.IsWhole) (x1 : Vec Ideal S1x16x1792 .f32)
variable (arg4 : Memref sig .tc .vmem S16x8x64x64 .f32) (harg4 : arg4.IsWhole) (x2 : Vec Ideal S16x8x64x64 .f32)
variable (arg5 : Memref sig .tc .vmem S16x4x128x128 .f32) (harg5 : arg5.IsWhole) (x3 : Vec Ideal S16x4x128x128 .f32)
variable (arg6 : Memref sig .tc .vmem S1x1792 .f32) (harg6 : arg6.IsWhole) (x4 : Vec Ideal S1x1792 .f32)
variable (arg7 : Memref sig .tc .vmem S1x512 .f32) (harg7 : arg7.IsWhole) (x5 : Vec Ideal S1x512 .f32)
variable (arg8 : Memref sig .tc .vmem S1x512 .f32) (harg8 : arg8.IsWhole) (x6 : Vec Ideal S1x512 .f32)
variable (arg9 : Memref sig .tc .vmem S1x512 .f32) (harg9 : arg9.IsWhole) (x7 : Vec Ideal S1x512 .f32)
variable (arg10 : Memref sig .tc .vmem S1x512 .f32) (harg10 : arg10.IsWhole) (x8 : Vec Ideal S1x512 .f32)
variable (arg11 : Memref sig .tc .vmem S1x512 .f32) (harg11 : arg11.IsWhole) (x9 : Vec Ideal S1x512 .f32)
variable (arg12 : Memref sig .tc .vmem S1x512 .f32) (harg12 : arg12.IsWhole) (x10 : Vec Ideal S1x512 .f32)
variable (arg13 : Memref sig .tc .vmem S1x512 .f32) (harg13 : arg13.IsWhole) (x11 : Vec Ideal S1x512 .f32)
variable (arg14 : Memref sig .tc .vmem S2x512 .f32) (harg14 : arg14.IsWhole) (x12 : Vec Ideal S2x512 .f32)
variable (arg15 : Memref sig .tc .vmem S1x128 .f32) (harg15 : arg15.IsWhole) (x13 : Vec Ideal S1x128 .f32)
variable (arg16 : Memref sig .tc .vmem S128x1024 .bf16) (harg16 : arg16.IsWhole) (x14 : Vec Ideal S128x1024 .bf16)
variable (arg17 : Memref sig .tc .vmem S128x512 .bf16) (harg17 : arg17.IsWhole) (x15 : Vec Ideal S128x512 .bf16)
variable (arg22 : Memref sig .tc .vmem S1x4x2048x128 .f32) (arg23 : Memref sig .tc .vmem S1x4x2048x128 .f32)
variable {w : Wt} {S : Fin 16 → Sq}
variable (B : Blk x0 x1 x2 x3 x4 x5 x6 x7 x8 x9 x10 x11 x12 x13 x14 x15 w S)

include B

theorem after_good : Good (fun h s => 16 * h + s) (after w S) 64 (kernelRun0_A.sl.HS1_128 (F := Ideal) c arg2 harg2 arg3 harg3 arg5 harg5 arg6 harg6 arg7 harg7 arg14 harg14 arg16 harg16 arg23 x0 x1 x3 x4 x5 x12 x14) := by
  unfold kernelRun0_A.sl.HS1_128
  refine good_step 3 15 3 1920 _ _ rfl rfl (by intro a b ha hb hr; have hr : 16 * a + b = 63 := hr; show a = 3 ∧ b = 15; omega) (fun i j => new3_15 (B := B) ..) ?_
  refine good_step 3 14 3 1792 _ _ rfl rfl (by intro a b ha hb hr; have hr : 16 * a + b = 62 := hr; show a = 3 ∧ b = 14; omega) (fun i j => new3_14 (B := B) ..) ?_
  refine good_step 3 13 3 1664 _ _ rfl rfl (by intro a b ha hb hr; have hr : 16 * a + b = 61 := hr; show a = 3 ∧ b = 13; omega) (fun i j => new3_13 (B := B) ..) ?_
  refine good_step 3 12 3 1536 _ _ rfl rfl (by intro a b ha hb hr; have hr : 16 * a + b = 60 := hr; show a = 3 ∧ b = 12; omega) (fun i j => new3_12 (B := B) ..) ?_
  unfold kernelRun0_A.sl.HS1_124
  refine good_step 3 11 3 1408 _ _ rfl rfl (by intro a b ha hb hr; have hr : 16 * a + b = 59 := hr; show a = 3 ∧ b = 11; omega) (fun i j => new3_11 (B := B) ..) ?_
  unfold kernelRun0_A.sl.HS1_123
  refine good_step 3 10 3 1280 _ _ rfl rfl (by intro a b ha hb hr; have hr : 16 * a + b = 58 := hr; show a = 3 ∧ b = 10; omega) (fun i j => new3_10 (B := B) ..) ?_
  unfold kernelRun0_A.sl.HS1_122
  refine good_step 3 9 3 1152 _ _ rfl rfl (by intro a b ha hb hr; have hr : 16 * a + b = 57 := hr; show a = 3 ∧ b = 9; omega) (fun i j => new3_9 (B := B) ..) ?_
  unfold kernelRun0_A.sl.HS1_121
  refine good_step 3 8 3 1024 _ _ rfl rfl (by intro a b ha hb hr; have hr : 16 * a + b = 56 := hr; show a = 3 ∧ b = 8; omega) (fun i j => new3_8 (B := B) ..) ?_
  unfold kernelRun0_A.sl.HS1_120
  refine good_step 3 7 3 896 _ _ rfl rfl (by intro a b ha hb hr; have hr : 16 * a + b = 55 := hr; show a = 3 ∧ b = 7; omega) (fun i j => new3_7 (B := B) ..) ?_
  unfold kernelRun0_A.sl.HS1_119
  refine good_step 3 6 3 768 _ _ rfl rfl (by intro a b ha hb hr; have hr : 16 * a + b = 54 := hr; show a = 3 ∧ b = 6; omega) (fun i j => new3_6 (B := B) ..) ?_
  unfold kernelRun0_A.sl.HS1_118
  refine good_step 3 5 3 640 _ _ rfl rfl (by intro a b ha hb hr; have hr : 16 * a + b = 53 := hr; show a = 3 ∧ b = 5; omega) (fun i j => new3_5 (B := B) ..) ?_
  unfold kernelRun0_A.sl.HS1_117
  refine good_step 3 4 3 512 _ _ rfl rfl (by intro a b ha hb hr; have hr : 16 * a + b = 52 := hr; show a = 3 ∧ b = 4; omega) (fun i j => new3_4 (B := B) ..) ?_
  refine good_step 3 3 3 384 _ _ rfl rfl (by intro a b ha hb hr; have hr : 16 * a + b = 51 := hr; show a = 3 ∧ b = 3; omega) (fun i j => new3_3 (B := B) ..) ?_
  refine good_step 3 2 3 256 _ _ rfl rfl (by intro a b ha hb hr; have hr : 16 * a + b = 50 := hr; show a = 3 ∧ b = 2; omega) (fun i j => new3_2 (B := B) ..) ?_
  refine good_step 3 1 3 128 _ _ rfl rfl (by intro a b ha hb hr; have hr : 16 * a + b = 49 := hr; show a = 3 ∧ b = 1; omega) (fun i j => new3_1 (B := B) ..) ?_
  refine good_step 3 0 3 0 _ _ rfl rfl (by intro a b ha hb hr; have hr : 16 * a + b = 48 := hr; show a = 3 ∧ b = 0; omega) (fun i j => new3_0 (B := B) ..) ?_
  refine good_step 2 15 2 1920 _ _ rfl rfl (by intro a b ha hb hr; have hr : 16 * a + b = 47 := hr; show a = 2 ∧ b = 15; omega) (fun i j => new2_15 (B := B) ..) ?_
  unfold kernelRun0_A.sl.HS1_111
  refine good_step 2 14 2 1792 _ _ rfl rfl (by intro a b ha hb hr; have hr : 16 * a + b = 46 := hr; show a = 2 ∧ b = 14; omega) (fun i j => new2_14 (B := B) ..) ?_
  unfold kernelRun0_A.sl.HS1_110
  refine good_step 2 13 2 1664 _ _ rfl rfl (by intro a b ha hb hr; have hr : 16 * a + b = 45 := hr; show a = 2 ∧ b = 13; omega) (fun i j => new2_13 (B := B) ..) ?_
  unfold kernelRun0_A.sl.HS1_109
  refine good_step 2 12 2 1536 _ _ rfl rfl (by intro a b ha hb hr; have hr : 16 * a + b = 44 := hr; show a = 2 ∧ b = 12; omega) (fun i j => new2_12 (B := B) ..) ?_
  unfold kernelRun0_A.sl.HS1_108
  refine good_step 2 11 2 1408 _ _ rfl rfl (by intro a b ha hb hr; have hr : 16 * a + b = 43 := hr; show a = 2 ∧ b = 11; omega) (fun i j => new2_11 (B := B) ..) ?_
  unfold kernelRun0_A.sl.HS1_107
  refine good_step 2 10 2 1280 _ _ rfl rfl (by intro a b ha hb hr; have hr : 16 * a + b = 42 := hr; show a = 2 ∧ b = 10; omega) (fun i j => new2_10 (B := B) ..) ?_
  unfold kernelRun0_A.sl.HS1_106
  refine good_step 2 9 2 1152 _ _ rfl rfl (by intro a b ha hb hr; have hr : 16 * a + b = 41 := hr; show a = 2 ∧ b = 9; omega) (fun i j => new2_9 (B := B) ..) ?_
  unfold kernelRun0_A.sl.HS1_105
  refine good_step 2 8 2 1024 _ _ rfl rfl (by intro a b ha hb hr; have hr : 16 * a + b = 40 := hr; show a = 2 ∧ b = 8; omega) (fun i j => new2_8 (B := B) ..) ?_
  unfold kernelRun0_A.sl.HS1_104
  refine good_step 2 7 2 896 _ _ rfl rfl (by intro a b ha hb hr; have hr : 16 * a + b = 39 := hr; show a = 2 ∧ b = 7; omega) (fun i j => new2_7 (B := B) ..) ?_
  unfold kernelRun0_A.sl.HS1_103
  refine good_step 2 6 2 768 _ _ rfl rfl (by intro a b ha hb hr; have hr : 16 * a + b = 38 := hr; show a = 2 ∧ b = 6; omega) (fun i j => new2_6 (B := B) ..) ?_
  unfold kernelRun0_A.sl.HS1_102
  refine good_step 2 5 2 640 _ _ rfl rfl (by intro a b ha hb hr; have hr : 16 * a + b = 37 := hr; show a = 2 ∧ b = 5; omega) (fun i j => new2_5 (B := B) ..) ?_
  unfold kernelRun0_A.sl.HS1_101
  refine good_step 2 4 2 512 _ _ rfl rfl (by intro a b ha hb hr; have hr : 16 * a + b = 36 := hr; show a = 2 ∧ b = 4; omega) (fun i j => new2_4 (B := B) ..) ?_
  unfold kernelRun0_A.sl.HS1_100
  refine good_step 2 3 2 384 _ _ rfl rfl (by intro a b ha hb hr; have hr : 16 * a + b = 35 := hr; show a = 2 ∧ b = 3; omega) (fun i j => new2_3 (B := B) ..) ?_
  unfold kernelRun0_A.sl.HS1_99
  refine good_step 2 2 2 256 _ _ rfl rfl (by intro a b ha hb hr; have hr : 16 * a + b = 34 := hr; show a = 2 ∧ b = 2; omega) (fun i j => new2_2 (B := B) ..) ?_
  unfold kernelRun0_A.sl.HS1_98
  refine good_step 2 1 2 128 _ _ rfl rfl (by intro a b ha hb hr; have hr : 16 * a + b = 33 := hr; show a = 2 ∧ b = 1; omega) (fun i j => new2_1 (B := B) ..) ?_
  unfold kernelRun0_A.sl.HS1_97
  refine good_step 2 0 2 0 _ _ rfl rfl (by intro a b ha hb hr; have hr : 16 * a + b = 32 := hr; show a = 2 ∧ b = 0; omega) (fun i j => new2_0 (B := B) ..) ?_
  refine good_step 1 15 1 1920 _ _ rfl rfl (by intro a b ha hb hr; have hr : 16 * a + b = 31 := hr; show a = 1 ∧ b = 15; omega) (fun i j => new1_15 (B := B) ..) ?_
  refine good_step 1 14 1 1792 _ _ rfl rfl (by intro a b ha hb hr; have hr : 16 * a + b = 30 := hr; show a = 1 ∧ b = 14; omega) (fun i j => new1_14 (B := B) ..) ?_
  refine good_step 1 13 1 1664 _ _ rfl rfl (by intro a b ha hb hr; have hr : 16 * a + b = 29 := hr; show a = 1 ∧ b = 13; omega) (fun i j => new1_13 (B := B) ..) ?_
  refine good_step 1 12 1 1536 _ _ rfl rfl (by intro a b ha hb hr; have hr : 16 * a + b = 28 := hr; show a = 1 ∧ b = 12; omega) (fun i j => new1_12 (B := B) ..) ?_
  refine good_step 1 11 1 1408 _ _ rfl rfl (by intro a b ha hb hr; have hr : 16 * a + b = 27 := hr; show a = 1 ∧ b = 11; omega) (fun i j => new1_11 (B := B) ..) ?_
  refine good_step 1 10 1 1280 _ _ rfl rfl (by intro a b ha hb hr; have hr : 16 * a + b = 26 := hr; show a = 1 ∧ b = 10; omega) (fun i j => new1_10 (B := B) ..) ?_
  unfold kernelRun0_A.sl.HS1_90
  refine good_step 1 9 1 1152 _ _ rfl rfl (by intro a b ha hb hr; have hr : 16 * a + b = 25 := hr; show a = 1 ∧ b = 9; omega) (fun i j => new1_9 (B := B) ..) ?_
  unfold kernelRun0_A.sl.HS1_89
  refine good_step 1 8 1 1024 _ _ rfl rfl (by intro a b ha hb hr; have hr : 16 * a + b = 24 := hr; show a = 1 ∧ b = 8; omega) (fun i j => new1_8 (B := B) ..) ?_
  unfold kernelRun0_A.sl.HS1_88
  refine good_step 1 7 1 896 _ _ rfl rfl (by intro a b ha hb hr; have hr : 16 * a + b = 23 := hr; show a = 1 ∧ b = 7; omega) (fun i j => new1_7 (B := B) ..) ?_
  unfold kernelRun0_A.sl.HS1_87
  refine good_step 1 6 1 768 _ _ rfl rfl (by intro a b ha hb hr; have hr : 16 * a + b = 22 := hr; show a = 1 ∧ b = 6; omega) (fun i j => new1_6 (B := B) ..) ?_
  unfold kernelRun0_A.sl.HS1_86
  refine good_step 1 5 1 640 _ _ rfl rfl (by intro a b ha hb hr; have hr : 16 * a + b = 21 := hr; show a = 1 ∧ b = 5; omega) (fun i j => new1_5 (B := B) ..) ?_
  unfold kernelRun0_A.sl.HS1_85
  refine good_step 1 4 1 512 _ _ rfl rfl (by intro a b ha hb hr; have hr : 16 * a + b = 20 := hr; show a = 1 ∧ b = 4; omega) (fun i j => new1_4 (B := B) ..) ?_
  unfold kernelRun0_A.sl.HS1_84
  refine good_step 1 3 1 384 _ _ rfl rfl (by intro a b ha hb hr; have hr : 16 * a + b = 19 := hr; show a = 1 ∧ b = 3; omega) (fun i j => new1_3 (B := B) ..) ?_
  refine good_step 1 2 1 256 _ _ rfl rfl (by intro a b ha hb hr; have hr : 16 * a + b = 18 := hr; show a = 1 ∧ b = 2; omega) (fun i j => new1_2 (B := B) ..) ?_
  refine good_step 1 1 1 128 _ _ rfl rfl (by intro a b ha hb hr; have hr : 16 * a + b = 17 := hr; show a = 1 ∧ b = 1; omega) (fun i j => new1_1 (B := B) ..) ?_
  refine good_step 1 0 1 0 _ _ rfl rfl (by intro a b ha hb hr; have hr : 16 * a + b = 16 := hr; show a = 1 ∧ b = 0; omega) (fun i j => new1_0 (B := B) ..) ?_
  refine good_step 0 15 0 1920 _ _ rfl rfl (by intro a b ha hb hr; have hr : 16 * a + b = 15 := hr; show a = 0 ∧ b = 15; omega) (fun i j => new0_15 (B := B) ..) ?_
  refine good_step 0 14 0 1792 _ _ rfl rfl (by intro a b ha hb hr; have hr : 16 * a + b = 14 := hr; show a = 0 ∧ b = 14; omega) (fun i j => new0_14 (B := B) ..) ?_
  unfold kernelRun0_A.sl.HS1_78
  refine good_step 0 13 0 1664 _ _ rfl rfl (by intro a b ha hb hr; have hr : 16 * a + b = 13 := hr; show a = 0 ∧ b = 13; omega) (fun i j => new0_13 (B := B) ..) ?_
  unfold kernelRun0_A.sl.HS1_77
  refine good_step 0 12 0 1536 _ _ rfl rfl (by intro a b ha hb hr; have hr : 16 * a + b = 12 := hr; show a = 0 ∧ b = 12; omega) (fun i j => new0_12 (B := B) ..) ?_
  unfold kernelRun0_A.sl.HS1_76
  refine good_step 0 11 0 1408 _ _ rfl rfl (by intro a b ha hb hr; have hr : 16 * a + b = 11 := hr; show a = 0 ∧ b = 11; omega) (fun i j => new0_11 (B := B) ..) ?_
  unfold kernelRun0_A.sl.HS1_75
  refine good_step 0 10 0 1280 _ _ rfl rfl (by intro a b ha hb hr; have hr : 16 * a + b = 10 := hr; show a = 0 ∧ b = 10; omega) (fun i j => new0_10 (B := B) ..) ?_
  unfold kernelRun0_A.sl.HS1_74
  refine good_step 0 9 0 1152 _ _ rfl rfl (by intro a b ha hb hr; have hr : 16 * a + b = 9 := hr; show a = 0 ∧ b = 9; omega) (fun i j => new0_9 (B := B) ..) ?_
  unfold kernelRun0_A.sl.HS1_73
  refine good_step 0 8 0 1024 _ _ rfl rfl (by intro a b ha hb hr; have hr : 16 * a + b = 8 := hr; show a = 0 ∧ b = 8; omega) (fun i j => new0_8 (B := B) ..) ?_
  unfold kernelRun0_A.sl.HS1_72
  refine good_step 0 7 0 896 _ _ rfl rfl (by intro a b ha hb hr; have hr : 16 * a + b = 7 := hr; show a = 0 ∧ b = 7; omega) (fun i j => new0_7 (B := B) ..) ?_
  unfold kernelRun0_A.sl.HS1_71
  refine good_step 0 6 0 768 _ _ rfl rfl (by intro a b ha hb hr; have hr : 16 * a + b = 6 := hr; show a = 0 ∧ b = 6; omega) (fun i j => new0_6 (B := B) ..) ?_
  refine good_step 0 5 0 640 _ _ rfl rfl (by intro a b ha hb hr; have hr : 16 * a + b = 5 := hr; show a = 0 ∧ b = 5; omega) (fun i j => new0_5 (B := B) ..) ?_
  refine good_step 0 4 0 512 _ _ rfl rfl (by intro a b ha hb hr; have hr : 16 * a + b = 4 := hr; show a = 0 ∧ b = 4; omega) (fun i j => new0_4 (B := B) ..) ?_
  refine good_step 0 3 0 384 _ _ rfl rfl (by intro a b ha hb hr; have hr : 16 * a + b = 3 := hr; show a = 0 ∧ b = 3; omega) (fun i j => new0_3 (B := B) ..) ?_
  refine good_step 0 2 0 256 _ _ rfl rfl (by intro a b ha hb hr; have hr : 16 * a + b = 2 := hr; show a = 0 ∧ b = 2; omega) (fun i j => new0_2 (B := B) ..) ?_
  refine good_step 0 1 0 128 _ _ rfl rfl (by intro a b ha hb hr; have hr : 16 * a + b = 1 := hr; show a = 0 ∧ b = 1; omega) (fun i j => new0_1 (B := B) ..) ?_
  refine good_step 0 0 0 0 _ _ rfl rfl (by intro a b ha hb hr; have hr : 16 * a + b = 0 := hr; show a = 0 ∧ b = 0; omega) (fun i j => new0_0 (B := B) ..) ?_
  exact good_zero _ _ _

end Cert.Rec
end
-- ==== Proof.RecHP.lean ====
/- The state array of the linear recurrence, piece by piece as the result holds it. -/
module

public import proofs.«01_k».proof.Proof.RecHS

@[expose] public section

set_option maxRecDepth 16384

noncomputable section

namespace Cert.Rec

open Idealize.ShloMosaic Idealize.ShloMosaic.TcCoe Idealize.SL.Sem Cert.KernelIdeal Cert.KernelIdeal.Gen

theorem swap_at (v : FVec Ideal S1x1x128x128 .f32) (i j : Fin 128) :
    shapeCast S1x1x128x128 (transpose S128x128 [1, 0] (shapeCast S128x128 v shapeCasts_S1x1x128x128_S128x128) transposes_S128x128_p1_0_S128x128) shapeCasts_S128x128_S1x1x128x128 (ix4 0 0 i j)
      = v (ix4 0 0 j i) := by
  pointwise []

theorem back {H : Fin 4 → Fin 16 → Fin 128 → Fin 128 → EReal} {L : List (View.Piece (Elt Ideal) S1x4x2048x128 .f32)} (hL : Good (fun h s => 16 * h + s) H 64 L)
    (M : Memref sig .tc .vmem S1x4x2048x128 .f32) (h : Fin 4) (q : Fin 16) (a o : ℕ) (ha : a = h.val) (ho : o = 128 * q.val)
    (inb : ∀ i, (![0, a, o, 0] : Fin 4 → ℕ) i + S1x1x128x128.size i ≤ S1x4x2048x128.size i) (i j : Fin 128) :
    shapeCast S1x1x128x128 (transpose S128x128 [1, 0] (shapeCast S128x128 (M.view.readCov L (Rect.unit (s := S1x4x2048x128) ![0, a, o, 0] S1x1x128x128.size inb).toLoadRect)
      shapeCasts_S1x1x128x128_S128x128) transposes_S128x128_p1_0_S128x128) shapeCasts_S128x128_S1x1x128x128 (ix4 0 0 i j) = H h q j i := by
  refine (swap_at _ i j).trans ?_
  rw [View.readCov_eq_canon']
  subst ha ho
  refine good_at hL (by intro h s hh hs; show 16 * h + s < 64; omega) _ h q j i ?_ ?_ ?_
  · show h.val + 1 * 0 = h.val; omega
  · show 128 * q.val + 1 * j.val = 128 * q.val + j.val; omega
  · show 0 + 1 * i.val = i.val; omega

variable (c : Dev nD)
variable (arg2 : Memref sig .tc .vmem S1x64x3840 .f32) (harg2 : arg2.IsWhole) (x0 : Vec Ideal S1x64x3840 .f32)
variable (arg3 : Memref sig .tc .vmem S1x16x1792 .f32) (harg3 : arg3.IsWhole) (x1 : Vec Ideal S1x16x1792 .f32)
variable (arg4 : Memref sig .tc .vmem S16x8x64x64 .f32) (harg4 : arg4.IsWhole) (x2 : Vec Ideal S16x8x64x64 .f32)
variable (arg5 : Memref sig .tc .vmem S16x4x128x128 .f32) (harg5 : arg5.IsWhole) (x3 : Vec Ideal S16x4x128x128 .f32)
variable (arg6 : Memref sig .tc .vmem S1x1792 .f32) (harg6 : arg6.IsWhole) (x4 : Vec Ideal S1x1792 .f32)
variable (arg7 : Memref sig .tc .vmem S1x512 .f32) (harg7 : arg7.IsWhole) (x5 : Vec Ideal S1x512 .f32)
variable (arg8 : Memref sig .tc .vmem S1x512 .f32) (harg8 : arg8.IsWhole) (x6 : Vec Ideal S1x512 .f32)
variable (arg9 : Memref sig .tc .vmem S1x512 .f32) (harg9 : arg9.IsWhole) (x7 : Vec Ideal S1x512 .f32)
variable (arg10 : Memref sig .tc .vmem S1x512 .f32) (harg10 : arg10.IsWhole) (x8 : Vec Ideal S1x512 .f32)
variable (arg11 : Memref sig .tc .vmem S1x512 .f32) (harg11 : arg11.IsWhole) (x9 : Vec Ideal S1x512 .f32)
variable (arg12 : Memref sig .tc .vmem S1x512 .f32) (harg12 : arg12.IsWhole) (x10 : Vec Ideal S1x512 .f32)
variable (arg13 : Memref sig .tc .vmem S1x512 .f32) (harg13 : arg13.IsWhole) (x11 : Vec Ideal S1x512 .f32)
variable (arg14 : Memref sig .tc .vmem S2x512 .f32) (harg14 : arg14.IsWhole) (x12 : Vec Ideal S2x512 .f32)
variable (arg15 : Memref sig .tc .vmem S1x128 .f32) (harg15 : arg15.IsWhole) (x13 : Vec Ideal S1x128 .f32)
variable (arg16 : Memref sig .tc .vmem S128x1024 .bf16) (harg16 : arg16.IsWhole) (x14 : Vec Ideal S128x1024 .bf16)
variable (arg17 : Memref sig .tc .vmem S128x512 .bf16) (harg17 : arg17.IsWhole) (x15 : Vec Ideal S128x512 .bf16)
variable (arg22 : Memref sig .tc .vmem S1x4x2048x128 .f32) (arg23 : Memref sig .tc .vmem S1x4x2048x128 .f32)
variable {w : Wt} {S : Fin 16 → Sq}
variable (B : Blk x0 x1 x2 x3 x4 x5 x6 x7 x8 x9 x10 x11 x12 x13 x14 x15 w S)

include B

theorem piece3_15 (i j : Fin 128) : (k0_pay4 (kernelRun0_A.sl.v4687 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = hgNew w (S 15) 3 i j := by
  simp only [kernelRun0_A.sl.v4687, k0_pay4, k0_pay433]
  exact back (after_good _ _ _ _ _ _ _ _ _ _ _ _ _ _ _ _ _ _ _ _ _ _ _ _ _ _ _ _ _ _ _ _ (B := B)) _ 3 15 3 1920 rfl rfl _ i j

theorem piece2_15 (i j : Fin 128) : (k0_pay3 (kernelRun0_A.sl.v4681 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = hgNew w (S 15) 2 i j := by
  simp only [kernelRun0_A.sl.v4681, k0_pay3, k0_pay433]
  exact back (after_good _ _ _ _ _ _ _ _ _ _ _ _ _ _ _ _ _ _ _ _ _ _ _ _ _ _ _ _ _ _ _ _ (B := B)) _ 2 15 2 1920 rfl rfl _ i j

theorem piece1_15 (i j : Fin 128) : (k0_pay2 (kernelRun0_A.sl.r_461 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = hgNew w (S 15) 1 i j := by
  simp only [kernelRun0_A.sl.r_461, kernelRun0_A.sl.v4675, k0_pay2, k0_pay433]
  exact back (after_good _ _ _ _ _ _ _ _ _ _ _ _ _ _ _ _ _ _ _ _ _ _ _ _ _ _ _ _ _ _ _ _ (B := B)) _ 1 15 1 1920 rfl rfl _ i j

theorem piece0_15 (i j : Fin 128) : (k0_pay432 (kernelRun0_A.sl.v4671_1 (F := Ideal) c arg2 harg2 arg3 harg3 arg5 harg5 arg6 harg6 arg7 harg7 arg14 harg14 arg16 harg16 arg23 x0 x1 x3 x4 x5 x12 x14) : FVec Ideal S1x1x128x128 .f32) (ix4 0 0 i j) = hgNew w (S 15) 0 i j := by
  simp only [kernelRun0_A.sl.v4671_1, kernelRun0_A.sl.v4670, kernelRun0_A.sl.v4669_1, k0_pay432, k0_pay433]
  exact back (after_good _ _ _ _ _ _ _ _ _ _ _ _ _ _ _ _ _ _ _ _ _ _ _ _ _ _ _ _ _ _ _ _ (B := B)) _ 0 15 0 1920 rfl rfl _ i j

theorem piece3_14 (i j : Fin 128) : (kernelRun0_A.sl.v4628_1 (F := Ideal) c arg2 harg2 arg3 harg3 arg5 harg5 arg6 harg6 arg7 harg7 arg14 harg14 arg16 harg16 arg23 x0 x1 x3 x4 x5 x12 x14) (ix4 0 0 i j) = hgNew w (S 14) 3 i j := by
  simp only [kernelRun0_A.sl.v4628_1, kernelRun0_A.sl.v4625_1, kernelRun0_A.sl.v4624_1, kernelRun0_A.sl.v4623]
  exact back (after_good _ _ _ _ _ _ _ _ _ _ _ _ _ _ _ _ _ _ _ _ _ _ _ _ _ _ _ _ _ _ _ _ (B := B)) _ 3 14 3 1792 rfl rfl _ i j

theorem piece2_14 (i j : Fin 128) : (kernelRun0_A.sl.v4622_1 (F := Ideal) c arg2 harg2 arg3 harg3 arg5 harg5 arg6 harg6 arg7 harg7 arg14 harg14 arg16 harg16 arg23 x0 x1 x3 x4 x5 x12 x14) (ix4 0 0 i j) = hgNew w (S 14) 2 i j := by
  simp only [kernelRun0_A.sl.v4622_1, kernelRun0_A.sl.v4619_1, kernelRun0_A.sl.v4618_1, kernelRun0_A.sl.v4617]
  exact back (after_good _ _ _ _ _ _ _ _ _ _ _ _ _ _ _ _ _ _ _ _ _ _ _ _ _ _ _ _ _ _ _ _ (B := B)) _ 2 14 2 1792 rfl rfl _ i j

theorem piece1_14 (i j : Fin 128) : (kernelRun0_A.sl.v4616_1 (F := Ideal) c arg2 harg2 arg3 harg3 arg5 harg5 arg6 harg6 arg7 harg7 arg14 harg14 arg16 harg16 arg23 x0 x1 x3 x4 x5 x12 x14) (ix4 0 0 i j) = hgNew w (S 14) 1 i j := by
  simp only [kernelRun0_A.sl.v4616_1, kernelRun0_A.sl.v4613_1, kernelRun0_A.sl.v4612_1, kernelRun0_A.sl.v4611]
  exact back (after_good _ _ _ _ _ _ _ _ _ _ _ _ _ _ _ _ _ _ _ _ _ _ _ _ _ _ _ _ _ _ _ _ (B := B)) _ 1 14 1 1792 rfl rfl _ i j

theorem piece0_14 (i j : Fin 128) : (kernelRun0_A.sl.v4610_1 (F := Ideal) c arg2 harg2 arg3 harg3 arg5 harg5 arg6 harg6 arg7 harg7 arg14 harg14 arg16 harg16 arg23 x0 x1 x3 x4 x5 x12 x14) (ix4 0 0 i j) = hgNew w (S 14) 0 i j := by
  simp only [kernelRun0_A.sl.v4610_1, kernelRun0_A.sl.v4607_1, kernelRun0_A.sl.v4606, kernelRun0_A.sl.v4605_1]
  exact back (after_good _ _ _ _ _ _ _ _ _ _ _ _ _ _ _ _ _ _ _ _ _ _ _ _ _ _ _ _ _ _ _ _ (B := B)) _ 0 14 0 1792 rfl rfl _ i j

theorem piece3_13 (i j : Fin 128) : (kernelRun0_A.sl.v4564_1 (F := Ideal) c arg2 harg2 arg3 harg3 arg5 harg5 arg6 harg6 arg7 harg7 arg14 harg14 arg16 harg16 arg23 x0 x1 x3 x4 x5 x12 x14) (ix4 0 0 i j) = hgNew w (S 13) 3 i j := by
  simp only [kernelRun0_A.sl.v4564_1, kernelRun0_A.sl.v4561_1, kernelRun0_A.sl.v4560_1, kernelRun0_A.sl.v4559]
  exact back (after_good _ _ _ _ _ _ _ _ _ _ _ _ _ _ _ _ _ _ _ _ _ _ _ _ _ _ _ _ _ _ _ _ (B := B)) _ 3 13 3 1664 rfl rfl _ i j

theorem piece2_13 (i j : Fin 128) : (kernelRun0_A.sl.v4558_1 (F := Ideal) c arg2 harg2 arg3 harg3 arg5 harg5 arg6 harg6 arg7 harg7 arg14 harg14 arg16 harg16 arg23 x0 x1 x3 x4 x5 x12 x14) (ix4 0 0 i j) = hgNew w (S 13) 2 i j := by
  simp only [kernelRun0_A.sl.v4558_1, kernelRun0_A.sl.v4555_1, kernelRun0_A.sl.v4554_1, kernelRun0_A.sl.v4553]
  exact back (after_good _ _ _ _ _ _ _ _ _ _ _ _ _ _ _ _ _ _ _ _ _ _ _ _ _ _ _ _ _ _ _ _ (B := B)) _ 2 13 2 1664 rfl rfl _ i j

theorem piece1_13 (i j : Fin 128) : (kernelRun0_A.sl.v4552_1 (F := Ideal) c arg2 harg2 arg3 harg3 arg5 harg5 arg6 harg6 arg7 harg7 arg14 harg14 arg16 harg16 arg23 x0 x1 x3 x4 x5 x12 x14) (ix4 0 0 i j) = hgNew w (S 13) 1 i j := by
  simp only [kernelRun0_A.sl.v4552_1, kernelRun0_A.sl.v4549_1, kernelRun0_A.sl.v4548_1, kernelRun0_A.sl.v4547]
  exact back (after_good _ _ _ _ _ _ _ _ _ _ _ _ _ _ _ _ _ _ _ _ _ _ _ _ _ _ _ _ _ _ _ _ (B := B)) _ 1 13 1 1664 rfl rfl _ i j

theorem piece0_13 (i j : Fin 128) : (kernelRun0_A.sl.v4546_1 (F := Ideal) c arg2 harg2 arg3 harg3 arg5 harg5 arg6 harg6 arg7 harg7 arg14 harg14 arg16 harg16 arg23 x0 x1 x3 x4 x5 x12 x14) (ix4 0 0 i j) = hgNew w (S 13) 0 i j := by
  simp only [kernelRun0_A.sl.v4546_1, kernelRun0_A.sl.v4543_1, kernelRun0_A.sl.v4542, kernelRun0_A.sl.v4541_1]
  exact back (after_good _ _ _ _ _ _ _ _ _ _ _ _ _ _ _ _ _ _ _ _ _ _ _ _ _ _ _ _ _ _ _ _ (B := B)) _ 0 13 0 1664 rfl rfl _ i j

theorem piece3_12 (i j : Fin 128) : (kernelRun0_A.sl.v4500_1 (F := Ideal) c arg2 harg2 arg3 harg3 arg5 harg5 arg6 harg6 arg7 harg7 arg14 harg14 arg16 harg16 arg23 x0 x1 x3 x4 x5 x12 x14) (ix4 0 0 i j) = hgNew w (S 12) 3 i j := by
  simp only [kernelRun0_A.sl.v4500_1, kernelRun0_A.sl.v4497_1, kernelRun0_A.sl.v4496_1, kernelRun0_A.sl.v4495]
  exact back (after_good _ _ _ _ _ _ _ _ _ _ _ _ _ _ _ _ _ _ _ _ _ _ _ _ _ _ _ _ _ _ _ _ (B := B)) _ 3 12 3 1536 rfl rfl _ i j

theorem piece2_12 (i j : Fin 128) : (kernelRun0_A.sl.v4494_1 (F := Ideal) c arg2 harg2 arg3 harg3 arg5 harg5 arg6 harg6 arg7 harg7 arg14 harg14 arg16 harg16 arg23 x0 x1 x3 x4 x5 x12 x14) (ix4 0 0 i j) = hgNew w (S 12) 2 i j := by
  simp only [kernelRun0_A.sl.v4494_1, kernelRun0_A.sl.v4491_1, kernelRun0_A.sl.v4490_1, kernelRun0_A.sl.v4489]
  exact back (after_good _ _ _ _ _ _ _ _ _ _ _ _ _ _ _ _ _ _ _ _ _ _ _ _ _ _ _ _ _ _ _ _ (B := B)) _ 2 12 2 1536 rfl rfl _ i j

theorem piece1_12 (i j : Fin 128) : (kernelRun0_A.sl.v4488_1 (F := Ideal) c arg2 harg2 arg3 harg3 arg5 harg5 arg6 harg6 arg7 harg7 arg14 harg14 arg16 harg16 arg23 x0 x1 x3 x4 x5 x12 x14) (ix4 0 0 i j) = hgNew w (S 12) 1 i j := by
  simp only [kernelRun0_A.sl.v4488_1, kernelRun0_A.sl.v4485_1, kernelRun0_A.sl.v4484_1, kernelRun0_A.sl.v4483]
  exact back (after_good _ _ _ _ _ _ _ _ _ _ _ _ _ _ _ _ _ _ _ _ _ _ _ _ _ _ _ _ _ _ _ _ (B := B)) _ 1 12 1 1536 rfl rfl _ i j

theorem piece0_12 (i j : Fin 128) : (kernelRun0_A.sl.v4482_1 (F := Ideal) c arg2 harg2 arg3 harg3 arg5 harg5 arg6 harg6 arg7 harg7 arg14 harg14 arg16 harg16 arg23 x0 x1 x3 x4 x5 x12 x14) (ix4 0 0 i j) = hgNew w (S 12) 0 i j := by
  simp only [kernelRun0_A.sl.v4482_1, kernelRun0_A.sl.v4479_1, kernelRun0_A.sl.v4478, kernelRun0_A.sl.v4477_1]
  exact back (after_good _ _ _ _ _ _ _ _ _ _ _ _ _ _ _ _ _ _ _ _ _ _ _ _ _ _ _ _ _ _ _ _ (B := B)) _ 0 12 0 1536 rfl rfl _ i j

theorem piece3_11 (i j : Fin 128) : (kernelRun0_A.sl.v4436_1 (F := Ideal) c arg2 harg2 arg3 harg3 arg5 harg5 arg6 harg6 arg7 harg7 arg14 harg14 arg16 harg16 arg23 x0 x1 x3 x4 x5 x12 x14) (ix4 0 0 i j) = hgNew w (S 11) 3 i j := by
  simp only [kernelRun0_A.sl.v4436_1, kernelRun0_A.sl.v4433_1, kernelRun0_A.sl.v4432_1, kernelRun0_A.sl.v4431]
  exact back (after_good _ _ _ _ _ _ _ _ _ _ _ _ _ _ _ _ _ _ _ _ _ _ _ _ _ _ _ _ _ _ _ _ (B := B)) _ 3 11 3 1408 rfl rfl _ i j

theorem piece2_11 (i j : Fin 128) : (kernelRun0_A.sl.v4430_1 (F := Ideal) c arg2 harg2 arg3 harg3 arg5 harg5 arg6 harg6 arg7 harg7 arg14 harg14 arg16 harg16 arg23 x0 x1 x3 x4 x5 x12 x14) (ix4 0 0 i j) = hgNew w (S 11) 2 i j := by
  simp only [kernelRun0_A.sl.v4430_1, kernelRun0_A.sl.v4427_1, kernelRun0_A.sl.v4426_1, kernelRun0_A.sl.v4425]
  exact back (after_good _ _ _ _ _ _ _ _ _ _ _ _ _ _ _ _ _ _ _ _ _ _ _ _ _ _ _ _ _ _ _ _ (B := B)) _ 2 11 2 1408 rfl rfl _ i j

theorem piece1_11 (i j : Fin 128) : (kernelRun0_A.sl.v4424_1 (F := Ideal) c arg2 harg2 arg3 harg3 arg5 harg5 arg6 harg6 arg7 harg7 arg14 harg14 arg16 harg16 arg23 x0 x1 x3 x4 x5 x12 x14) (ix4 0 0 i j) = hgNew w (S 11) 1 i j := by
  simp only [kernelRun0_A.sl.v4424_1, kernelRun0_A.sl.v4421_1, kernelRun0_A.sl.v4420_1, kernelRun0_A.sl.v4419]
  exact back (after_good _ _ _ _ _ _ _ _ _ _ _ _ _ _ _ _ _ _ _ _ _ _ _ _ _ _ _ _ _ _ _ _ (B := B)) _ 1 11 1 1408 rfl rfl _ i j

theorem piece0_11 (i j : Fin 128) : (kernelRun0_A.sl.v4418_1 (F := Ideal) c arg2 harg2 arg3 harg3 arg5 harg5 arg6 harg6 arg7 harg7 arg14 harg14 arg16 harg16 arg23 x0 x1 x3 x4 x5 x12 x14) (ix4 0 0 i j) = hgNew w (S 11) 0 i j := by
  simp only [kernelRun0_A.sl.v4418_1, kernelRun0_A.sl.v4415_1, kernelRun0_A.sl.v4414, kernelRun0_A.sl.v4413_1]
  exact back (after_good _ _ _ _ _ _ _ _ _ _ _ _ _ _ _ _ _ _ _ _ _ _ _ _ _ _ _ _ _ _ _ _ (B := B)) _ 0 11 0 1408 rfl rfl _ i j

theorem piece3_10 (i j : Fin 128) : (kernelRun0_A.sl.v4372_1 (F := Ideal) c arg2 harg2 arg3 harg3 arg5 harg5 arg6 harg6 arg7 harg7 arg14 harg14 arg16 harg16 arg23 x0 x1 x3 x4 x5 x12 x14) (ix4 0 0 i j) = hgNew w (S 10) 3 i j := by
  simp only [kernelRun0_A.sl.v4372_1, kernelRun0_A.sl.v4369_1, kernelRun0_A.sl.v4368_1, kernelRun0_A.sl.v4367]
  exact back (after_good _ _ _ _ _ _ _ _ _ _ _ _ _ _ _ _ _ _ _ _ _ _ _ _ _ _ _ _ _ _ _ _ (B := B)) _ 3 10 3 1280 rfl rfl _ i j

theorem piece2_10 (i j : Fin 128) : (kernelRun0_A.sl.v4366_1 (F := Ideal) c arg2 harg2 arg3 harg3 arg5 harg5 arg6 harg6 arg7 harg7 arg14 harg14 arg16 harg16 arg23 x0 x1 x3 x4 x5 x12 x14) (ix4 0 0 i j) = hgNew w (S 10) 2 i j := by
  simp only [kernelRun0_A.sl.v4366_1, kernelRun0_A.sl.v4363_1, kernelRun0_A.sl.v4362_1, kernelRun0_A.sl.v4361]
  exact back (after_good _ _ _ _ _ _ _ _ _ _ _ _ _ _ _ _ _ _ _ _ _ _ _ _ _ _ _ _ _ _ _ _ (B := B)) _ 2 10 2 1280 rfl rfl _ i j

theorem piece1_10 (i j : Fin 128) : (kernelRun0_A.sl.v4360_1 (F := Ideal) c arg2 harg2 arg3 harg3 arg5 harg5 arg6 harg6 arg7 harg7 arg14 harg14 arg16 harg16 arg23 x0 x1 x3 x4 x5 x12 x14) (ix4 0 0 i j) = hgNew w (S 10) 1 i j := by
  simp only [kernelRun0_A.sl.v4360_1, kernelRun0_A.sl.v4357_1, kernelRun0_A.sl.v4356_1, kernelRun0_A.sl.v4355]
  exact back (after_good _ _ _ _ _ _ _ _ _ _ _ _ _ _ _ _ _ _ _ _ _ _ _ _ _ _ _ _ _ _ _ _ (B := B)) _ 1 10 1 1280 rfl rfl _ i j

theorem piece0_10 (i j : Fin 128) : (kernelRun0_A.sl.v4354_1 (F := Ideal) c arg2 harg2 arg3 harg3 arg5 harg5 arg6 harg6 arg7 harg7 arg14 harg14 arg16 harg16 arg23 x0 x1 x3 x4 x5 x12 x14) (ix4 0 0 i j) = hgNew w (S 10) 0 i j := by
  simp only [kernelRun0_A.sl.v4354_1, kernelRun0_A.sl.v4351_1, kernelRun0_A.sl.v4350, kernelRun0_A.sl.v4349_1]
  exact back (after_good _ _ _ _ _ _ _ _ _ _ _ _ _ _ _ _ _ _ _ _ _ _ _ _ _ _ _ _ _ _ _ _ (B := B)) _ 0 10 0 1280 rfl rfl _ i j

theorem piece3_9 (i j : Fin 128) : (kernelRun0_A.sl.v4308_1 (F := Ideal) c arg2 harg2 arg3 harg3 arg5 harg5 arg6 harg6 arg7 harg7 arg14 harg14 arg16 harg16 arg23 x0 x1 x3 x4 x5 x12 x14) (ix4 0 0 i j) = hgNew w (S 9) 3 i j := by
  simp only [kernelRun0_A.sl.v4308_1, kernelRun0_A.sl.v4305_1, kernelRun0_A.sl.v4304_1, kernelRun0_A.sl.v4303]
  exact back (after_good _ _ _ _ _ _ _ _ _ _ _ _ _ _ _ _ _ _ _ _ _ _ _ _ _ _ _ _ _ _ _ _ (B := B)) _ 3 9 3 1152 rfl rfl _ i j

theorem piece2_9 (i j : Fin 128) : (kernelRun0_A.sl.v4302_1 (F := Ideal) c arg2 harg2 arg3 harg3 arg5 harg5 arg6 harg6 arg7 harg7 arg14 harg14 arg16 harg16 arg23 x0 x1 x3 x4 x5 x12 x14) (ix4 0 0 i j) = hgNew w (S 9) 2 i j := by
  simp only [kernelRun0_A.sl.v4302_1, kernelRun0_A.sl.v4299_1, kernelRun0_A.sl.v4298_1, kernelRun0_A.sl.v4297]
  exact back (after_good _ _ _ _ _ _ _ _ _ _ _ _ _ _ _ _ _ _ _ _ _ _ _ _ _ _ _ _ _ _ _ _ (B := B)) _ 2 9 2 1152 rfl rfl _ i j

theorem piece1_9 (i j : Fin 128) : (kernelRun0_A.sl.v4296_1 (F := Ideal) c arg2 harg2 arg3 harg3 arg5 harg5 arg6 harg6 arg7 harg7 arg14 harg14 arg16 harg16 arg23 x0 x1 x3 x4 x5 x12 x14) (ix4 0 0 i j) = hgNew w (S 9) 1 i j := by
  simp only [kernelRun0_A.sl.v4296_1, kernelRun0_A.sl.v4293_1, kernelRun0_A.sl.v4292_1, kernelRun0_A.sl.v_1]
  exact back (after_good _ _ _ _ _ _ _ _ _ _ _ _ _ _ _ _ _ _ _ _ _ _ _ _ _ _ _ _ _ _ _ _ (B := B)) _ 1 9 1 1152 rfl rfl _ i j

theorem piece0_9 (i j : Fin 128) : (kernelRun0_A.sl.v4290_1 (F := Ideal) c arg2 harg2 arg3 harg3 arg5 harg5 arg6 harg6 arg7 harg7 arg14 harg14 arg16 harg16 arg23 x0 x1 x3 x4 x5 x12 x14) (ix4 0 0 i j) = hgNew w (S 9) 0 i j := by
  simp only [kernelRun0_A.sl.v4290_1, kernelRun0_A.sl.v4287_1, kernelRun0_A.sl.v4286, kernelRun0_A.sl.v4285_1]
  exact back (after_good _ _ _ _ _ _ _ _ _ _ _ _ _ _ _ _ _ _ _ _ _ _ _ _ _ _ _ _ _ _ _ _ (B := B)) _ 0 9 0 1152 rfl rfl _ i j

theorem piece3_8 (i j : Fin 128) : (kernelRun0_A.sl.v4244_1 (F := Ideal) c arg2 harg2 arg3 harg3 arg5 harg5 arg6 harg6 arg7 harg7 arg14 harg14 arg16 harg16 arg23 x0 x1 x3 x4 x5 x12 x14) (ix4 0 0 i j) = hgNew w (S 8) 3 i j := by
  simp only [kernelRun0_A.sl.v4244_1, kernelRun0_A.sl.v4241_1, kernelRun0_A.sl.v4240_1, kernelRun0_A.sl.v4239]
  exact back (after_good _ _ _ _ _ _ _ _ _ _ _ _ _ _ _ _ _ _ _ _ _ _ _ _ _ _ _ _ _ _ _ _ (B := B)) _ 3 8 3 1024 rfl rfl _ i j

theorem piece2_8 (i j : Fin 128) : (kernelRun0_A.sl.v4238_1 (F := Ideal) c arg2 harg2 arg3 harg3 arg5 harg5 arg6 harg6 arg7 harg7 arg14 harg14 arg16 harg16 arg23 x0 x1 x3 x4 x5 x12 x14) (ix4 0 0 i j) = hgNew w (S 8) 2 i j := by
  simp only [kernelRun0_A.sl.v4238_1, kernelRun0_A.sl.v4235_1, kernelRun0_A.sl.v4234_1, kernelRun0_A.sl.v4233]
  exact back (after_good _ _ _ _ _ _ _ _ _ _ _ _ _ _ _ _ _ _ _ _ _ _ _ _ _ _ _ _ _ _ _ _ (B := B)) _ 2 8 2 1024 rfl rfl _ i j

theorem piece1_8 (i j : Fin 128) : (kernelRun0_A.sl.v4232_1 (F := Ideal) c arg2 harg2 arg3 harg3 arg5 harg5 arg6 harg6 arg7 harg7 arg14 harg14 arg16 harg16 arg23 x0 x1 x3 x4 x5 x12 x14) (ix4 0 0 i j) = hgNew w (S 8) 1 i j := by
  simp only [kernelRun0_A.sl.v4232_1, kernelRun0_A.sl.v4229_1, kernelRun0_A.sl.v4228_1, kernelRun0_A.sl.v4227]
  exact back (after_good _ _ _ _ _ _ _ _ _ _ _ _ _ _ _ _ _ _ _ _ _ _ _ _ _ _ _ _ _ _ _ _ (B := B)) _ 1 8 1 1024 rfl rfl _ i j

theorem piece0_8 (i j : Fin 128) : (kernelRun0_A.sl.v4226_1 (F := Ideal) c arg2 harg2 arg3 harg3 arg5 harg5 arg6 harg6 arg7 harg7 arg14 harg14 arg16 harg16 arg23 x0 x1 x3 x4 x5 x12 x14) (ix4 0 0 i j) = hgNew w (S 8) 0 i j := by
  simp only [kernelRun0_A.sl.v4226_1, kernelRun0_A.sl.v4223_1, kernelRun0_A.sl.v4222, kernelRun0_A.sl.v4221_1]
  exact back (after_good _ _ _ _ _ _ _ _ _ _ _ _ _ _ _ _ _ _ _ _ _ _ _ _ _ _ _ _ _ _ _ _ (B := B)) _ 0 8 0 1024 rfl rfl _ i j

theorem piece3_7 (i j : Fin 128) : (kernelRun0_A.sl.v4180_1 (F := Ideal) c arg2 harg2 arg3 harg3 arg5 harg5 arg6 harg6 arg7 harg7 arg14 harg14 arg16 harg16 arg23 x0 x1 x3 x4 x5 x12 x14) (ix4 0 0 i j) = hgNew w (S 7) 3 i j := by
  simp only [kernelRun0_A.sl.v4180_1, kernelRun0_A.sl.v4177_1, kernelRun0_A.sl.v4176_1, kernelRun0_A.sl.v4175]
  exact back (after_good _ _ _ _ _ _ _ _ _ _ _ _ _ _ _ _ _ _ _ _ _ _ _ _ _ _ _ _ _ _ _ _ (B := B)) _ 3 7 3 896 rfl rfl _ i j

theorem piece2_7 (i j : Fin 128) : (kernelRun0_A.sl.v4174_1 (F := Ideal) c arg2 harg2 arg3 harg3 arg5 harg5 arg6 harg6 arg7 harg7 arg14 harg14 arg16 harg16 arg23 x0 x1 x3 x4 x5 x12 x14) (ix4 0 0 i j) = hgNew w (S 7) 2 i j := by
  simp only [kernelRun0_A.sl.v4174_1, kernelRun0_A.sl.v4171_1, kernelRun0_A.sl.v4170_1, kernelRun0_A.sl.v4169]
  exact back (after_good _ _ _ _ _ _ _ _ _ _ _ _ _ _ _ _ _ _ _ _ _ _ _ _ _ _ _ _ _ _ _ _ (B := B)) _ 2 7 2 896 rfl rfl _ i j

theorem piece1_7 (i j : Fin 128) : (kernelRun0_A.sl.v4168_1 (F := Ideal) c arg2 harg2 arg3 harg3 arg5 harg5 arg6 harg6 arg7 harg7 arg14 harg14 arg16 harg16 arg23 x0 x1 x3 x4 x5 x12 x14) (ix4 0 0 i j) = hgNew w (S 7) 1 i j := by
  simp only [kernelRun0_A.sl.v4168_1, kernelRun0_A.sl.v4165_1, kernelRun0_A.sl.v4164_1, kernelRun0_A.sl.v4163]
  exact back (after_good _ _ _ _ _ _ _ _ _ _ _ _ _ _ _ _ _ _ _ _ _ _ _ _ _ _ _ _ _ _ _ _ (B := B)) _ 1 7 1 896 rfl rfl _ i j

theorem piece0_7 (i j : Fin 128) : (kernelRun0_A.sl.v4162_1 (F := Ideal) c arg2 harg2 arg3 harg3 arg5 harg5 arg6 harg6 arg7 harg7 arg14 harg14 arg16 harg16 arg23 x0 x1 x3 x4 x5 x12 x14) (ix4 0 0 i j) = hgNew w (S 7) 0 i j := by
  simp only [kernelRun0_A.sl.v4162_1, kernelRun0_A.sl.v4159_1, kernelRun0_A.sl.v4158, kernelRun0_A.sl.v4157_1]
  exact back (after_good _ _ _ _ _ _ _ _ _ _ _ _ _ _ _ _ _ _ _ _ _ _ _ _ _ _ _ _ _ _ _ _ (B := B)) _ 0 7 0 896 rfl rfl _ i j

theorem piece3_6 (i j : Fin 128) : (kernelRun0_A.sl.v4116_1 (F := Ideal) c arg2 harg2 arg3 harg3 arg5 harg5 arg6 harg6 arg7 harg7 arg14 harg14 arg16 harg16 arg23 x0 x1 x3 x4 x5 x12 x14) (ix4 0 0 i j) = hgNew w (S 6) 3 i j := by
  simp only [kernelRun0_A.sl.v4116_1, kernelRun0_A.sl.v4113_1, kernelRun0_A.sl.v4112_1, kernelRun0_A.sl.v4111]
  exact back (after_good _ _ _ _ _ _ _ _ _ _ _ _ _ _ _ _ _ _ _ _ _ _ _ _ _ _ _ _ _ _ _ _ (B := B)) _ 3 6 3 768 rfl rfl _ i j

theorem piece2_6 (i j : Fin 128) : (kernelRun0_A.sl.v4110_1 (F := Ideal) c arg2 harg2 arg3 harg3 arg5 harg5 arg6 harg6 arg7 harg7 arg14 harg14 arg16 harg16 arg23 x0 x1 x3 x4 x5 x12 x14) (ix4 0 0 i j) = hgNew w (S 6) 2 i j := by
  simp only [kernelRun0_A.sl.v4110_1, kernelRun0_A.sl.v4107_1, kernelRun0_A.sl.v4106_1, kernelRun0_A.sl.v4105]
  exact back (after_good _ _ _ _ _ _ _ _ _ _ _ _ _ _ _ _ _ _ _ _ _ _ _ _ _ _ _ _ _ _ _ _ (B := B)) _ 2 6 2 768 rfl rfl _ i j

theorem piece1_6 (i j : Fin 128) : (kernelRun0_A.sl.v4104_1 (F := Ideal) c arg2 harg2 arg3 harg3 arg5 harg5 arg6 harg6 arg7 harg7 arg14 harg14 arg16 harg16 arg23 x0 x1 x3 x4 x5 x12 x14) (ix4 0 0 i j) = hgNew w (S 6) 1 i j := by
  simp only [kernelRun0_A.sl.v4104_1, kernelRun0_A.sl.v4101_1, kernelRun0_A.sl.v4100_1, kernelRun0_A.sl.v4099]
  exact back (after_good _ _ _ _ _ _ _ _ _ _ _ _ _ _ _ _ _ _ _ _ _ _ _ _ _ _ _ _ _ _ _ _ (B := B)) _ 1 6 1 768 rfl rfl _ i j

theorem piece0_6 (i j : Fin 128) : (kernelRun0_A.sl.v4098_1 (F := Ideal) c arg2 harg2 arg3 harg3 arg5 harg5 arg6 harg6 arg7 harg7 arg14 harg14 arg16 harg16 arg23 x0 x1 x3 x4 x5 x12 x14) (ix4 0 0 i j) = hgNew w (S 6) 0 i j := by
  simp only [kernelRun0_A.sl.v4098_1, kernelRun0_A.sl.v4095_1, kernelRun0_A.sl.v4094, kernelRun0_A.sl.v4093_1]
  exact back (after_good _ _ _ _ _ _ _ _ _ _ _ _ _ _ _ _ _ _ _ _ _ _ _ _ _ _ _ _ _ _ _ _ (B := B)) _ 0 6 0 768 rfl rfl _ i j

theorem piece3_5 (i j : Fin 128) : (kernelRun0_A.sl.v4052_1 (F := Ideal) c arg2 harg2 arg3 harg3 arg5 harg5 arg6 harg6 arg7 harg7 arg14 harg14 arg16 harg16 arg23 x0 x1 x3 x4 x5 x12 x14) (ix4 0 0 i j) = hgNew w (S 5) 3 i j := by
  simp only [kernelRun0_A.sl.v4052_1, kernelRun0_A.sl.v4049_1, kernelRun0_A.sl.v4048_1, kernelRun0_A.sl.v4047]
  exact back (after_good _ _ _ _ _ _ _ _ _ _ _ _ _ _ _ _ _ _ _ _ _ _ _ _ _ _ _ _ _ _ _ _ (B := B)) _ 3 5 3 640 rfl rfl _ i j

theorem piece2_5 (i j : Fin 128) : (kernelRun0_A.sl.v4046_1 (F := Ideal) c arg2 harg2 arg3 harg3 arg5 harg5 arg6 harg6 arg7 harg7 arg14 harg14 arg16 harg16 arg23 x0 x1 x3 x4 x5 x12 x14) (ix4 0 0 i j) = hgNew w (S 5) 2 i j := by
  simp only [kernelRun0_A.sl.v4046_1, kernelRun0_A.sl.v4043_1, kernelRun0_A.sl.v4042_1, kernelRun0_A.sl.v4041]
  exact back (after_good _ _ _ _ _ _ _ _ _ _ _ _ _ _ _ _ _ _ _ _ _ _ _ _ _ _ _ _ _ _ _ _ (B := B)) _ 2 5 2 640 rfl rfl _ i j

theorem piece1_5 (i j : Fin 128) : (kernelRun0_A.sl.v4040_1 (F := Ideal) c arg2 harg2 arg3 harg3 arg5 harg5 arg6 harg6 arg7 harg7 arg14 harg14 arg16 harg16 arg23 x0 x1 x3 x4 x5 x12 x14) (ix4 0 0 i j) = hgNew w (S 5) 1 i j := by
  simp only [kernelRun0_A.sl.v4040_1, kernelRun0_A.sl.v4037_1, kernelRun0_A.sl.v4036_1, kernelRun0_A.sl.v4035]
  exact back (after_good _ _ _ _ _ _ _ _ _ _ _ _ _ _ _ _ _ _ _ _ _ _ _ _ _ _ _ _ _ _ _ _ (B := B)) _ 1 5 1 640 rfl rfl _ i j

theorem piece0_5 (i j : Fin 128) : (kernelRun0_A.sl.v4034_1 (F := Ideal) c arg2 harg2 arg3 harg3 arg5 harg5 arg6 harg6 arg7 harg7 arg14 harg14 arg16 harg16 arg23 x0 x1 x3 x4 x5 x12 x14) (ix4 0 0 i j) = hgNew w (S 5) 0 i j := by
  simp only [kernelRun0_A.sl.v4034_1, kernelRun0_A.sl.v4031_1, kernelRun0_A.sl.v4030, kernelRun0_A.sl.v4029_1]
  exact back (after_good _ _ _ _ _ _ _ _ _ _ _ _ _ _ _ _ _ _ _ _ _ _ _ _ _ _ _ _ _ _ _ _ (B := B)) _ 0 5 0 640 rfl rfl _ i j

theorem piece3_4 (i j : Fin 128) : (kernelRun0_A.sl.v3988_1 (F := Ideal) c arg2 harg2 arg3 harg3 arg5 harg5 arg6 harg6 arg7 harg7 arg14 harg14 arg16 harg16 arg23 x0 x1 x3 x4 x5 x12 x14) (ix4 0 0 i j) = hgNew w (S 4) 3 i j := by
  simp only [kernelRun0_A.sl.v3988_1, kernelRun0_A.sl.v3985_1, kernelRun0_A.sl.v3984_1, kernelRun0_A.sl.v3983]
  exact back (after_good _ _ _ _ _ _ _ _ _ _ _ _ _ _ _ _ _ _ _ _ _ _ _ _ _ _ _ _ _ _ _ _ (B := B)) _ 3 4 3 512 rfl rfl _ i j

theorem piece2_4 (i j : Fin 128) : (kernelRun0_A.sl.v3982_1 (F := Ideal) c arg2 harg2 arg3 harg3 arg5 harg5 arg6 harg6 arg7 harg7 arg14 harg14 arg16 harg16 arg23 x0 x1 x3 x4 x5 x12 x14) (ix4 0 0 i j) = hgNew w (S 4) 2 i j := by
  simp only [kernelRun0_A.sl.v3982_1, kernelRun0_A.sl.v3979_1, kernelRun0_A.sl.v3978_1, kernelRun0_A.sl.v3977]
  exact back (after_good _ _ _ _ _ _ _ _ _ _ _ _ _ _ _ _ _ _ _ _ _ _ _ _ _ _ _ _ _ _ _ _ (B := B)) _ 2 4 2 512 rfl rfl _ i j

theorem piece1_4 (i j : Fin 128) : (kernelRun0_A.sl.v3976_1 (F := Ideal) c arg2 harg2 arg3 harg3 arg5 harg5 arg6 harg6 arg7 harg7 arg14 harg14 arg16 harg16 arg23 x0 x1 x3 x4 x5 x12 x14) (ix4 0 0 i j) = hgNew w (S 4) 1 i j := by
  simp only [kernelRun0_A.sl.v3976_1, kernelRun0_A.sl.v3973_1, kernelRun0_A.sl.v3972_1, kernelRun0_A.sl.v3971]
  exact back (after_good _ _ _ _ _ _ _ _ _ _ _ _ _ _ _ _ _ _ _ _ _ _ _ _ _ _ _ _ _ _ _ _ (B := B)) _ 1 4 1 512 rfl rfl _ i j

theorem piece0_4 (i j : Fin 128) : (kernelRun0_A.sl.v3970_1 (F := Ideal) c arg2 harg2 arg3 harg3 arg5 harg5 arg6 harg6 arg7 harg7 arg14 harg14 arg16 harg16 arg23 x0 x1 x3 x4 x5 x12 x14) (ix4 0 0 i j) = hgNew w (S 4) 0 i j := by
  simp only [kernelRun0_A.sl.v3970_1, kernelRun0_A.sl.v3967_1, kernelRun0_A.sl.v3966, kernelRun0_A.sl.v3965_1]
  exact back (after_good _ _ _ _ _ _ _ _ _ _ _ _ _ _ _ _ _ _ _ _ _ _ _ _ _ _ _ _ _ _ _ _ (B := B)) _ 0 4 0 512 rfl rfl _ i j

theorem piece3_3 (i j : Fin 128) : (kernelRun0_A.sl.v3924_1 (F := Ideal) c arg2 harg2 arg3 harg3 arg5 harg5 arg6 harg6 arg7 harg7 arg14 harg14 arg16 harg16 arg23 x0 x1 x3 x4 x5 x12 x14) (ix4 0 0 i j) = hgNew w (S 3) 3 i j := by
  simp only [kernelRun0_A.sl.v3924_1, kernelRun0_A.sl.v3921_1, kernelRun0_A.sl.v3920_1, kernelRun0_A.sl.v3919]
  exact back (after_good _ _ _ _ _ _ _ _ _ _ _ _ _ _ _ _ _ _ _ _ _ _ _ _ _ _ _ _ _ _ _ _ (B := B)) _ 3 3 3 384 rfl rfl _ i j

theorem piece2_3 (i j : Fin 128) : (kernelRun0_A.sl.v3918_1 (F := Ideal) c arg2 harg2 arg3 harg3 arg5 harg5 arg6 harg6 arg7 harg7 arg14 harg14 arg16 harg16 arg23 x0 x1 x3 x4 x5 x12 x14) (ix4 0 0 i j) = hgNew w (S 3) 2 i j := by
  simp only [kernelRun0_A.sl.v3918_1, kernelRun0_A.sl.v3915_1, kernelRun0_A.sl.v3914_1, kernelRun0_A.sl.v3913]
  exact back (after_good _ _ _ _ _ _ _ _ _ _ _ _ _ _ _ _ _ _ _ _ _ _ _ _ _ _ _ _ _ _ _ _ (B := B)) _ 2 3 2 384 rfl rfl _ i j

theorem piece1_3 (i j : Fin 128) : (kernelRun0_A.sl.v3912_1 (F := Ideal) c arg2 harg2 arg3 harg3 arg5 harg5 arg6 harg6 arg7 harg7 arg14 harg14 arg16 harg16 arg23 x0 x1 x3 x4 x5 x12 x14) (ix4 0 0 i j) = hgNew w (S 3) 1 i j := by
  simp only [kernelRun0_A.sl.v3912_1, kernelRun0_A.sl.v3909_1, kernelRun0_A.sl.v3908_1, kernelRun0_A.sl.v3907]
  exact back (after_good _ _ _ _ _ _ _ _ _ _ _ _ _ _ _ _ _ _ _ _ _ _ _ _ _ _ _ _ _ _ _ _ (B := B)) _ 1 3 1 384 rfl rfl _ i j

theorem piece0_3 (i j : Fin 128) : (kernelRun0_A.sl.v3906_1 (F := Ideal) c arg2 harg2 arg3 harg3 arg5 harg5 arg6 harg6 arg7 harg7 arg14 harg14 arg16 harg16 arg23 x0 x1 x3 x4 x5 x12 x14) (ix4 0 0 i j) = hgNew w (S 3) 0 i j := by
  simp only [kernelRun0_A.sl.v3906_1, kernelRun0_A.sl.v3903_1, kernelRun0_A.sl.v3902, kernelRun0_A.sl.v3901_1]
  exact back (after_good _ _ _ _ _ _ _ _ _ _ _ _ _ _ _ _ _ _ _ _ _ _ _ _ _ _ _ _ _ _ _ _ (B := B)) _ 0 3 0 384 rfl rfl _ i j

theorem piece3_2 (i j : Fin 128) : (kernelRun0_A.sl.v3860_1 (F := Ideal) c arg2 harg2 arg3 harg3 arg5 harg5 arg6 harg6 arg7 harg7 arg14 harg14 arg16 harg16 arg23 x0 x1 x3 x4 x5 x12 x14) (ix4 0 0 i j) = hgNew w (S 2) 3 i j := by
  simp only [kernelRun0_A.sl.v3860_1, kernelRun0_A.sl.v3857_1, kernelRun0_A.sl.v3856_1, kernelRun0_A.sl.v3855]
  exact back (after_good _ _ _ _ _ _ _ _ _ _ _ _ _ _ _ _ _ _ _ _ _ _ _ _ _ _ _ _ _ _ _ _ (B := B)) _ 3 2 3 256 rfl rfl _ i j

theorem piece2_2 (i j : Fin 128) : (kernelRun0_A.sl.v3854_1 (F := Ideal) c arg2 harg2 arg3 harg3 arg5 harg5 arg6 harg6 arg7 harg7 arg14 harg14 arg16 harg16 arg23 x0 x1 x3 x4 x5 x12 x14) (ix4 0 0 i j) = hgNew w (S 2) 2 i j := by
  simp only [kernelRun0_A.sl.v3854_1, kernelRun0_A.sl.v3851_1, kernelRun0_A.sl.v3850_1, kernelRun0_A.sl.v3849]
  exact back (after_good _ _ _ _ _ _ _ _ _ _ _ _ _ _ _ _ _ _ _ _ _ _ _ _ _ _ _ _ _ _ _ _ (B := B)) _ 2 2 2 256 rfl rfl _ i j

theorem piece1_2 (i j : Fin 128) : (kernelRun0_A.sl.v3848_1 (F := Ideal) c arg2 harg2 arg3 harg3 arg5 harg5 arg6 harg6 arg7 harg7 arg14 harg14 arg16 harg16 arg23 x0 x1 x3 x4 x5 x12 x14) (ix4 0 0 i j) = hgNew w (S 2) 1 i j := by
  simp only [kernelRun0_A.sl.v3848_1, kernelRun0_A.sl.v3845_1, kernelRun0_A.sl.v3844_1, kernelRun0_A.sl.v3843]
  exact back (after_good _ _ _ _ _ _ _ _ _ _ _ _ _ _ _ _ _ _ _ _ _ _ _ _ _ _ _ _ _ _ _ _ (B := B)) _ 1 2 1 256 rfl rfl _ i j

theorem piece0_2 (i j : Fin 128) : (kernelRun0_A.sl.v3842_1 (F := Ideal) c arg2 harg2 arg3 harg3 arg5 harg5 arg6 harg6 arg7 harg7 arg14 harg14 arg16 harg16 arg23 x0 x1 x3 x4 x5 x12 x14) (ix4 0 0 i j) = hgNew w (S 2) 0 i j := by
  simp only [kernelRun0_A.sl.v3842_1, kernelRun0_A.sl.v3839_1, kernelRun0_A.sl.v3838, kernelRun0_A.sl.v3837_1]
  exact back (after_good _ _ _ _ _ _ _ _ _ _ _ _ _ _ _ _ _ _ _ _ _ _ _ _ _ _ _ _ _ _ _ _ (B := B)) _ 0 2 0 256 rfl rfl _ i j

theorem piece3_1 (i j : Fin 128) : (kernelRun0_A.sl.v3796_1 (F := Ideal) c arg2 harg2 arg3 harg3 arg5 harg5 arg6 harg6 arg7 harg7 arg14 harg14 arg16 harg16 arg23 x0 x1 x3 x4 x5 x12 x14) (ix4 0 0 i j) = hgNew w (S 1) 3 i j := by
  simp only [kernelRun0_A.sl.v3796_1, kernelRun0_A.sl.v3793_1, kernelRun0_A.sl.v3792_1, kernelRun0_A.sl.v3791]
  exact back (after_good _ _ _ _ _ _ _ _ _ _ _ _ _ _ _ _ _ _ _ _ _ _ _ _ _ _ _ _ _ _ _ _ (B := B)) _ 3 1 3 128 rfl rfl _ i j

theorem piece2_1 (i j : Fin 128) : (kernelRun0_A.sl.v3790_1 (F := Ideal) c arg2 harg2 arg3 harg3 arg5 harg5 arg6 harg6 arg7 harg7 arg14 harg14 arg16 harg16 arg23 x0 x1 x3 x4 x5 x12 x14) (ix4 0 0 i j) = hgNew w (S 1) 2 i j := by
  simp only [kernelRun0_A.sl.v3790_1, kernelRun0_A.sl.v3787_1, kernelRun0_A.sl.v3786_1, kernelRun0_A.sl.v3785]
  exact back (after_good _ _ _ _ _ _ _ _ _ _ _ _ _ _ _ _ _ _ _ _ _ _ _ _ _ _ _ _ _ _ _ _ (B := B)) _ 2 1 2 128 rfl rfl _ i j

theorem piece1_1 (i j : Fin 128) : (kernelRun0_A.sl.v3784_1 (F := Ideal) c arg2 harg2 arg3 harg3 arg5 harg5 arg6 harg6 arg7 harg7 arg14 harg14 arg16 harg16 arg23 x0 x1 x3 x4 x5 x12 x14) (ix4 0 0 i j) = hgNew w (S 1) 1 i j := by
  simp only [kernelRun0_A.sl.v3784_1, kernelRun0_A.sl.v3781_1, kernelRun0_A.sl.v3780_1, kernelRun0_A.sl.v3779]
  exact back (after_good _ _ _ _ _ _ _ _ _ _ _ _ _ _ _ _ _ _ _ _ _ _ _ _ _ _ _ _ _ _ _ _ (B := B)) _ 1 1 1 128 rfl rfl _ i j

theorem piece0_1 (i j : Fin 128) : (kernelRun0_A.sl.v3778_1 (F := Ideal) c arg2 harg2 arg3 harg3 arg5 harg5 arg6 harg6 arg7 harg7 arg14 harg14 arg16 harg16 arg23 x0 x1 x3 x4 x5 x12 x14) (ix4 0 0 i j) = hgNew w (S 1) 0 i j := by
  simp only [kernelRun0_A.sl.v3778_1, kernelRun0_A.sl.v3775_1, kernelRun0_A.sl.v3774, kernelRun0_A.sl.v3773_1]
  exact back (after_good _ _ _ _ _ _ _ _ _ _ _ _ _ _ _ _ _ _ _ _ _ _ _ _ _ _ _ _ _ _ _ _ (B := B)) _ 0 1 0 128 rfl rfl _ i j

theorem piece3_0 (i j : Fin 128) : (kernelRun0_A.sl.v3732_1 (F := Ideal) c arg2 harg2 arg3 harg3 arg5 harg5 arg6 harg6 arg7 harg7 arg14 harg14 arg16 harg16 arg23 x0 x1 x3 x4 x5 x12 x14) (ix4 0 0 i j) = hgNew w (S 0) 3 i j := by
  simp only [kernelRun0_A.sl.v3732_1, kernelRun0_A.sl.v3729_1, kernelRun0_A.sl.v3728_1, kernelRun0_A.sl.v3727]
  exact back (after_good _ _ _ _ _ _ _ _ _ _ _ _ _ _ _ _ _ _ _ _ _ _ _ _ _ _ _ _ _ _ _ _ (B := B)) _ 3 0 3 0 rfl rfl _ i j

theorem piece2_0 (i j : Fin 128) : (kernelRun0_A.sl.v3726_1 (F := Ideal) c arg2 harg2 arg3 harg3 arg5 harg5 arg6 harg6 arg7 harg7 arg14 harg14 arg16 harg16 arg23 x0 x1 x3 x4 x5 x12 x14) (ix4 0 0 i j) = hgNew w (S 0) 2 i j := by
  simp only [kernelRun0_A.sl.v3726_1, kernelRun0_A.sl.v3723_1, kernelRun0_A.sl.v3722_1, kernelRun0_A.sl.v3721]
  exact back (after_good _ _ _ _ _ _ _ _ _ _ _ _ _ _ _ _ _ _ _ _ _ _ _ _ _ _ _ _ _ _ _ _ (B := B)) _ 2 0 2 0 rfl rfl _ i j

theorem piece1_0 (i j : Fin 128) : (kernelRun0_A.sl.v3720_1 (F := Ideal) c arg2 harg2 arg3 harg3 arg5 harg5 arg6 harg6 arg7 harg7 arg14 harg14 arg16 harg16 arg23 x0 x1 x3 x4 x5 x12 x14) (ix4 0 0 i j) = hgNew w (S 0) 1 i j := by
  simp only [kernelRun0_A.sl.v3720_1, kernelRun0_A.sl.v3717_1, kernelRun0_A.sl.v3716_1, kernelRun0_A.sl.v3715]
  exact back (after_good _ _ _ _ _ _ _ _ _ _ _ _ _ _ _ _ _ _ _ _ _ _ _ _ _ _ _ _ _ _ _ _ (B := B)) _ 1 0 1 0 rfl rfl _ i j

theorem piece0_0 (i j : Fin 128) : (kernelRun0_A.sl.v3714_1 (F := Ideal) c arg2 harg2 arg3 harg3 arg5 harg5 arg6 harg6 arg7 harg7 arg14 harg14 arg16 harg16 arg23 x0 x1 x3 x4 x5 x12 x14) (ix4 0 0 i j) = hgNew w (S 0) 0 i j := by
  simp only [kernelRun0_A.sl.v3714_1, kernelRun0_A.sl.v3711_1, kernelRun0_A.sl.v3710, kernelRun0_A.sl.v3709_1]
  exact back (after_good _ _ _ _ _ _ _ _ _ _ _ _ _ _ _ _ _ _ _ _ _ _ _ _ _ _ _ _ _ _ _ _ (B := B)) _ 0 0 0 0 rfl rfl _ i j

end Cert.Rec
end
-- ==== Proof.RecOut19.lean ====
/- The state array of the linear recurrence in the result. -/
module

public import proofs.«01_k».proof.Proof.RecHP

@[expose] public section

set_option maxRecDepth 16384

noncomputable section

namespace Cert.Rec

open Idealize.ShloMosaic Idealize.ShloMosaic.TcCoe Idealize.SL.Sem Cert.KernelIdeal Cert.KernelIdeal.Gen

variable (m : (ℓ : Loc nD τ sig) → Buf (Elt Ideal) ℓ) (c : Dev nD) (t : Fin cfg0.N)
variable {w : Wt} {S : Fin 16 → Sq}
variable (B : Blk (iblk m c 0 t) (iblk m c 1 t) (iblk m c 2 t) (iblk m c 3 t) (iblk m c 4 t) (iblk m c 5 t) (iblk m c 6 t) (iblk m c 7 t) (iblk m c 8 t) (iblk m c 9 t)
  (iblk m c 10 t) (iblk m c 11 t) (iblk m c 12 t) (iblk m c 13 t) (iblk m c 14 t) (iblk m c 15 t) w S)

include B

set_option maxHeartbeats 4000000 in
theorem out19 (y : S16x4x128x128.Idx) : (outsAt0 m c t).2.2.2 y = hgNew w (S (y 0)) (y 1) (y 2) (y 3) := by
  dsimp only [outsAt0]
  unfold out0_A_19
  rw [View.read_writes_junk_eq_canon]
  dsimp only [kernelRun0_A]
  refine (show GoodOut (fun h s i j => hgNew w (S s) h i j) 64 _ from ?_) y (by
    have b0 : (y 0).val < 16 := (y 0).isLt
    have b1 : (y 1).val < 4 := (y 1).isLt
    omega)
  refine goodOut_step 3 15 3 15 _ _ rfl rfl rfl (fun i j => piece3_15 (B := B) ..) ?_
  refine goodOut_step 2 15 2 15 _ _ rfl rfl rfl (fun i j => piece2_15 (B := B) ..) ?_
  refine goodOut_step 1 15 1 15 _ _ rfl rfl rfl (fun i j => piece1_15 (B := B) ..) ?_
  refine goodOut_step 0 15 0 15 _ _ rfl rfl rfl (fun i j => piece0_15 (B := B) ..) ?_
  refine goodOut_step 3 14 3 14 _ _ rfl rfl rfl (fun i j => piece3_14 (B := B) ..) ?_
  refine goodOut_step 2 14 2 14 _ _ rfl rfl rfl (fun i j => piece2_14 (B := B) ..) ?_
  refine goodOut_step 1 14 1 14 _ _ rfl rfl rfl (fun i j => piece1_14 (B := B) ..) ?_
  refine goodOut_step 0 14 0 14 _ _ rfl rfl rfl (fun i j => piece0_14 (B := B) ..) ?_
  refine goodOut_step 3 13 3 13 _ _ rfl rfl rfl (fun i j => piece3_13 (B := B) ..) ?_
  refine goodOut_step 2 13 2 13 _ _ rfl rfl rfl (fun i j => piece2_13 (B := B) ..) ?_
  refine goodOut_step 1 13 1 13 _ _ rfl rfl rfl (fun i j => piece1_13 (B := B) ..) ?_
  refine goodOut_step 0 13 0 13 _ _ rfl rfl rfl (fun i j => piece0_13 (B := B) ..) ?_
  refine goodOut_step 3 12 3 12 _ _ rfl rfl rfl (fun i j => piece3_12 (B := B) ..) ?_
  refine goodOut_step 2 12 2 12 _ _ rfl rfl rfl (fun i j => piece2_12 (B := B) ..) ?_
  refine goodOut_step 1 12 1 12 _ _ rfl rfl rfl (fun i j => piece1_12 (B := B) ..) ?_
  refine goodOut_step 0 12 0 12 _ _ rfl rfl rfl (fun i j => piece0_12 (B := B) ..) ?_
  refine goodOut_step 3 11 3 11 _ _ rfl rfl rfl (fun i j => piece3_11 (B := B) ..) ?_
  refine goodOut_step 2 11 2 11 _ _ rfl rfl rfl (fun i j => piece2_11 (B := B) ..) ?_
  refine goodOut_step 1 11 1 11 _ _ rfl rfl rfl (fun i j => piece1_11 (B := B) ..) ?_
  refine goodOut_step 0 11 0 11 _ _ rfl rfl rfl (fun i j => piece0_11 (B := B) ..) ?_
  refine goodOut_step 3 10 3 10 _ _ rfl rfl rfl (fun i j => piece3_10 (B := B) ..) ?_
  refine goodOut_step 2 10 2 10 _ _ rfl rfl rfl (fun i j => piece2_10 (B := B) ..) ?_
  refine goodOut_step 1 10 1 10 _ _ rfl rfl rfl (fun i j => piece1_10 (B := B) ..) ?_
  refine goodOut_step 0 10 0 10 _ _ rfl rfl rfl (fun i j => piece0_10 (B := B) ..) ?_
  refine goodOut_step 3 9 3 9 _ _ rfl rfl rfl (fun i j => piece3_9 (B := B) ..) ?_
  refine goodOut_step 2 9 2 9 _ _ rfl rfl rfl (fun i j => piece2_9 (B := B) ..) ?_
  refine goodOut_step 1 9 1 9 _ _ rfl rfl rfl (fun i j => piece1_9 (B := B) ..) ?_
  refine goodOut_step 0 9 0 9 _ _ rfl rfl rfl (fun i j => piece0_9 (B := B) ..) ?_
  refine goodOut_step 3 8 3 8 _ _ rfl rfl rfl (fun i j => piece3_8 (B := B) ..) ?_
  refine goodOut_step 2 8 2 8 _ _ rfl rfl rfl (fun i j => piece2_8 (B := B) ..) ?_
  refine goodOut_step 1 8 1 8 _ _ rfl rfl rfl (fun i j => piece1_8 (B := B) ..) ?_
  refine goodOut_step 0 8 0 8 _ _ rfl rfl rfl (fun i j => piece0_8 (B := B) ..) ?_
  refine goodOut_step 3 7 3 7 _ _ rfl rfl rfl (fun i j => piece3_7 (B := B) ..) ?_
  refine goodOut_step 2 7 2 7 _ _ rfl rfl rfl (fun i j => piece2_7 (B := B) ..) ?_
  refine goodOut_step 1 7 1 7 _ _ rfl rfl rfl (fun i j => piece1_7 (B := B) ..) ?_
  refine goodOut_step 0 7 0 7 _ _ rfl rfl rfl (fun i j => piece0_7 (B := B) ..) ?_
  refine goodOut_step 3 6 3 6 _ _ rfl rfl rfl (fun i j => piece3_6 (B := B) ..) ?_
  refine goodOut_step 2 6 2 6 _ _ rfl rfl rfl (fun i j => piece2_6 (B := B) ..) ?_
  refine goodOut_step 1 6 1 6 _ _ rfl rfl rfl (fun i j => piece1_6 (B := B) ..) ?_
  refine goodOut_step 0 6 0 6 _ _ rfl rfl rfl (fun i j => piece0_6 (B := B) ..) ?_
  refine goodOut_step 3 5 3 5 _ _ rfl rfl rfl (fun i j => piece3_5 (B := B) ..) ?_
  refine goodOut_step 2 5 2 5 _ _ rfl rfl rfl (fun i j => piece2_5 (B := B) ..) ?_
  refine goodOut_step 1 5 1 5 _ _ rfl rfl rfl (fun i j => piece1_5 (B := B) ..) ?_
  refine goodOut_step 0 5 0 5 _ _ rfl rfl rfl (fun i j => piece0_5 (B := B) ..) ?_
  refine goodOut_step 3 4 3 4 _ _ rfl rfl rfl (fun i j => piece3_4 (B := B) ..) ?_
  refine goodOut_step 2 4 2 4 _ _ rfl rfl rfl (fun i j => piece2_4 (B := B) ..) ?_
  refine goodOut_step 1 4 1 4 _ _ rfl rfl rfl (fun i j => piece1_4 (B := B) ..) ?_
  refine goodOut_step 0 4 0 4 _ _ rfl rfl rfl (fun i j => piece0_4 (B := B) ..) ?_
  refine goodOut_step 3 3 3 3 _ _ rfl rfl rfl (fun i j => piece3_3 (B := B) ..) ?_
  refine goodOut_step 2 3 2 3 _ _ rfl rfl rfl (fun i j => piece2_3 (B := B) ..) ?_
  refine goodOut_step 1 3 1 3 _ _ rfl rfl rfl (fun i j => piece1_3 (B := B) ..) ?_
  refine goodOut_step 0 3 0 3 _ _ rfl rfl rfl (fun i j => piece0_3 (B := B) ..) ?_
  refine goodOut_step 3 2 3 2 _ _ rfl rfl rfl (fun i j => piece3_2 (B := B) ..) ?_
  refine goodOut_step 2 2 2 2 _ _ rfl rfl rfl (fun i j => piece2_2 (B := B) ..) ?_
  refine goodOut_step 1 2 1 2 _ _ rfl rfl rfl (fun i j => piece1_2 (B := B) ..) ?_
  refine goodOut_step 0 2 0 2 _ _ rfl rfl rfl (fun i j => piece0_2 (B := B) ..) ?_
  refine goodOut_step 3 1 3 1 _ _ rfl rfl rfl (fun i j => piece3_1 (B := B) ..) ?_
  refine goodOut_step 2 1 2 1 _ _ rfl rfl rfl (fun i j => piece2_1 (B := B) ..) ?_
  refine goodOut_step 1 1 1 1 _ _ rfl rfl rfl (fun i j => piece1_1 (B := B) ..) ?_
  refine goodOut_step 0 1 0 1 _ _ rfl rfl rfl (fun i j => piece0_1 (B := B) ..) ?_
  refine goodOut_step 3 0 3 0 _ _ rfl rfl rfl (fun i j => piece3_0 (B := B) ..) ?_
  refine goodOut_step 2 0 2 0 _ _ rfl rfl rfl (fun i j => piece2_0 (B := B) ..) ?_
  refine goodOut_step 1 0 1 0 _ _ rfl rfl rfl (fun i j => piece1_0 (B := B) ..) ?_
  refine goodOut_step 0 0 0 0 _ _ rfl rfl rfl (fun i j => piece0_0 (B := B) ..) ?_
  exact goodOut_zero _ _

end Cert.Rec
end
-- ==== Proof.RecOut.lean ====
/- The recurrence's state array, as the whole result. -/
module

public import proofs.«01_k».proof.Proof.RecOut17
public import proofs.«01_k».proof.Proof.RecOut19

@[expose] public section

set_option maxRecDepth 16384

noncomputable section

namespace Cert.Rec

open Idealize.ShloMosaic Idealize.ShloMosaic.TcCoe Idealize.SL.Sem Cert.KernelIdeal Cert.KernelIdeal.Gen
open Idealize.ShloMosaic.Pipeline (Dat)

/-- The new state of the linear recurrence at an index of the result. -/
def hgAt (w : Wt) (Q : Fin 128 → Sq) (i : S128x4x128x128.Idx) : EReal := hgNew w (Q (i 0)) (i 1) (i 2) (i 3)

variable (m : (ℓ : Loc nD τ sig) → Buf (Elt Ideal) ℓ) (c : Dev nD)

theorem final19 {w : Wt} {Q : Fin 128 → Sq}
    (R : Real17 (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) (m ((c : Thread nD τ).loc main_arg15))
      (m ((c : Thread nD τ).loc main_arg16)) w Q) : (dats m 0 c).arrAt 19 cfg0.N = hgAt w Q := by
  refine (dats m 0 c).arrAt_eq_of_covers 19 _ (by decide +kernel) fun t _ y => ?_
  have ht : t.val < 8 := t.isLt
  obtain ⟨s, h, f, i, rfl⟩ : ∃ s h f i, y = ix4 s h f i := ⟨y 0, y 1, y 2, y 3, eq_ix4 y⟩
  have e : ((cfg0.win 19).blk t).view.emb (ix4 s h f i) = (ix4 ⟨16 * t.val + s.val, by omega⟩ h f i : S128x4x128x128.Idx) := by blk_ext [idx t]
  blk_simp
  rw [after0_19]
  refine (out19 m c t (blk_real m c t R) (ix4 s h f i)).trans (Eq.trans ?_ (congrArg (hgAt w Q) e.symm))
  rfl

end Cert.Rec
end
-- ==== Proof.MlpBody.lean ====
/- The output projection and the second sub-layer, one row at a time: the mathematics both programs compute,
   and that one grid point of the kernel computes it on each row of its block. -/
module

public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Mlp

open Idealize.ShloMosaic Idealize.ShloMosaic.TcCoe Idealize.SL.Sem
open Cert.Kernel2Ideal Cert.Kernel2Ideal.Gen

/-- A row of the model's width. -/
abbrev Row := Fin 1024 → EReal

/-- The residual row after the gated output projection. -/
def x1 (x ym g : Row) (wo : Fin 1024 → Fin 1024 → EReal) : Row := fun c => x c + g c * ∑ k, ym k * wo k c

/-- The root-mean-square norm of a row, times its gain. -/
def rms (x g : Row) : Row := fun c =>
  x c * Ideal.rsqrt (Ideal.div (∑ k, x k * x k) (Ideal.ofBits FTy.f32 1149239296#32) + Ideal.ofBits FTy.f32 897988541#32) * g c

/-- The modulated hidden row. -/
def hid (x n sc sh : Row) : Row := fun c => rms x n c * (1 + sc c) + sh c

/-- The squared-ReLU feed-forward of a row. -/
def ff (h : Row) (wu : Fin 1024 → Fin 4096 → EReal) (wd : Fin 4096 → Fin 1024 → EReal) : Row := fun c =>
  ∑ j, max (∑ k, h k * wu k j) 0 * max (∑ k, h k * wu k j) 0 * wd j c

/-- The whole row: projection, residual, feed-forward, residual, last norm. -/
def out (x ym g1 sh sc g2 n2 nf : Row) (wo : Fin 1024 → Fin 1024 → EReal) (wu : Fin 1024 → Fin 4096 → EReal)
    (wd : Fin 4096 → Fin 1024 → EReal) : Row :=
  rms (fun c => x1 x ym g1 wo c + g2 c * ff (hid (x1 x ym g1 wo) n2 sc sh) wu wd c) nf

theorem pay4_at (v0 : Vec Ideal S1x1x1024 .f32) (v8 : Vec Ideal S512x1024 .bf16) (v10 : Vec Ideal S1024x1024 .bf16)
    (v13 : Vec Ideal S512x1024 .f32) (r : Fin 512) (c : Fin 1024) :
    k0_pay4 v0 v8 v10 v13 (ix2 r c)
      = x1 (fun k => v13 (ix2 r k)) (fun k => v8 (ix2 r k)) (fun k => v0 (ix3 0 0 k)) (fun k n => v10 (ix2 k n)) c := by
  pointwise [k0_pay4]
  rfl

theorem pay5_at (v0 : Vec Ideal S1x1x1024 .f32) (v8 : Vec Ideal S512x1024 .bf16) (v10 : Vec Ideal S1024x1024 .bf16)
    (v13 : Vec Ideal S512x1024 .f32) (v18 : Vec Ideal S1x1024 .f32) (r : Fin 512) (c : Fin 1024) :
    k0_pay5 v0 v8 v10 v13 v18 (ix2 r c)
      = rms (fun k => k0_pay4 v0 v8 v10 v13 (ix2 r k)) (fun k => v18 (ix2 0 k)) c := by
  unfold k0_pay5
  generalize k0_pay4 v0 v8 v10 v13 = x
  pointwise []
  rfl

theorem pay7_at (v3 : FVec Ideal S1x1024 .f32) (v31 : FVec Ideal S512x1024 .f32) (v33 : FVec Ideal S1x1024 .f32) (r : Fin 512) (c : Fin 1024) :
    k0_pay7 v3 v31 v33 (ix2 r c) = v31 (ix2 r c) * v33 (ix2 0 c) + v3 (ix2 0 c) := by
  pointwise [k0_pay7]

theorem pay2_at (v : Vec Ideal S1x1x1024 .f32) (c : Fin 1024) : k0_pay2 v (ix2 0 c) = v (ix3 0 0 c) := by
  pointwise [k0_pay2]

theorem pay3_at (v : Vec Ideal S1x1x1024 .f32) (c : Fin 1024) : k0_pay3 v (ix2 0 c) = v (ix3 0 0 c) := by
  pointwise [k0_pay3]

theorem pay6_at (v : Vec Ideal S1x1x1024 .f32) (c : Fin 1024) : k0_pay6 v (ix2 0 c) = 1 + v (ix3 0 0 c) := by
  pointwise [k0_pay6]

/-- One tile of 1024 hidden units of the feed-forward. -/
def tile (h : Row) (wu wd : Fin 1024 → Fin 1024 → EReal) : Row := fun c =>
  ∑ j, max (∑ k, h k * wu k j) 0 * max (∑ k, h k * wu k j) 0 * wd j c

theorem pay8_at (v3 : FVec Ideal S1x1024 .f32) (v31 : FVec Ideal S512x1024 .f32) (v33 : FVec Ideal S1x1024 .f32) (v40 : Vec Ideal S1024x1024 .bf16) (v47 : Vec Ideal S1024x1024 .bf16) (v51 : Vec Ideal S1024x1024 .bf16) (v58 : Vec Ideal S1024x1024 .bf16) (r : Fin 512) (c : Fin 1024) :
    k0_pay8 v3 v31 v33 v40 v47 v51 v58 (ix2 r c)
      = tile (fun k => k0_pay7 v3 v31 v33 (ix2 r k)) (fun k n => v40 (ix2 k n)) (fun k n => v47 (ix2 k n)) c
        + tile (fun k => k0_pay7 v3 v31 v33 (ix2 r k)) (fun k n => v51 (ix2 k n)) (fun k n => v58 (ix2 k n)) c := by
  unfold k0_pay8
  generalize k0_pay7 v3 v31 v33 = x
  pointwise []
  rfl

theorem pay9_at (v3 : FVec Ideal S1x1024 .f32) (v31 : FVec Ideal S512x1024 .f32) (v33 : FVec Ideal S1x1024 .f32) (v62 : Vec Ideal S1024x1024 .bf16) (v69 : Vec Ideal S1024x1024 .bf16) (r : Fin 512) (c : Fin 1024) :
    k0_pay9 v3 v31 v33 v62 v69 (ix2 r c)
      = tile (fun k => k0_pay7 v3 v31 v33 (ix2 r k)) (fun k n => v62 (ix2 k n)) (fun k n => v69 (ix2 k n)) c := by
  unfold k0_pay9
  generalize k0_pay7 v3 v31 v33 = x
  pointwise []
  rfl

theorem pay1_at (v7 : FVec Ideal S1x1024 .f32) (v17 : FVec Ideal S512x1024 .f32) (v38 : FVec Ideal S512x1024 .bf16) (v61 : FVec Ideal S512x1024 .f32) (v71 : FVec Ideal S512x1024 .f32) (v73 : Vec Ideal S1024x1024 .bf16) (v80 : Vec Ideal S1024x1024 .bf16) (v87 : Vec Ideal S1x1024 .f32) (r : Fin 512) (c : Fin 1024) :
    k0_pay1 v7 v17 v38 v61 v71 v73 v80 v87 (ix2 r c)
      = rms (fun c => v17 (ix2 r c) + v7 (ix2 0 c) * (v61 (ix2 r c) + v71 (ix2 r c)
          + tile (fun k => v38 (ix2 r k)) (fun k n => v73 (ix2 k n)) (fun k n => v80 (ix2 k n)) c)) (fun c => v87 (ix2 0 c)) c := by
  pointwise [k0_pay1]
  rfl

/-- The feed-forward is the sum of its four tiles. -/
theorem ff_tiles (h : Row) (wu : Fin 1024 → Fin 4096 → EReal) (wd : Fin 4096 → Fin 1024 → EReal) (c : Fin 1024) :
    tile h (fun k n => wu k ⟨n.val, by omega⟩) (fun k n => wd ⟨k.val, by omega⟩ n) c
      + tile h (fun k n => wu k ⟨1024 + n.val, by omega⟩) (fun k n => wd ⟨1024 + k.val, by omega⟩ n) c
      + tile h (fun k n => wu k ⟨2048 + n.val, by omega⟩) (fun k n => wd ⟨2048 + k.val, by omega⟩ n) c
      + tile h (fun k n => wu k ⟨3072 + n.val, by omega⟩) (fun k n => wd ⟨3072 + k.val, by omega⟩ n) c
      = ff h wu wd c := by
  unfold ff tile
  rw [Fin.sum_univ_tiles 4 1024 rfl]
  simp only [Fin.sum_univ_four]
  rfl

/-- One grid point's block, row by row. -/
theorem body_at (x0 : Vec Ideal S512x1024 .f32) (x1' : Vec Ideal S512x1024 .bf16) (x2 x3 x4 x5 : Vec Ideal S1x1x1024 .f32) (x6 x7 : Vec Ideal S1x1024 .f32)
    (x8 : Vec Ideal S1024x1024 .bf16) (x9 : Vec Ideal S1024x4096 .bf16) (x10 : Vec Ideal S4096x1024 .bf16) (r : Fin 512) (c : Fin 1024) :
    out0_11 x0 x1' x2 x3 x4 x5 x6 x7 x8 x9 x10 (ix2 r c)
      = out (fun k => x0 (ix2 r k)) (fun k => x1' (ix2 r k)) (fun k => x2 (ix3 0 0 k)) (fun k => x3 (ix3 0 0 k)) (fun k => x4 (ix3 0 0 k))
          (fun k => x5 (ix3 0 0 k)) (fun k => x6 (ix2 0 k)) (fun k => x7 (ix2 0 k)) (fun k n => x8 (ix2 k n)) (fun k n => x9 (ix2 k n)) (fun k n => x10 (ix2 k n)) c := by
  unfold out0_11
  frame_out
  have h10 : k0_pay10 x0 x1' x2 x3 x4 x5 x6 x7 x8 x9 x10 = k0_pay2 x3 := by unfold k0_pay10; frame_out
  have h11 : k0_pay11 x0 x1' x2 x3 x4 x5 x6 x7 x8 x9 x10 = k0_pay5 x2 x1' x8 x0 x6 := by unfold k0_pay11; frame_out
  have h12 : k0_pay12 x0 x1' x2 x3 x4 x5 x6 x7 x8 x9 x10 = k0_pay6 x4 := by unfold k0_pay12; frame_out
  rw [h10, h11, h12, pay1_at]
  simp only [pay8_at, pay9_at, pay7_at, pay5_at, pay4_at, pay2_at, pay3_at, pay6_at]
  unfold out
  simp only [← ff_tiles]
  pointwise! [r0_4, r0_5, r0_6, r0_7, r0_8, r0_9, r0_10, r0_11]

end Cert.Mlp
end
-- ==== Proof.InBody.lean ====
/- The first norm and the input projection, one row at a time, and that one grid point of the kernel computes it
   on each row of its block when the modulation rows are finite. -/
module

public import proofs.«01_k».proof.Proof.MlpBody
public import proofs.«01_k».proof.Proof.RecLift
public import proofs.«01_k».proof.Proof.Gen.Kernel3Ideal.Value

@[expose] public section

set_option maxRecDepth 16384

noncomputable section

namespace Cert.Inp

open Idealize.ShloMosaic Idealize.ShloMosaic.TcCoe Idealize.SL.Sem
open Cert.Kernel3Ideal Cert.Kernel3Ideal.Gen
open Cert.Mlp (Row rms hid)

/-- The projected row. -/
def out (x n sc sh : Row) (w : Fin 1024 → Fin 3840 → EReal) : Fin 3840 → EReal := fun c => ∑ k, hid x n sc sh k * w k c

/-- The modulation row of a row. -/
def mR (r : Fin 256) : Fin 64 := ⟨r.val / 4, by omega⟩

theorem hot (r : Fin 256) (f : Fin 64 → EReal) :
    ∑ x : Fin 64, FloatOps.sitofp (F := Ideal) FTy.f32 (BitVec.setWidth 32 (IntOp.cmpi CmpIPredicate.eq (IntOp.shrui ArithUnit.vector (BitVec.ofNat 32 r.val) 2#32) (BitVec.ofNat 32 x.val))) * f x = f (mR r) := by
  refine Eq.trans (Finset.sum_congr rfl fun x _ => ?_) (Cert.Rec.sum_hot (mR r) f)
  rw [Cert.Rec.w_shr2 _ (by omega), Cert.Rec.w_eq _ _ (by omega) (by omega), Cert.Rec.w_flag]
  rfl

theorem pay2_at (v0 : Vec Ideal S256x1024 .f32) (v2 : Vec Ideal S1x1024 .f32) (v16 : Vec Ideal S64x1024 .f32)
    (h : ∀ s k, ∃ x : ℝ, v16 (ix2 s k) = (x : EReal)) (r : Fin 256) (c : Fin 1024) :
    k0_pay2 v0 v2 v16 (ix2 r c) = rms (fun k => v0 (ix2 r k)) (fun k => v2 (ix2 0 k)) c * (1 + v16 (ix2 (mR r) c)) := by
  have hs : ∀ s k, v16 (ix2 s k) - v16 (ix2 s k) = 0 := fun s k => by
    obtain ⟨x, hx⟩ := h s k
    rw [hx, Cert.Rec.l_sub, sub_self]; rfl
  pointwise [k0_pay2]
  simp only [hs, sub_zero, mul_zero, Finset.sum_const_zero, add_zero]
  rw [hot r fun x => v16 (ix2 x c)]
  rfl

theorem pay1_at (v39 : FVec Ideal S256x1024 .f32) (v40 : Vec Ideal S64x1024 .f32) (v63 : Vec Ideal S1024x3840 .bf16)
    (h : ∀ s k, ∃ x : ℝ, v40 (ix2 s k) = (x : EReal)) (r : Fin 256) (c : Fin 3840) :
    k0_pay1 v39 v40 (iota .tc S256x64 32 [0] iota_S256x64_d0_w32) 2#32 v63 (ix2 r c) = ∑ k, (v39 (ix2 r k) + v40 (ix2 (mR r) k)) * v63 (ix2 k c) := by
  have hs : ∀ s k, v40 (ix2 s k) - v40 (ix2 s k) = 0 := fun s k => by
    obtain ⟨x, hx⟩ := h s k
    rw [hx, Cert.Rec.l_sub, sub_self]; rfl
  pointwise [k0_pay1]
  simp only [hs, sub_zero, mul_zero, Finset.sum_const_zero, add_zero]
  simp only [hot r fun x => v40 (ix2 x _)]

/-- One grid point's block, row by row. -/
theorem body_at (x0 : Vec Ideal S256x1024 .f32) (x1 x2 : Vec Ideal S64x1024 .f32) (x3 : Vec Ideal S1x1024 .f32) (x4 : Vec Ideal S1024x3840 .bf16)
    (h1 : ∀ s k, ∃ x : ℝ, x1 (ix2 s k) = (x : EReal)) (h2 : ∀ s k, ∃ x : ℝ, x2 (ix2 s k) = (x : EReal)) (r : Fin 256) (c : Fin 3840) :
    out0_5 x0 x1 x2 x3 x4 (ix2 r c)
      = out (fun k => x0 (ix2 r k)) (fun k => x3 (ix2 0 k)) (fun k => x2 (ix2 (mR r) k)) (fun k => x1 (ix2 (mR r) k)) (fun k n => x4 (ix2 k n)) c := by
  unfold out0_5
  frame_out
  rw [pay1_at _ _ _ h1]
  simp only [pay2_at _ _ _ h2]
  rfl

end Cert.Inp
end
-- ==== Proof.InValue.lean ====
/- What the input projection's kernel leaves in its result array: every row is `Inp.out` of the argument rows. -/
module

public import proofs.«01_k».proof.Proof.InBody

@[expose] public section

set_option maxRecDepth 16384

noncomputable section

namespace Cert.Inp

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- Row `t` of sequence `b` of the result, column `n`, from the argument arrays. -/
def res (X : FVec Ideal S128x4x1024 .f32) (M : FVec Ideal S128x6144 .f32) (N1 : FVec Ideal S1x1024 .f32) (W : FVec Ideal S1x1024x3840 .f32)
    (b : Fin 128) (t : Fin 4) (n : Fin 3840) : EReal :=
  out (fun k => X (ix3 b t k)) (fun k => N1 (ix2 0 k)) (fun k => M (ix2 b ⟨1024 + k.val, by omega⟩)) (fun k => M (ix2 b ⟨k.val, by omega⟩))
    (fun k j => W (ix3 0 k j)) n

/-- The same at an index of the flat result array. -/
def resAt (X : FVec Ideal S128x4x1024 .f32) (M : FVec Ideal S128x6144 .f32) (N1 : FVec Ideal S1x1024 .f32) (W : FVec Ideal S1x1024x3840 .f32)
    (i : S512x3840.Idx) : EReal :=
  res X M N1 W ⟨(i 0).val / 4, by have h : (i 0).val < 512 := (i 0).isLt; omega⟩ ⟨(i 0).val % 4, by omega⟩ (i 1)

theorem idx : ∀ t : Fin cfg0.N, win0_0.index t = ![t.val, 0] ∧ win0_1.index t = ![t.val, 0] ∧ win0_2.index t = ![t.val, 1]
    ∧ win0_3.index t = ![0, 0] ∧ win0_4.index t = ![0, 0] ∧ win0_5.index t = ![t.val, 0] :=
  (by decide +kernel : ∀ t : Fin grid0.N, _)

/-! The rows of each window's block, as rows of the arguments. -/

theorem blk0 (c : Dev nD) (t : Fin cfg0.N) (r : Fin 256) (k : Fin 1024) (b : Fin 128) (u : Fin 4) (h : b.val * 4 + u.val = t.val * 256 + r.val) :
    iblk m c 0 t (ix2 r k) = m ((c : Thread nD τ).loc main_arg0) (ix3 b u k) := by
  blk_simp [iblk, idx t]; entry_read; pointwise []; blk_ext [idx t]

theorem blk1 (c : Dev nD) (t : Fin cfg0.N) (s : Fin 64) (k : Fin 1024) (b : Fin 128) (h : b.val = t.val * 64 + s.val) :
    iblk m c 1 t (ix2 s k) = m ((c : Thread nD τ).loc main_arg1) (ix2 b ⟨k.val, by omega⟩) := by
  blk_simp [iblk, idx t]; entry_read; pointwise []; blk_ext [idx t]

theorem blk2 (c : Dev nD) (t : Fin cfg0.N) (s : Fin 64) (k : Fin 1024) (b : Fin 128) (h : b.val = t.val * 64 + s.val) :
    iblk m c 2 t (ix2 s k) = m ((c : Thread nD τ).loc main_arg1) (ix2 b ⟨1024 + k.val, by omega⟩) := by
  blk_simp [iblk, idx t]; entry_read; pointwise []; blk_ext [idx t]

theorem blk3 (c : Dev nD) (t : Fin cfg0.N) (k : Fin 1024) :
    iblk m c 3 t (ix2 0 k) = m ((c : Thread nD τ).loc main_arg2) (ix2 0 k) := by
  blk_point [iblk, V, idx t]

theorem blk4 (c : Dev nD) (t : Fin cfg0.N) (k : Fin 1024) (n : Fin 3840) :
    iblk m c 4 t (ix2 k n) = m ((c : Thread nD τ).loc main_arg3) (ix3 0 k n) := by
  blk_point [iblk, V, idx t]

theorem emb0 (t : Fin cfg0.N) (r : Fin 256) (n : Fin 3840) : (((cfg0.win 5).blk t).view.emb (ix2 r n) 0).val = t.val * 256 + r.val := by
  blk_simp [idx t]

theorem emb1 (t : Fin cfg0.N) (r : Fin 256) (n : Fin 3840) : (((cfg0.win 5).blk t).view.emb (ix2 r n) 1).val = n.val := by
  blk_simp [idx t]

/-- The kernel's result array, when the modulation rows are finite. -/
theorem final (c : Dev nD) (hf : ∀ b k, ∃ x : ℝ, m ((c : Thread nD τ).loc main_arg1) (ix2 b k) = (x : EReal)) : (dats m 0 c).arrAt 5 cfg0.N
    = resAt (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  obtain ⟨r, n, rfl⟩ : ∃ r n, y = ix2 r n := ⟨y 0, y 1, eq_ix2 y⟩
  have e0 := emb0 t r n
  have e1 : ((cfg0.win 5).blk t).view.emb (ix2 r n) 1 = n := Fin.ext (emb1 t r n)
  have ht : t.val < 2 := t.isLt
  blk_simp
  rw [after0_5]
  rw [body_at _ _ _ _ _ (fun s k => by rw [blk1 m c t s k ⟨t.val * 64 + s.val, by omega⟩ rfl]; exact hf _ _)
    (fun s k => by rw [blk2 m c t s k ⟨t.val * 64 + s.val, by omega⟩ rfl]; exact hf _ _)]
  unfold resAt res
  have hd : (((cfg0.win 5).blk t).view.emb (ix2 r n) 0).val / 4 = t.val * 64 + (mR r).val := by rw [e0]; show _ = _ + r.val / 4; omega
  have hr : (((cfg0.win 5).blk t).view.emb (ix2 r n) 0).val / 4 * 4 + (((cfg0.win 5).blk t).view.emb (ix2 r n) 0).val % 4 = t.val * 256 + r.val := by
    rw [← e0]; omega
  rw [funext fun k => blk0 m c t r k ⟨_, _⟩ ⟨_, _⟩ hr, funext fun k => blk1 m c t (mR r) k ⟨_, _⟩ hd, funext fun k => blk2 m c t (mR r) k ⟨_, _⟩ hd,
    funext fun k => blk3 m c t k, funext fun k => funext fun n => blk4 m c t k n]
  exact congrArg _ e1.symm

end Cert.Inp
end
-- ==== Proof.InRef.lean ====
/- The reference of the input projection, read one row at a time. -/
module

public import proofs.«01_k».proof.Proof.InValue
public import proofs.«01_k».proof.Proof.Gen.Reference3Ideal.Read

@[expose] public section

set_option maxRecDepth 16384

noncomputable section

namespace Cert.Inp

open Idealize.ShloMosaic Idealize.ShloMosaic.TcCoe Idealize.SL.Sem
open Cert.Reference3Ideal Cert.Reference3Ideal.Read
open Cert.Mlp (Row rms hid)

variable (X : FVec Ideal S128x4x1024 .f32) (M : FVec Ideal S128x6144 .f32) (N1 : FVec Ideal S1x1024 .f32) (W : FVec Ideal S1x1024x3840 .f32)
    (b : Fin 128) (t : Fin 4)

theorem ref_hid (n : Fin 1024) : val_main_v27 (F := Ideal) X M N1 (ix3 b t n)
    = hid (fun k => X (ix3 b t k)) (fun k => N1 (ix2 0 k)) (fun k => M (ix2 b ⟨1024 + k.val, by omega⟩)) (fun k => M (ix2 b ⟨k.val, by omega⟩)) n := by
  pointwise [val_main_v27, val_main_v26, val_main_v25, val_main_v24, val_main_v23, val_main_v22, val_main_v21, val_main_cst_2, val_main_v20, val_main_v19,
    val_main_v18, val_main_v17, val_main_v16, val_main_v15, val_main_v14, val_main_v13, val_main_v12, val_main_cst_1, val_main_v11, val_main_v10, val_main_cst_0,
    val_main_v9, val_main_v8, val_main_cst, val_main_v7, val_main_v6, val_main_v1, val_main_v0]
  unfold hid rms
  blk_point []

theorem ref_res (n : Fin 3840) : val_main_v29 (F := Ideal) X M N1 W (ix3 b t n) = res X M N1 W b t n := by
  unfold val_main_v29 res out
  simp only [← ref_hid]
  generalize val_main_v27 (F := Ideal) X M N1 = x
  pointwise [val_main_v28]

theorem ref_final : val_main_v30 (F := Ideal) X M N1 W = resAt X M N1 W := by
  funext i
  obtain ⟨r, n, rfl⟩ : ∃ r n, i = ix2 r n := ⟨i 0, i 1, eq_ix2 i⟩
  unfold val_main_v30 resAt
  have h := ref_res X M N1 W ⟨r.val / 4, by omega⟩ ⟨r.val % 4, by omega⟩ n
  refine Eq.trans ?_ h
  generalize val_main_v29 (F := Ideal) X M N1 W = x
  pointwise []

end Cert.Inp
end
-- ==== Proof.InClaim.lean ====
/- The value claim of the input projection and the frame of its reference. -/
module

public import proofs.«01_k».proof.Defs
public import proofs.«01_k».proof.Proof.InRef
public import proofs.«01_k».proof.Proof.Gen.Reference3Ideal.Run
public import Idealize.ShloMosaic.Adequacy
public import Idealize.ShloMosaic.Init
public import Idealize.ShloMosaic.Lib.Quiescent
public import Idealize.ShloMosaic.Lib.ReduceAll

@[expose] public section

set_option maxRecDepth 16384

noncomputable section

namespace Cert.Inp

open Idealize.ShloMosaic Idealize.SL.Sem

/-- A value whose size compares below infinity is a real number. -/
theorem real_of_lt (x : EReal) (h : FloatOps.cmpf (F := Ideal) (φ := FTy.f32) CmpFPredicate.olt (FloatOps.absf (F := Ideal) (φ := FTy.f32) x) (Ideal.ofBits FTy.f32 0x7F800000#32) = 1#1) :
    ∃ r : ℝ, x = (r : EReal) := by
  have ht : Ideal.ofBits FTy.f32 0x7F800000#32 = ⊤ := by simp [Ideal.ofBits, Ideal.ieee]
  rw [ht] at h
  induction x using EReal.rec with
  | bot => exact absurd h (by simp [FloatOps.cmpf, FloatOps.absf, Ideal.cmp])
  | top => exact absurd h (by simp [FloatOps.cmpf, FloatOps.absf, Ideal.cmp])
  | coe r => exact ⟨r, rfl⟩

theorem mod_real [Cert.Pre_finite_mod.Facts] (X : FVec Ideal Cert.Pre_finite_mod.S128x4x1024 .f32) (M : FVec Ideal Cert.Pre_finite_mod.S128x6144 .f32)
    (N1 : FVec Ideal Cert.Pre_finite_mod.S1x1024 .f32) (W : FVec Ideal Cert.Pre_finite_mod.S1x1024x3840 .f32)
    (h : Cert.Pre_finite_mod.fn (F := Ideal) X M N1 W = fun _ => 1#1) (b : Fin 128) (k : Fin 6144) : ∃ x : ℝ, M (ix2 b k) = (x : EReal) := by
  have e := congrFun h ix0
  unfold Cert.Pre_finite_mod.fn at e
  exact real_of_lt _ (Host.reduce_andi_all _ _ _ _ _ e (ix2 b k))

theorem claim [h1 : Cert.Kernel3Ideal.Facts] [h2 : Cert.Reference3Ideal.Facts] [h3 : Cert.Pre_finite_mod.Facts] :
    Cert.algebraic_Kernel3Ideal_Reference3Ideal_pre_finite_mod := by
  pair_intro
  · run_from Cert.Kernel3Ideal.Value.run_blocks m g
  · run_from Cert.Reference3Ideal.Value.run m' g'
    rw [Cert.Reference3Ideal.Read.val_main_v30_eq, ref_final, final m c (fun b k => mod_real _ _ _ _ (hpre c) b k)]

theorem ref_frame [h2 : Cert.Reference3Ideal.Facts] : Cert.quiescent_Reference3Ideal := by
  intro m g _
  exact (θ_run _ _ _).mono (fun r h => ⟨fun c => (h c).2, sem_eq_zero_of_no_sems (by decide) r.2⟩) (Cert.Reference3Ideal.Value.run m g)

end Cert.Inp
end
-- ==== Proof.RecReal.lean ====
/- The arguments as real numbers, when they are finite. -/
module

public import proofs.«01_k».proof.Proof.RecBlk
public import proofs.«01_k».proof.Proof.InClaim

@[expose] public section

set_option maxRecDepth 16384

noncomputable section

namespace Cert.Rec

open Idealize.ShloMosaic Idealize.SL.Sem

/-- The weights: only the lower bound's logits matter here. -/
def wOf (a15 : FVec Ideal Cert.KernelIdeal.S2x512 .f32) : Wt where
  lb a j := (a15 (ix2 a j)).toReal

/-- The sequences: four rows of the projections and a state each. -/
def qOf (a0 : FVec Ideal Cert.KernelIdeal.S512x3840 .f32) (a3 : FVec Ideal Cert.KernelIdeal.S1x128x4x128x128 .f32) (b : Fin 128) : Sq where
  p t n := (a0 (ix2 ⟨4 * b.val + t.val, by omega⟩ n)).toReal
  hg h i j := a3 (ix5 0 b h i j)

theorem pre_real [Cert.Pre_finite.Facts] (a0 : FVec Ideal Cert.KernelIdeal.S512x3840 .f32) (a1 : FVec Ideal Cert.KernelIdeal.S1x128x1792 .f32) (a2 : FVec Ideal Cert.KernelIdeal.S1x128x8x64x64 .f32)
    (a3 : FVec Ideal Cert.KernelIdeal.S1x128x4x128x128 .f32)
    (a4 : FVec Ideal Cert.KernelIdeal.S1x1792 .f32) (a5 : FVec Ideal Cert.KernelIdeal.S1x512 .f32) (a6 : FVec Ideal Cert.KernelIdeal.S1x64x512 .f32) (a7 : FVec Ideal Cert.KernelIdeal.S1x512 .f32)
    (a8 : FVec Ideal Cert.KernelIdeal.S1x64x512 .f32)
    (a9 : FVec Ideal Cert.KernelIdeal.S1x128x512 .f32) (a10 a11 : FVec Ideal Cert.KernelIdeal.S1x512 .f32) (a12 : FVec Ideal Cert.KernelIdeal.S1x8x64 .f32) (a13 a14 : FVec Ideal Cert.KernelIdeal.S1x512 .f32)
    (a15 : FVec Ideal Cert.KernelIdeal.S2x512 .f32) (a16 : FVec Ideal Cert.KernelIdeal.S1x128 .f32)
    (h : Cert.Pre_finite.fn (F := Ideal) a0 a1 a2 a3 a4 a5 a6 a7 a8 a9 a10 a11 a12 a13 a14 a15 a16 = fun _ => 1#1) :
    Real17 a0 a1 a2 a3 a4 a5 a6 a7 a8 a9 a10 a11 a12 a13 a14 a15 a16 (wOf a15) (qOf a0 a3) := by
  have e := congrFun h ix0
  unfold Cert.Pre_finite.fn at e
  obtain ⟨e1, e3⟩ := IntOp.andi_eq_one.mp e
  refine ⟨fun b t k n hk => ?_, fun b h i j => rfl, fun a j => ?_⟩
  · obtain ⟨x, hx⟩ := Cert.Inp.real_of_lt _ (Host.reduce_andi_all _ _ _ _ _ e1 (ix2 k n))
    have ek : (⟨4 * b.val + t.val, by omega⟩ : Fin 512) = k := Fin.ext hk.symm
    show _ = (((a0 (ix2 ⟨4 * b.val + t.val, _⟩ n)).toReal : ℝ) : EReal)
    rw [ek, hx, EReal.toReal_coe]
  · obtain ⟨x, hx⟩ := Cert.Inp.real_of_lt _ (Host.reduce_andi_all _ _ _ _ _ e3 (ix2 a j))
    show _ = (((a15 _).toReal : ℝ) : EReal)
    rw [hx, EReal.toReal_coe]

end Cert.Rec
end
-- ==== Proof.RecWin.lean ====
/- Running sums as sums of prefixes. -/
module

public import proofs.«01_k».proof.Proof.RecLift
public import proofs.«01_k».proof.Proof.Gen.ReferenceIdeal.Read

@[expose] public section

set_option maxRecDepth 16384

noncomputable section

namespace Cert.Rec

open Idealize.ShloMosaic Idealize.ShloMosaic.TcCoe Idealize.SL.Sem
open Cert.ReferenceIdeal

/-- The window's positions. -/
theorem pos4 : ∀ n : Fin (Shape.numel ⟨4, ![1, 1, 4, 1]⟩), ((Shape.rowMajor ⟨4, ![1, 1, 4, 1]⟩).symm n 0).val = 0 ∧ ((Shape.rowMajor ⟨4, ![1, 1, 4, 1]⟩).symm n 1).val = 0
    ∧ ((Shape.rowMajor ⟨4, ![1, 1, 4, 1]⟩).symm n 2).val = n.val ∧ ((Shape.rowMajor ⟨4, ![1, 1, 4, 1]⟩).symm n 3).val = 0 := by decide +kernel

theorem pos2 : ∀ n : Fin (Shape.numel ⟨2, ![2, 1]⟩), ((Shape.rowMajor ⟨2, ![2, 1]⟩).symm n 0).val = n.val ∧ ((Shape.rowMajor ⟨2, ![2, 1]⟩).symm n 1).val = 0 := by decide +kernel

theorem win4 (x : FVec Ideal S128x4x4x128 .f32) (init : FVec Ideal S_ .f32) (hi : ∀ i, init i = 0)
    (hh : S128x4x4x128.ReduceWindows ![1, 1, 4, 1] ![1, 1, 1, 1] ![0, 0, 3, 0] ![0, 0, 0, 0] S128x4x4x128) (hu : 0 < S_.numel) (b : Fin 128) (h t : Fin 4) (f : Fin 128) :
    Host.reduceWindowAdd (t := S128x4x4x128) ![1, 1, 4, 1] ![1, 1, 1, 1] ![0, 0, 3, 0] ![0, 0, 0, 0] x init hh hu (ix4 b h t f)
      = ∑ u : Fin 4, if u ≤ t then x (ix4 b h u f) else 0 := by
  change Host.reduceWindow (fun a b : EReal => a + b) ![1, 1, 4, 1] ![1, 1, 1, 1] ![0, 0, 3, 0] ![0, 0, 0, 0] x init hh hu (ix4 b h t f) = _
  unfold Host.reduceWindow
  simp only [hi]
  have g : ∀ n : Fin (Shape.numel ⟨4, ![1, 1, 4, 1]⟩), (if hin : ∀ a : Fin 4, (![0, 0, 3, 0] : Fin 4 → ℕ) a ≤ ((ix4 b h t f : S128x4x4x128.Idx) (a.cast hh.1.symm)).val * (![1, 1, 1, 1] : Fin 4 → ℕ) a + ((Shape.rowMajor ⟨4, ![1, 1, 4, 1]⟩).symm n a).val
        ∧ ((ix4 b h t f : S128x4x4x128.Idx) (a.cast hh.1.symm)).val * (![1, 1, 1, 1] : Fin 4 → ℕ) a + ((Shape.rowMajor ⟨4, ![1, 1, 4, 1]⟩).symm n a).val - (![0, 0, 3, 0] : Fin 4 → ℕ) a < S128x4x4x128.size a
      then x (fun a => ⟨((ix4 b h t f : S128x4x4x128.Idx) (a.cast hh.1.symm)).val * (![1, 1, 1, 1] : Fin 4 → ℕ) a + ((Shape.rowMajor ⟨4, ![1, 1, 4, 1]⟩).symm n a).val - (![0, 0, 3, 0] : Fin 4 → ℕ) a, (hin a).2⟩) else 0)
      = if 3 ≤ t.val + n.val then x (ix4 b h ⟨(t.val + n.val - 3) % 4, by omega⟩ f) else 0 := by
    intro n
    obtain ⟨p0, p1, p2, p3⟩ := pos4 n
    have hn : n.val < 4 := n.isLt
    by_cases c : 3 ≤ t.val + n.val
    · rw [if_pos c, dif_pos]
      · congr 1
        funext a
        apply Fin.ext
        match a with
        | ⟨0, _⟩ => show b.val * 1 + ((Shape.rowMajor ⟨4, ![1, 1, 4, 1]⟩).symm n 0).val - 0 = b.val; omega
        | ⟨1, _⟩ => show h.val * 1 + ((Shape.rowMajor ⟨4, ![1, 1, 4, 1]⟩).symm n 1).val - 0 = h.val; omega
        | ⟨2, _⟩ => show t.val * 1 + ((Shape.rowMajor ⟨4, ![1, 1, 4, 1]⟩).symm n 2).val - 3 = (t.val + n.val - 3) % 4; omega
        | ⟨3, _⟩ => show f.val * 1 + ((Shape.rowMajor ⟨4, ![1, 1, 4, 1]⟩).symm n 3).val - 0 = f.val; omega
      · intro a
        match a with
        | ⟨0, _⟩ => show 0 ≤ b.val * 1 + ((Shape.rowMajor ⟨4, ![1, 1, 4, 1]⟩).symm n 0).val ∧ b.val * 1 + ((Shape.rowMajor ⟨4, ![1, 1, 4, 1]⟩).symm n 0).val - 0 < 128; omega
        | ⟨1, _⟩ => show 0 ≤ h.val * 1 + ((Shape.rowMajor ⟨4, ![1, 1, 4, 1]⟩).symm n 1).val ∧ h.val * 1 + ((Shape.rowMajor ⟨4, ![1, 1, 4, 1]⟩).symm n 1).val - 0 < 4; omega
        | ⟨2, _⟩ => show 3 ≤ t.val * 1 + ((Shape.rowMajor ⟨4, ![1, 1, 4, 1]⟩).symm n 2).val ∧ t.val * 1 + ((Shape.rowMajor ⟨4, ![1, 1, 4, 1]⟩).symm n 2).val - 3 < 4; omega
        | ⟨3, _⟩ => show 0 ≤ f.val * 1 + ((Shape.rowMajor ⟨4, ![1, 1, 4, 1]⟩).symm n 3).val ∧ f.val * 1 + ((Shape.rowMajor ⟨4, ![1, 1, 4, 1]⟩).symm n 3).val - 0 < 128; omega
    · rw [if_neg c, dif_neg]
      intro hin
      have : 3 ≤ t.val * 1 + ((Shape.rowMajor ⟨4, ![1, 1, 4, 1]⟩).symm n 2).val := (hin 2).1
      omega
  refine (congrArg (fun F : EReal → Fin (Shape.numel ⟨4, ![1, 1, 4, 1]⟩) → EReal => (List.finRange (Shape.numel ⟨4, ![1, 1, 4, 1]⟩)).foldl F 0) (funext fun r => funext fun n => congrArg (r + ·) (g n))).trans ?_
  show (List.finRange 4).foldl (fun (r : EReal) (n : Fin 4) => r + if 3 ≤ t.val + n.val then x (ix4 b h ⟨(t.val + n.val - 3) % 4, by omega⟩ f) else 0) 0 = _
  have e : List.finRange 4 = [0, 1, 2, 3] := by decide
  rw [e, Fin.sum_univ_four]
  simp only [List.foldl]
  fin_cases t <;> simp [Fin.le_def]

theorem win2 (x : FVec Ideal S2x512 .f32) (init : FVec Ideal S_ .f32) (hi : ∀ i, init i = 0)
    (hh : S2x512.ReduceWindows ![2, 1] ![1, 1] ![1, 0] ![0, 0] S2x512) (hu : 0 < S_.numel) (j : Fin 512) :
    Host.reduceWindowAdd (t := S2x512) ![2, 1] ![1, 1] ![1, 0] ![0, 0] x init hh hu (ix2 0 j) = x (ix2 0 j) := by
  change Host.reduceWindow (fun a b : EReal => a + b) ![2, 1] ![1, 1] ![1, 0] ![0, 0] x init hh hu (ix2 0 j) = _
  unfold Host.reduceWindow
  simp only [hi]
  have g : ∀ n : Fin (Shape.numel ⟨2, ![2, 1]⟩), (if hin : ∀ a : Fin 2, (![1, 0] : Fin 2 → ℕ) a ≤ ((ix2 0 j : S2x512.Idx) (a.cast hh.1.symm)).val * (![1, 1] : Fin 2 → ℕ) a + ((Shape.rowMajor ⟨2, ![2, 1]⟩).symm n a).val
        ∧ ((ix2 0 j : S2x512.Idx) (a.cast hh.1.symm)).val * (![1, 1] : Fin 2 → ℕ) a + ((Shape.rowMajor ⟨2, ![2, 1]⟩).symm n a).val - (![1, 0] : Fin 2 → ℕ) a < S2x512.size a
      then x (fun a => ⟨((ix2 0 j : S2x512.Idx) (a.cast hh.1.symm)).val * (![1, 1] : Fin 2 → ℕ) a + ((Shape.rowMajor ⟨2, ![2, 1]⟩).symm n a).val - (![1, 0] : Fin 2 → ℕ) a, (hin a).2⟩) else 0)
      = if 1 ≤ n.val then x (ix2 0 j) else 0 := by
    intro n
    obtain ⟨p0, p1⟩ := pos2 n
    have hn : n.val < 2 := n.isLt
    by_cases c : 1 ≤ n.val
    · rw [if_pos c, dif_pos]
      · congr 1
        funext a
        apply Fin.ext
        match a with
        | ⟨0, _⟩ => show 0 * 1 + ((Shape.rowMajor ⟨2, ![2, 1]⟩).symm n 0).val - 1 = 0; omega
        | ⟨1, _⟩ => show j.val * 1 + ((Shape.rowMajor ⟨2, ![2, 1]⟩).symm n 1).val - 0 = j.val; omega
      · intro a
        match a with
        | ⟨0, _⟩ => show 1 ≤ 0 * 1 + ((Shape.rowMajor ⟨2, ![2, 1]⟩).symm n 0).val ∧ 0 * 1 + ((Shape.rowMajor ⟨2, ![2, 1]⟩).symm n 0).val - 1 < 2; omega
        | ⟨1, _⟩ => show 0 ≤ j.val * 1 + ((Shape.rowMajor ⟨2, ![2, 1]⟩).symm n 1).val ∧ j.val * 1 + ((Shape.rowMajor ⟨2, ![2, 1]⟩).symm n 1).val - 0 < 512; omega
    · rw [if_neg c, dif_neg]
      intro hin
      have : 1 ≤ 0 * 1 + ((Shape.rowMajor ⟨2, ![2, 1]⟩).symm n 0).val := (hin 0).1
      omega
  refine (congrArg (fun F : EReal → Fin (Shape.numel ⟨2, ![2, 1]⟩) → EReal => (List.finRange (Shape.numel ⟨2, ![2, 1]⟩)).foldl F 0) (funext fun r => funext fun n => congrArg (r + ·) (g n))).trans ?_
  show (List.finRange 2).foldl (fun (r : EReal) (n : Fin 2) => r + if 1 ≤ n.val then x (ix2 0 j) else 0) 0 = _
  have e : List.finRange 2 = [0, 1] := by decide
  rw [e]
  simp [List.foldl]

end Cert.Rec
end
-- ==== Proof.RecRefH.lean ====
/- The reference's linear recurrence, over the real numbers. -/
module

public import proofs.«01_k».proof.Proof.RecA
public import proofs.«01_k».proof.Proof.RecWin
public import Idealize.ShloMosaic.Lib.Pointwise
public import proofs.«01_k».proof.Proof.Gen.ReferenceIdeal.Read

@[expose] public section

set_option maxRecDepth 16384

noncomputable section

namespace Cert.Rec

open Idealize.ShloMosaic Idealize.ShloMosaic.TcCoe Idealize.SL.Sem
open Cert.ReferenceIdeal Cert.ReferenceIdeal.Read

variable (a0 : FVec Ideal S512x3840 .f32) (a3 : FVec Ideal S1x128x4x128x128 .f32) (a15 : FVec Ideal S2x512 .f32) {w : Wt} {Q : Fin 128 → Sq}
variable (hp : ∀ (b : Fin 128) (t : Fin 4) (k : Fin 512) (n : Fin 3840), k.val = 4 * b.val + t.val → a0 (ix2 k n) = (((Q b).p t n : ℝ) : EReal))
variable (hs : ∀ b h i j, a3 (ix5 0 b h i j) = (Q b).hg h i j)
variable (hl : ∀ a j, a15 (ix2 a j) = ((w.lb a j : ℝ) : EReal))

include hp in
theorem rf_p (b : Fin 128) (t : Fin 4) (n : Fin 3840) : val_main_v0 (F := Ideal) a0 (ix3 b t n) = (((Q b).p t n : ℝ) : EReal) := by
  pointwise [val_main_v0]
  exact hp b t _ n (by dsimp only; omega)

include hl in
theorem rf_max (n : Fin 512) : val_main_v258 (F := Ideal) a15 (ix1 n) = ((max (w.lb 0 n) (w.lb 1 n) : ℝ) : EReal) := by
  pointwise [val_main_v258, val_main_v257, val_main_cst_15, val_main_v256, val_main_cst_14]
  have b : Ideal.ofBits FTy.f32 4286578688#32 = (⊥ : EReal) := by simp [Ideal.ofBits, Ideal.ieee]
  have u : (Finset.univ : Finset (Fin 2)) = {0, 1} := by decide
  rw [b, u, Finset.fold_insert (by decide), Finset.fold_singleton]
  simp only [hl, bot_le, max_eq_right, max_bot_right, max_eq_left, l_max]

include hl in
theorem rf_soft (n : Fin 512) : val_main_v266 (F := Ideal) a15 (ix2 0 n) = ((lbd w n : ℝ) : EReal) := by
  pointwise [val_main_v266, val_main_v265, val_main_v264, val_main_v263, val_main_cst_16, val_main_v262, val_main_v261, val_main_v260, val_main_v259, rf_max a15 hl]
  simp only [rf_max a15 hl, hl, l_max, l_sub, l_exp, l_add, Fin.sum_univ_two]
  rw [l_div _ _ (by positivity)]
  rfl

include hl in
theorem rf_lb (n : Fin 512) : val_main_v269 (F := Ideal) a15 (ix1 n) = ((lbd w n : ℝ) : EReal) := by
  pointwise [val_main_v269, val_main_v268, val_main_v267]
  refine (win2 _ _ (fun i => ?_) _ _ n).trans (rf_soft a15 hl n)
  pointwise [val_main_call1_call0_v0, val_main_call1_call0_cst]
  try simp [Ideal.ofBits, Ideal.ieee]

theorem l_sg' (a : ℝ) : Ideal.div (1 : EReal) (1 + Ideal.exp (-(a : EReal))) = ((sg a : ℝ) : EReal) := by
  rw [← l_sg, zero_sub]

include hp hl in
theorem rf_ff (b : Fin 128) (t : Fin 4) (n : Fin 512) : val_main_v283 (F := Ideal) a0 a15 (ix3 b t n) = ((ff w (Q b) t n : ℝ) : EReal) := by
  pointwise [val_main_v283, val_main_v282, val_main_v281, val_main_v280, val_main_v279, val_main_v278, val_main_v277, val_main_v276, val_main_cst_19, val_main_v275, val_main_v274,
    val_main_cst_18, val_main_v273, val_main_v272, val_main_v271, val_main_v270, val_main_cst_17, val_main_v253, val_main_v2]
  simp only [rf_p a0 hp, rf_lb a15 hl, l_sg']
  rw [l_one, l_sub, l_mul, l_add]
  unfold ff
  congr 5
  apply Fin.ext
  dsimp only
  omega

include hp hl in
theorem rf_hb (b : Fin 128) (h : Fin 4) (t : Fin 4) (f : Fin 128) : val_main_v298 (F := Ideal) a0 a15 (ix4 b h t f) = ((hb w (Q b) t (hc h f) : ℝ) : EReal) := by
  unfold val_main_v298
  refine (win4 _ _ (fun i => ?_) _ _ b h t f).trans ?_
  · pointwise [val_main_call4_call0_v0, val_main_call4_call0_cst]
    try simp [Ideal.ofBits, Ideal.ieee]
  have e : ∀ u : Fin 4, val_main_v293 (F := Ideal) a0 a15 (ix4 b h u f) = ((Real.log (ff w (Q b) u (hc h f)) : ℝ) : EReal) := by
    intro u
    pointwise [val_main_v293, val_main_v292, val_main_v291]
    rw [rf_ff a0 a15 hp hl, l_log _ (ff_pos _ _ _)]
    have : (⟨h.val * 128 + f.val, by omega⟩ : Fin 512) = hc h f := Fin.ext (by unfold hc; dsimp only; omega)
    rw [this]
  simp only [e, l_zero, l_ite, l_sum]
  rfl

include hp hl hs in
theorem rf_hg (b : Fin 128) (h : Fin 4) (f i : Fin 128) : val_main_v332 (F := Ideal) a0 a3 a15 (ix4 b h f i) = hgNew w (Q b) h f i := by
  pointwise [val_main_v332, val_main_v331, val_main_v330, val_main_v329, val_main_v328, val_main_v327, val_main_v326, val_main_v325, val_main_v324, val_main_v323, val_main_v322, val_main_v321, val_main_v299,
    val_main_v295, val_main_v294, val_main_v254, val_main_v2, val_main_v290, val_main_v289, val_main_v288, val_main_v287, val_main_cst_20]
  have e : (⟨h.val * 128 + f.val, by omega⟩ : Fin 512) = hc h f := Fin.ext (by unfold hc; dsimp only; omega)
  simp only [e, rf_hb a0 a15 hp hl, rf_ff a0 a15 hp hl, rf_p a0 hp, hs, l_one, l_sub, l_exp, l_mul, l_sum, l_add]
  refine congrArg (((Real.exp (hb w (Q b) 3 (hc h f)) : ℝ) : EReal) * (Q b).hg h f i + ·) (congrArg (fun r : ℝ => (r : EReal)) (Finset.sum_congr rfl fun u _ => congrArg (_ * ·) (congrArg ((Q b).p u) (Fin.ext ?_))))
  show 1792 + (1024 + (h.val * 128 + i.val)) = 2816 + (128 * h.val + i.val)
  omega

include hp in
theorem rf_shift (x : Fin 8) (s : Fin 16) (n : Fin 1792) : val_main_v354 (F := Ideal) a0 (ix3 x s n)
    = (((Q ⟨16 * x.val + s.val, by omega⟩).p 3 ⟨n.val, by omega⟩ : ℝ) : EReal) := by
  pointwise [val_main_v354, val_main_v14, val_main_v13, val_main_v1]
  have e : (⟨x.val * 16 + s.val, by omega⟩ : Fin 128) = ⟨16 * x.val + s.val, by omega⟩ := Fin.ext (by dsimp only; omega)
  rw [← e]
  exact rf_p a0 hp _ _ _

end Cert.Rec
end
-- ==== Proof.RecClaim.lean ====
/- The value claim of the recurrence: the shift rows and the gated linear recurrence's state. -/
module

public import proofs.«01_k».proof.Defs
public import proofs.«01_k».proof.Proof.RecOut
public import proofs.«01_k».proof.Proof.RecReal
public import proofs.«01_k».proof.Proof.RecRefH
public import proofs.«01_k».proof.Proof.Gen.ReferenceIdeal.Run
public import Idealize.ShloMosaic.Adequacy
public import Idealize.ShloMosaic.Init

@[expose] public section

set_option maxRecDepth 16384

noncomputable section

namespace Cert.Rec

open Idealize.ShloMosaic Idealize.SL.Sem

/-- The reference's shift rows are the last token's rows of each sequence. -/
theorem ref_shift (a0 : FVec Ideal Cert.ReferenceIdeal.S512x3840 .f32) {Q : Fin 128 → Sq}
    (hp : ∀ (b : Fin 128) (t : Fin 4) (k : Fin 512) (n : Fin 3840), k.val = 4 * b.val + t.val → a0 (ix2 k n) = (((Q b).p t n : ℝ) : EReal)) :
    Cert.ReferenceIdeal.Read.val_main_v354 (F := Ideal) a0 = shiftAt Q := by
  funext y
  obtain ⟨x, s, n, rfl⟩ : ∃ x s n, y = ix3 x s n := ⟨y 0, y 1, y 2, eq_ix3 y⟩
  exact rf_shift a0 hp x s n

/-- The reference's new state is the model's. -/
theorem ref_hg (a0 : FVec Ideal Cert.ReferenceIdeal.S512x3840 .f32) (a3 : FVec Ideal Cert.ReferenceIdeal.S1x128x4x128x128 .f32) (a15 : FVec Ideal Cert.ReferenceIdeal.S2x512 .f32) {w : Wt} {Q : Fin 128 → Sq}
    (hp : ∀ (b : Fin 128) (t : Fin 4) (k : Fin 512) (n : Fin 3840), k.val = 4 * b.val + t.val → a0 (ix2 k n) = (((Q b).p t n : ℝ) : EReal))
    (hs : ∀ b h i j, a3 (ix5 0 b h i j) = (Q b).hg h i j) (hl : ∀ a j, a15 (ix2 a j) = ((w.lb a j : ℝ) : EReal)) :
    Cert.ReferenceIdeal.Read.val_main_v332 (F := Ideal) a0 a3 a15 = hgAt w Q := by
  funext y
  obtain ⟨b, h, f, i, rfl⟩ : ∃ b h f i, y = ix4 b h f i := ⟨y 0, y 1, y 2, y 3, eq_ix4 y⟩
  exact rf_hg a0 a3 a15 hp hs hl b h f i

/-- From agreeing arguments with finite rows and bounds, the kernel and the reference give the same shift rows and the same state. -/
theorem claim [h1 : Cert.KernelIdeal.Facts] [h2 : Cert.ReferenceIdeal.Facts] [h3 : Cert.Pre_finite.Facts] :
    Cert.algebraic_KernelIdeal_ReferenceIdeal_pre_finite := by
  pair_intro
  · run_from Cert.KernelIdeal.Value.run_blocks m g
  · run_from Cert.ReferenceIdeal.Value.run m' g'
    · have R := pre_real _ _ _ _ _ _ _ _ _ _ _ _ _ _ _ _ _ (hpre c)
      rw [Cert.ReferenceIdeal.Read.val_main_v354_eq,
        show StableHlo.launchContents m' c (Proc.devRef .tc Cert.ReferenceIdeal.main_arg0) = _ from (hagree c).1, ref_shift _ R.p, final17 m c R]
    · have R := pre_real _ _ _ _ _ _ _ _ _ _ _ _ _ _ _ _ _ (hpre c)
      rw [Cert.ReferenceIdeal.Read.val_main_v332_eq,
        show StableHlo.launchContents m' c (Proc.devRef .tc Cert.ReferenceIdeal.main_arg0) = _ from (hagree c).1,
        show StableHlo.launchContents m' c (Proc.devRef .tc Cert.ReferenceIdeal.main_arg3) = _ from (hagree c).2.2.2.1,
        show StableHlo.launchContents m' c (Proc.devRef .tc Cert.ReferenceIdeal.main_arg15) = _ from (hagree c).2.2.2.2.2.2.2.2.2.2.2.2.2.2.2.1, ref_hg _ _ _ R.p R.hg R.lb, final19 m c R]

end Cert.Rec
end
-- ==== Proof.AdaValue.lean ====
/- The modulation rows, one row at a time: both programs compute them. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise

@[expose] public section

set_option maxRecDepth 16384

noncomputable section

namespace Cert.Ada

open Idealize.ShloMosaic Idealize.ShloMosaic.TcCoe Idealize.SL.Sem
open Idealize.ShloMosaic.Pipeline (Dat)

/-- The gated linear unit of a number. -/
def silu (x : EReal) : EReal := x * Ideal.div 1 (1 + Ideal.exp (-x))

/-- One row of the modulation. -/
def row {n : ℕ} (c : Fin 1024 → EReal) (w : Fin 1024 → Fin n → EReal) (b : Fin n → EReal) (j : Fin n) : EReal := (∑ k, silu (c k) * w k j) + b j

/-- Row `r` of the two batches, one after the other. -/
def cat (P : Fin 8 → Fin 1024 → EReal) (S : Fin 128 → Fin 1024 → EReal) (r : Fin 136) (k : Fin 1024) : EReal :=
  if h : r.val < 8 then P ⟨r.val, h⟩ k else S ⟨r.val - 8, by omega⟩ k

section Kern
open Cert.Kernel4Ideal Cert.Kernel4Ideal.Gen

theorem body_at (x0 : Vec Ideal S136x1024 .f32) (x1 : Vec Ideal S1024x1024 .f32) (x2 : Vec Ideal S1x1024 .f32) (r : Fin 136) (n : Fin 1024) :
    out0_3 x0 x1 x2 (ix2 r n) = row (fun k => x0 (ix2 r k)) (fun k j => x1 (ix2 k j)) (fun j => x2 (ix2 0 j)) n := by
  unfold out0_3
  frame_out
  pointwise [k0_pay1]
  simp only [zero_sub]
  rfl

/-- The modulation at an index of the result array. -/
def resAt (P : FVec Ideal S8x1024 .f32) (S : FVec Ideal S128x1024 .f32) (W : FVec Ideal S1x1024x6144 .f32) (B : FVec Ideal S1x6144 .f32) (i : S136x6144.Idx) : EReal :=
  row (cat (fun b k => P (ix2 b k)) (fun b k => S (ix2 b k)) (i 0)) (fun k j => W (ix3 0 k j)) (fun j => B (ix2 0 j)) (i 1)

variable (m : (ℓ : Loc nD τ sig) → Buf (Elt Ideal) ℓ)

theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

theorem blk0 (c : Dev nD) (t : Fin cfg0.N) (r : Fin 136) (k : Fin 1024) : iblk m c 0 t (ix2 r k)
    = cat (fun b k => m ((c : Thread nD τ).loc main_arg0) (ix2 b k)) (fun b k => m ((c : Thread nD τ).loc main_arg1) (ix2 b k)) r k := by
  have e : (win0_0.blk t).view.emb (ix2 r k) = ix2 r k := by blk_ext [idx t]
  unfold cat
  blk_simp [iblk]
  entry_read
  rw [e]
  pointwise []

theorem blk1 (c : Dev nD) (t : Fin cfg0.N) (k n : Fin 1024) (j : Fin 6144) (h : j.val = t.val * 1024 + n.val) :
    iblk m c 1 t (ix2 k n) = m ((c : Thread nD τ).loc main_arg2) (ix3 0 k j) := by
  blk_simp [iblk, idx t]; entry_read; pointwise []; blk_ext [idx t]

theorem blk2 (c : Dev nD) (t : Fin cfg0.N) (n : Fin 1024) (j : Fin 6144) (h : j.val = t.val * 1024 + n.val) :
    iblk m c 2 t (ix2 0 n) = m ((c : Thread nD τ).loc main_arg3) (ix2 0 j) := by
  blk_simp [iblk, idx t]; entry_read; pointwise []; blk_ext [idx t]

theorem emb0 (t : Fin cfg0.N) (r : Fin 136) (n : Fin 1024) : (((cfg0.win 3).blk t).view.emb (ix2 r n) 0).val = r.val := by
  blk_simp [idx t]

theorem emb1 (t : Fin cfg0.N) (r : Fin 136) (n : Fin 1024) : (((cfg0.win 3).blk t).view.emb (ix2 r n) 1).val = t.val * 1024 + n.val := by
  blk_simp [idx t]

/-- The kernel's result array. -/
theorem final (c : Dev nD) : (dats m 0 c).arrAt 3 cfg0.N
    = resAt (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  obtain ⟨r, n, rfl⟩ : ∃ r n, y = ix2 r n := ⟨y 0, y 1, eq_ix2 y⟩
  have e0 : ((cfg0.win 3).blk t).view.emb (ix2 r n) 0 = r := Fin.ext (emb0 t r n)
  have e1 := emb1 t r n
  blk_simp
  rw [after0_3]
  rw [body_at]
  unfold resAt row
  rw [e0]
  simp only [blk0 m c t r, blk1 m c t _ n _ e1, blk2 m c t n _ e1]

end Kern

section Ref
open Cert.Reference4Ideal Cert.Reference4Ideal.Read

variable (P : FVec Ideal S8x1024 .f32) (S : FVec Ideal S128x1024 .f32) (W : FVec Ideal S1x1024x6144 .f32) (B : FVec Ideal S1x6144 .f32)

theorem ref_p (r : Fin 8) (n : Fin 6144) : val_main_v6 (F := Ideal) P W B (ix2 r n) = row (fun k => P (ix2 r k)) (fun k j => W (ix3 0 k j)) (fun j => B (ix2 0 j)) n := by
  pointwise [val_main_v6, val_main_v5, val_main_v4, val_main_v3, val_main_v2, val_main_v1, val_main_v0, val_main_call0_v5, val_main_call0_v4, val_main_call0_cst_0,
    val_main_call0_v3, val_main_call0_v2, val_main_call0_cst, val_main_call0_v1, val_main_call0_v0]
  rfl

theorem ref_s (r : Fin 128) (n : Fin 6144) : val_main_v13 (F := Ideal) S W B (ix2 r n) = row (fun k => S (ix2 r k)) (fun k j => W (ix3 0 k j)) (fun j => B (ix2 0 j)) n := by
  pointwise [val_main_v13, val_main_v12, val_main_v11, val_main_v10, val_main_v9, val_main_v8, val_main_v7, val_main_call1_v5, val_main_call1_v4, val_main_call1_cst_0,
    val_main_call1_v3, val_main_call1_v2, val_main_call1_cst, val_main_call1_v1, val_main_call1_v0]
  rfl

theorem ref_final : val_main_v14 (F := Ideal) P S W B = resAt P S W B := by
  funext i
  obtain ⟨r, n, rfl⟩ : ∃ r n, i = ix2 r n := ⟨i 0, i 1, eq_ix2 i⟩
  have e : resAt P S W B (ix2 r n) = if h : r.val < 8 then val_main_v6 (F := Ideal) P W B (ix2 ⟨r.val, h⟩ n) else val_main_v13 (F := Ideal) S W B (ix2 ⟨r.val - 8, by omega⟩ n) := by
    split
    · next h =>
      rw [ref_p]
      show row (cat _ _ r) _ _ n = _
      unfold cat; simp only [dif_pos h]
    · next h =>
      rw [ref_s]
      show row (cat _ _ r) _ _ n = _
      unfold cat; simp only [dif_neg h]
  rw [e]
  unfold val_main_v14
  generalize val_main_v6 (F := Ideal) P W B = x
  generalize val_main_v13 (F := Ideal) S W B = y
  pointwise []

end Ref

end Cert.Ada
end
-- ==== Proof.AdaClaim.lean ====
/- The value claim of the modulation and the frame of its reference. -/
module

public import proofs.«01_k».proof.Defs
public import proofs.«01_k».proof.Proof.AdaValue
public import proofs.«01_k».proof.Proof.Gen.Reference4Ideal.Run
public import Idealize.ShloMosaic.Adequacy
public import Idealize.ShloMosaic.Init
public import Idealize.ShloMosaic.Lib.Quiescent

@[expose] public section

set_option maxRecDepth 16384

noncomputable section

namespace Cert.Ada

open Idealize.ShloMosaic Idealize.SL.Sem

theorem claim [h1 : Cert.Kernel4Ideal.Facts] [h2 : Cert.Reference4Ideal.Facts] : Cert.algebraic_Kernel4Ideal_Reference4Ideal := by
  pair_intro
  · run_from Cert.Kernel4Ideal.Value.run_blocks m g
  · run_from Cert.Reference4Ideal.Value.run m' g'
    rw [Cert.Reference4Ideal.Read.val_main_v14_eq, ref_final, final]
    rw [(hagree c).2.2.2]

theorem ref_frame [h2 : Cert.Reference4Ideal.Facts] : Cert.quiescent_Reference4Ideal := by
  intro m g _
  exact (θ_run _ _ _).mono (fun r h => ⟨fun c => (h c).2, sem_eq_zero_of_no_sems (by decide) r.2⟩) (Cert.Reference4Ideal.Value.run m g)

end Cert.Ada
end
-- ==== Proof.MlpValue.lean ====
/- What the output projection's kernel leaves in its result array: every row is `Mlp.out` of the argument rows. -/
module

public import proofs.«01_k».proof.Proof.MlpBody

@[expose] public section

set_option maxRecDepth 16384

noncomputable section

namespace Cert.Mlp

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- Row `t` of batch entry `b` of the result, column `n`, from the argument arrays. -/
def res (X : FVec Ideal S8x2048x1024 .f32) (Y : FVec Ideal S8x2048x1024 .bf16) (M : FVec Ideal S8x6144 .f32) (N2 : FVec Ideal S1x1024 .f32)
    (NF : FVec Ideal S1024 .f32) (WO : FVec Ideal S1x1024x1024 .f32) (WU : FVec Ideal S1x1024x4096 .f32) (WD : FVec Ideal S1x4096x1024 .f32)
    (b : Fin 8) (t : Fin 2048) (n : Fin 1024) : EReal :=
  out (fun k => X (ix3 b t k)) (fun k => Y (ix3 b t k)) (fun k => M (ix2 b ⟨2048 + k.val, by omega⟩)) (fun k => M (ix2 b ⟨3072 + k.val, by omega⟩))
    (fun k => M (ix2 b ⟨4096 + k.val, by omega⟩)) (fun k => M (ix2 b ⟨5120 + k.val, by omega⟩)) (fun k => N2 (ix2 0 k)) (fun k => NF (ix1 k))
    (fun k j => WO (ix3 0 k j)) (fun k j => WU (ix3 0 k j)) (fun k j => WD (ix3 0 k j)) n

/-- The same at an index of the flat result array. -/
def resAt (X : FVec Ideal S8x2048x1024 .f32) (Y : FVec Ideal S8x2048x1024 .bf16) (M : FVec Ideal S8x6144 .f32) (N2 : FVec Ideal S1x1024 .f32)
    (NF : FVec Ideal S1024 .f32) (WO : FVec Ideal S1x1024x1024 .f32) (WU : FVec Ideal S1x1024x4096 .f32) (WD : FVec Ideal S1x4096x1024 .f32)
    (i : S16384x1024.Idx) : EReal :=
  res X Y M N2 NF WO WU WD ⟨(i 0).val / 2048, by have h : (i 0).val < 16384 := (i 0).isLt; omega⟩
    ⟨(i 0).val % 2048, by omega⟩ (i 1)

theorem idx : ∀ t : Fin cfg0.N, win0_0.index t = ![t.val, 0] ∧ win0_1.index t = ![t.val, 0] ∧ win0_2.index t = ![t.val / 4, 0, 2]
    ∧ win0_3.index t = ![t.val / 4, 0, 3] ∧ win0_4.index t = ![t.val / 4, 0, 4] ∧ win0_5.index t = ![t.val / 4, 0, 5]
    ∧ win0_6.index t = ![0, 0] ∧ win0_7.index t = ![0, 0] ∧ win0_8.index t = ![0, 0] ∧ win0_9.index t = ![0, 0] ∧ win0_10.index t = ![0, 0]
    ∧ win0_11.index t = ![t.val, 0] :=
  (by decide +kernel : ∀ t : Fin grid0.N, _)

/-! The rows of each window's block, as rows of the arguments. -/

theorem blk0 (c : Dev nD) (t : Fin cfg0.N) (r : Fin 512) (k : Fin 1024) (b : Fin 8) (u : Fin 2048) (h : b.val * 2048 + u.val = t.val * 512 + r.val) :
    iblk m c 0 t (ix2 r k) = m ((c : Thread nD τ).loc main_arg0) (ix3 b u k) := by
  blk_simp [iblk, idx t]; entry_read; pointwise []; blk_ext [idx t]

theorem blk1 (c : Dev nD) (t : Fin cfg0.N) (r : Fin 512) (k : Fin 1024) (b : Fin 8) (u : Fin 2048) (h : b.val * 2048 + u.val = t.val * 512 + r.val) :
    iblk m c 1 t (ix2 r k) = m ((c : Thread nD τ).loc main_arg1) (ix3 b u k) := by
  blk_simp [iblk, idx t]; entry_read; pointwise []; blk_ext [idx t]

theorem blk2 (c : Dev nD) (t : Fin cfg0.N) (k : Fin 1024) (b : Fin 8) (h : b.val = t.val / 4) :
    iblk m c 2 t (ix3 0 0 k) = m ((c : Thread nD τ).loc main_arg2) (ix2 b ⟨2048 + k.val, by omega⟩) := by
  blk_simp [iblk, idx t]; entry_read; pointwise []; blk_ext [idx t]

theorem blk3 (c : Dev nD) (t : Fin cfg0.N) (k : Fin 1024) (b : Fin 8) (h : b.val = t.val / 4) :
    iblk m c 3 t (ix3 0 0 k) = m ((c : Thread nD τ).loc main_arg2) (ix2 b ⟨3072 + k.val, by omega⟩) := by
  blk_simp [iblk, idx t]; entry_read; pointwise []; blk_ext [idx t]

theorem blk4 (c : Dev nD) (t : Fin cfg0.N) (k : Fin 1024) (b : Fin 8) (h : b.val = t.val / 4) :
    iblk m c 4 t (ix3 0 0 k) = m ((c : Thread nD τ).loc main_arg2) (ix2 b ⟨4096 + k.val, by omega⟩) := by
  blk_simp [iblk, idx t]; entry_read; pointwise []; blk_ext [idx t]

theorem blk5 (c : Dev nD) (t : Fin cfg0.N) (k : Fin 1024) (b : Fin 8) (h : b.val = t.val / 4) :
    iblk m c 5 t (ix3 0 0 k) = m ((c : Thread nD τ).loc main_arg2) (ix2 b ⟨5120 + k.val, by omega⟩) := by
  blk_simp [iblk, idx t]; entry_read; pointwise []; blk_ext [idx t]

theorem blk6 (c : Dev nD) (t : Fin cfg0.N) (k : Fin 1024) :
    iblk m c 6 t (ix2 0 k) = m ((c : Thread nD τ).loc main_arg3) (ix2 0 k) := by
  blk_point [iblk, V, idx t]

theorem blk7 (c : Dev nD) (t : Fin cfg0.N) (k : Fin 1024) :
    iblk m c 7 t (ix2 0 k) = m ((c : Thread nD τ).loc main_arg4) (ix1 k) := by
  blk_point [iblk, V, idx t]

theorem blk8 (c : Dev nD) (t : Fin cfg0.N) (k : Fin 1024) (n : Fin 1024) :
    iblk m c 8 t (ix2 k n) = m ((c : Thread nD τ).loc main_arg5) (ix3 0 k n) := by
  blk_point [iblk, V, idx t]

theorem blk9 (c : Dev nD) (t : Fin cfg0.N) (k : Fin 1024) (n : Fin 4096) :
    iblk m c 9 t (ix2 k n) = m ((c : Thread nD τ).loc main_arg6) (ix3 0 k n) := by
  blk_point [iblk, V, idx t]

theorem blk10 (c : Dev nD) (t : Fin cfg0.N) (k : Fin 4096) (n : Fin 1024) :
    iblk m c 10 t (ix2 k n) = m ((c : Thread nD τ).loc main_arg7) (ix3 0 k n) := by
  blk_point [iblk, V, idx t]

theorem emb0 (t : Fin cfg0.N) (r : Fin 512) (n : Fin 1024) : (((cfg0.win 11).blk t).view.emb (ix2 r n) 0).val = t.val * 512 + r.val := by
  blk_simp [idx t]

theorem emb1 (t : Fin cfg0.N) (r : Fin 512) (n : Fin 1024) : (((cfg0.win 11).blk t).view.emb (ix2 r n) 1).val = n.val := by
  blk_simp [idx t]

/-- The kernel's result array. -/
theorem final (c : Dev nD) : (dats m 0 c).arrAt 11 cfg0.N
    = resAt (m ((c : Thread nD τ).loc main_arg0)) (m ((c : Thread nD τ).loc main_arg1)) (m ((c : Thread nD τ).loc main_arg2)) (m ((c : Thread nD τ).loc main_arg3))
       (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  obtain ⟨r, n, rfl⟩ : ∃ r n, y = ix2 r n := ⟨y 0, y 1, eq_ix2 y⟩
  have e0 := emb0 t r n
  have e1 : ((cfg0.win 11).blk t).view.emb (ix2 r n) 1 = n := Fin.ext (emb1 t r n)
  blk_simp
  rw [after0_11]
  rw [body_at]
  unfold resAt res
  have ht : t.val < 32 := t.isLt
  have hd : (((cfg0.win 11).blk t).view.emb (ix2 r n) 0).val / 2048 = t.val / 4 := by rw [e0]; omega
  have hr : (((cfg0.win 11).blk t).view.emb (ix2 r n) 0).val / 2048 * 2048 + (((cfg0.win 11).blk t).view.emb (ix2 r n) 0).val % 2048 = t.val * 512 + r.val := by
    rw [← e0]; omega
  rw [funext fun k => blk0 m c t r k ⟨_, _⟩ ⟨_, _⟩ hr, funext fun k => blk1 m c t r k ⟨_, _⟩ ⟨_, _⟩ hr, funext fun k => blk2 m c t k ⟨_, _⟩ hd,
    funext fun k => blk3 m c t k ⟨_, _⟩ hd, funext fun k => blk4 m c t k ⟨_, _⟩ hd, funext fun k => blk5 m c t k ⟨_, _⟩ hd,
    funext fun k => blk6 m c t k, funext fun k => blk7 m c t k, funext fun k => funext fun n => blk8 m c t k n,
    funext fun k => funext fun n => blk9 m c t k n, funext fun k => funext fun n => blk10 m c t k n]
  exact congrArg _ e1.symm

end Cert.Mlp
end
-- ==== Proof.MlpRef.lean ====
/- The reference of the output projection, read one row at a time. -/
module

public import proofs.«01_k».proof.Proof.MlpValue
public import proofs.«01_k».proof.Proof.Gen.Reference2Ideal.Read

@[expose] public section

set_option maxRecDepth 16384

noncomputable section

namespace Cert.Mlp

open Idealize.ShloMosaic Idealize.ShloMosaic.TcCoe Idealize.SL.Sem
open Cert.Reference2Ideal Cert.Reference2Ideal.Read

variable (X : FVec Ideal S8x2048x1024 .f32) (Y : FVec Ideal S8x2048x1024 .bf16) (M : FVec Ideal S8x6144 .f32) (N2 : FVec Ideal S1x1024 .f32)
    (NF : FVec Ideal S1024 .f32) (WO : FVec Ideal S1x1024x1024 .f32) (WU : FVec Ideal S1x1024x4096 .f32) (WD : FVec Ideal S1x4096x1024 .f32)
    (b : Fin 8) (t : Fin 2048)

theorem ref_x1 (n : Fin 1024) : val_main_v12 (F := Ideal) X Y M WO (ix3 b t n)
    = x1 (fun k => X (ix3 b t k)) (fun k => Y (ix3 b t k)) (fun k => M (ix2 b ⟨2048 + k.val, by omega⟩)) (fun k j => WO (ix3 0 k j)) n := by
  pointwise [val_main_v12, val_main_v11, val_main_v10, val_main_v9, val_main_v8, val_main_v7, val_main_v6, val_main_v2]
  unfold x1
  blk_point []

theorem ref_hid (n : Fin 1024) : val_main_v34 (F := Ideal) X Y M N2 WO (ix3 b t n)
    = hid (fun k => val_main_v12 (F := Ideal) X Y M WO (ix3 b t k)) (fun k => N2 (ix2 0 k)) (fun k => M (ix2 b ⟨4096 + k.val, by omega⟩)) (fun k => M (ix2 b ⟨3072 + k.val, by omega⟩)) n := by
  unfold val_main_v34 val_main_v31 val_main_v26 val_main_v23 val_main_v22 val_main_v21 val_main_v20 val_main_v18 val_main_v16 val_main_v15 val_main_v14
  generalize val_main_v12 (F := Ideal) X Y M WO = x
  pointwise [val_main_v33, val_main_v32, val_main_v3, val_main_v30, val_main_v29, val_main_v28, val_main_cst_2, val_main_v27, val_main_v4, val_main_v25, val_main_v24, val_main_v13, val_main_v19, val_main_cst_1, val_main_v17, val_main_cst_0, val_main_cst]
  unfold hid rms
  blk_point []

theorem ref_ff (n : Fin 1024) : val_main_v41 (F := Ideal) X Y M N2 WO WU WD (ix3 b t n)
    = ff (fun k => val_main_v34 (F := Ideal) X Y M N2 WO (ix3 b t k)) (fun k j => WU (ix3 0 k j)) (fun k j => WD (ix3 0 k j)) n := by
  unfold val_main_v41 val_main_v39 val_main_v38 val_main_v37
  generalize val_main_v34 (F := Ideal) X Y M N2 WO = x
  pointwise [val_main_v40, val_main_call0_v0, val_main_call0_cst, val_main_v36]
  unfold ff
  blk_point []

theorem ref_x2 (n : Fin 1024) : val_main_v44 (F := Ideal) X Y M N2 WO WU WD (ix3 b t n)
    = val_main_v12 (F := Ideal) X Y M WO (ix3 b t n) + M (ix2 b ⟨5120 + n.val, by omega⟩) * val_main_v41 (F := Ideal) X Y M N2 WO WU WD (ix3 b t n) := by
  unfold val_main_v44 val_main_v43
  generalize val_main_v12 (F := Ideal) X Y M WO = x
  generalize val_main_v41 (F := Ideal) X Y M N2 WO WU WD = y
  pointwise [val_main_v42, val_main_v35, val_main_v5]

theorem ref_out (n : Fin 1024) : val_main_v57 (F := Ideal) X Y M N2 NF WO WU WD (ix3 b t n)
    = rms (fun k => val_main_v44 (F := Ideal) X Y M N2 WO WU WD (ix3 b t k)) (fun k => NF (ix1 k)) n := by
  unfold val_main_v57 val_main_v54 val_main_v53 val_main_v52 val_main_v51 val_main_v49 val_main_v47 val_main_v46 val_main_v45
  generalize val_main_v44 (F := Ideal) X Y M N2 WO WU WD = x
  pointwise [val_main_v56, val_main_v55, val_main_v50, val_main_cst_5, val_main_v48, val_main_cst_4, val_main_cst_3]
  unfold rms
  blk_point []

/-- The reference's result is `res` of the arguments, row by row. -/
theorem ref_res (n : Fin 1024) : val_main_v57 (F := Ideal) X Y M N2 NF WO WU WD (ix3 b t n) = res X Y M N2 NF WO WU WD b t n := by
  rw [ref_out]
  unfold res out
  simp only [ref_x2, ref_ff, ref_hid, ref_x1]

theorem ref_final : val_main_v58 (F := Ideal) X Y M N2 NF WO WU WD = resAt X Y M N2 NF WO WU WD := by
  funext i
  obtain ⟨r, n, rfl⟩ : ∃ r n, i = ix2 r n := ⟨i 0, i 1, eq_ix2 i⟩
  unfold val_main_v58 resAt
  have h := ref_res X Y M N2 NF WO WU WD ⟨r.val / 2048, by omega⟩ ⟨r.val % 2048, by omega⟩ n
  refine Eq.trans ?_ h
  generalize val_main_v57 (F := Ideal) X Y M N2 NF WO WU WD = x
  pointwise []

end Cert.Mlp
end
-- ==== Proof.MlpClaim.lean ====
/- The value claim of the output projection and the frame of its reference. -/
module

public import proofs.«01_k».proof.Defs
public import proofs.«01_k».proof.Proof.MlpRef
public import proofs.«01_k».proof.Proof.Gen.Reference2Ideal.Run
public import Idealize.ShloMosaic.Adequacy
public import Idealize.ShloMosaic.Init
public import Idealize.ShloMosaic.Lib.Quiescent

@[expose] public section

set_option maxRecDepth 16384

noncomputable section

namespace Cert.Mlp

open Idealize.ShloMosaic Idealize.SL.Sem

theorem claim [h1 : Cert.Kernel2Ideal.Facts] [h2 : Cert.Reference2Ideal.Facts] : Cert.algebraic_Kernel2Ideal_Reference2Ideal := by
  pair_intro
  · run_from Cert.Kernel2Ideal.Value.run_blocks m g
  · run_from Cert.Reference2Ideal.Value.run m' g'
    rw [Cert.Reference2Ideal.Read.val_main_v58_eq, ref_final, final]
    obtain ⟨a0, a1, a2, a3, a4, a5, a6, a7⟩ := hagree c
    rw [a0, a1, a2, a3, a4, a5, a6, a7]

theorem ref_frame [h2 : Cert.Reference2Ideal.Facts] : Cert.quiescent_Reference2Ideal := by
  intro m g _
  exact (θ_run _ _ _).mono (fun r h => ⟨fun c => (h c).2, sem_eq_zero_of_no_sems (by decide) r.2⟩) (Cert.Reference2Ideal.Value.run m g)

end Cert.Mlp
end
-- ==== Proof.lean ====
/- The certificate: every claim of `Cert.Claim`, from the generated frames and the modules of this directory. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite
public import proofs.«01_k».proof.Proof.Gen.Pre_finite_mod
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.RecFrame
public import proofs.«01_k».proof.Proof.RecClaim
public import proofs.«01_k».proof.Proof.InClaim
public import proofs.«01_k».proof.Proof.AdaClaim
public import proofs.«01_k».proof.Proof.MlpClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_finite.Gen.facts, Cert.Pre_finite_mod.Gen.facts,
    fun m ρ _ => Cert.Kernel.Gen.frame m ρ, fun m ρ _ => Cert.KernelIdeal.Gen.frame m ρ,
    fun m ρ _ => Cert.KernelIdeal.Gen.frame m ρ, Cert.Rec.ref_frame, fun m ρ _ => Cert.Rec.ref_frame m ρ trivial,
    fun m ρ _ => Cert.Kernel2.Gen.frame m ρ, fun m ρ _ => Cert.Kernel2Ideal.Gen.frame m ρ, Cert.Mlp.ref_frame,
    fun m ρ _ => Cert.Kernel3.Gen.frame m ρ, fun m ρ _ => Cert.Kernel3Ideal.Gen.frame m ρ,
    fun m ρ _ => Cert.Kernel3Ideal.Gen.frame m ρ, Cert.Inp.ref_frame, fun m ρ _ => Cert.Inp.ref_frame m ρ trivial,
    fun m ρ _ => Cert.Kernel4.Gen.frame m ρ, fun m ρ _ => Cert.Kernel4Ideal.Gen.frame m ρ, Cert.Ada.ref_frame,
    trivial, Cert.Rec.claim, trivial, Cert.Mlp.claim, trivial, Cert.Inp.claim, trivial, Cert.Ada.claim⟩

end Cert.Proof

end
